-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelKv (m : (ℓ : Loc Cert.KernelKv.nD Cert.KernelKv.τ Cert.KernelKv.sig) → Buf (Elt Bits) ℓ) : Prop :=
  True

def Pre_KernelKvIdeal (m : (ℓ : Loc Cert.KernelKvIdeal.nD Cert.KernelKvIdeal.τ Cert.KernelKvIdeal.sig) → Buf (Elt Ideal) ℓ) : Prop :=
  True

def Pre_ReferenceKvIdeal (m : (ℓ : Loc Cert.ReferenceKvIdeal.nD Cert.ReferenceKvIdeal.τ Cert.ReferenceKvIdeal.sig) → Buf (Elt Ideal) ℓ) : Prop :=
  True

def Pre_KernelLast (m : (ℓ : Loc Cert.KernelLast.nD Cert.KernelLast.τ Cert.KernelLast.sig) → Buf (Elt Bits) ℓ) : Prop :=
  True

def Pre_KernelLastIdeal (m : (ℓ : Loc Cert.KernelLastIdeal.nD Cert.KernelLastIdeal.τ Cert.KernelLastIdeal.sig) → Buf (Elt Ideal) ℓ) : Prop :=
  True

def Pre_ReferenceLastIdeal (m : (ℓ : Loc Cert.ReferenceLastIdeal.nD Cert.ReferenceLastIdeal.τ Cert.ReferenceLastIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3)
      ∧ r.2.mem ((c.tc : Thread Cert.KernelDown.nD Cert.KernelDown.τ).loc Cert.KernelDown.main_arg4) = m ((c.tc : Thread Cert.KernelDown.nD Cert.KernelDown.τ).loc Cert.KernelDown.main_arg4)
      ∧ r.2.mem ((c.tc : Thread Cert.KernelDown.nD Cert.KernelDown.τ).loc Cert.KernelDown.main_arg5) = m ((c.tc : Thread Cert.KernelDown.nD Cert.KernelDown.τ).loc Cert.KernelDown.main_arg5))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
      ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4)
      ∧ r.2.mem ((c.tc : Thread Cert.KernelDownIdeal.nD Cert.KernelDownIdeal.τ).loc Cert.KernelDownIdeal.main_arg5) = m ((c.tc : Thread Cert.KernelDownIdeal.nD Cert.KernelDownIdeal.τ).loc Cert.KernelDownIdeal.main_arg5))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3)
      ∧ r.2.mem ((c.tc : Thread Cert.ReferenceDownIdeal.nD Cert.ReferenceDownIdeal.τ).loc Cert.ReferenceDownIdeal.main_arg4) = m ((c.tc : Thread Cert.ReferenceDownIdeal.nD Cert.ReferenceDownIdeal.τ).loc Cert.ReferenceDownIdeal.main_arg4)
      ∧ r.2.mem ((c.tc : Thread Cert.ReferenceDownIdeal.nD Cert.ReferenceDownIdeal.τ).loc Cert.ReferenceDownIdeal.main_arg5) = m ((c.tc : Thread Cert.ReferenceDownIdeal.nD Cert.ReferenceDownIdeal.τ).loc Cert.ReferenceDownIdeal.main_arg5))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5)
      ∧ r.2.mem ((c.tc : Thread Cert.KernelMix.nD Cert.KernelMix.τ).loc Cert.KernelMix.main_arg6) = m ((c.tc : Thread Cert.KernelMix.nD Cert.KernelMix.τ).loc Cert.KernelMix.main_arg6)
      ∧ r.2.mem ((c.tc : Thread Cert.KernelMix.nD Cert.KernelMix.τ).loc Cert.KernelMix.main_arg7) = m ((c.tc : Thread Cert.KernelMix.nD Cert.KernelMix.τ).loc Cert.KernelMix.main_arg7))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
      ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
      ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5)
      ∧ r.2.mem ((c.tc : Thread Cert.ReferenceMixIdeal.nD Cert.ReferenceMixIdeal.τ).loc Cert.ReferenceMixIdeal.main_arg6) = m ((c.tc : Thread Cert.ReferenceMixIdeal.nD Cert.ReferenceMixIdeal.τ).loc Cert.ReferenceMixIdeal.main_arg6)
      ∧ r.2.mem ((c.tc : Thread Cert.ReferenceMixIdeal.nD Cert.ReferenceMixIdeal.τ).loc Cert.ReferenceMixIdeal.main_arg7) = m ((c.tc : Thread Cert.ReferenceMixIdeal.nD Cert.ReferenceMixIdeal.τ).loc Cert.ReferenceMixIdeal.main_arg7))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5))
      ∧ r.2.sem = fun _ => 0)

def quiescent_KernelKv [hKernelKv : Cert.KernelKv.Facts] : Prop :=
  ∀ (m : (ℓ : Loc Cert.KernelKv.nD Cert.KernelKv.τ Cert.KernelKv.sig) → Buf (Elt Bits) ℓ) (g : Dev Cert.KernelKv.nD → PrngReg), Pre_KernelKv m →
    θ_run (Cert.KernelKv.defs (F := Bits)) (onTc (τ := Cert.KernelKv.τ) (Cert.KernelKv.main (F := Bits))) ⟨m, fun _ => 0, g⟩ (fun r => (∀ c : Dev Cert.KernelKv.nD,
      r.2.mem ((c.tc : Thread Cert.KernelKv.nD Cert.KernelKv.τ).loc Cert.KernelKv.main_arg0) = m ((c.tc : Thread Cert.KernelKv.nD Cert.KernelKv.τ).loc Cert.KernelKv.main_arg0)
      ∧ r.2.mem ((c.tc : Thread Cert.KernelKv.nD Cert.KernelKv.τ).loc Cert.KernelKv.main_arg1) = m ((c.tc : Thread Cert.KernelKv.nD Cert.KernelKv.τ).loc Cert.KernelKv.main_arg1)
      ∧ r.2.mem ((c.tc : Thread Cert.KernelKv.nD Cert.KernelKv.τ).loc Cert.KernelKv.main_arg2) = m ((c.tc : Thread Cert.KernelKv.nD Cert.KernelKv.τ).loc Cert.KernelKv.main_arg2)
      ∧ r.2.mem ((c.tc : Thread Cert.KernelKv.nD Cert.KernelKv.τ).loc Cert.KernelKv.main_arg3) = m ((c.tc : Thread Cert.KernelKv.nD Cert.KernelKv.τ).loc Cert.KernelKv.main_arg3))
      ∧ r.2.sem = fun _ => 0)

def quiescent_KernelKvIdeal [hKernelKvIdeal : Cert.KernelKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg), Pre_KernelKvIdeal m →
    θ_run (Cert.KernelKvIdeal.defs (F := Ideal)) (onTc (τ := Cert.KernelKvIdeal.τ) (Cert.KernelKvIdeal.main (F := Ideal))) ⟨m, fun _ => 0, g⟩ (fun r => (∀ c : Dev Cert.KernelKvIdeal.nD,
      r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
      ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
      ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2)
      ∧ r.2.mem ((c.tc : Thread Cert.KernelKvIdeal.nD Cert.KernelKvIdeal.τ).loc Cert.KernelKvIdeal.main_arg3) = m ((c.tc : Thread Cert.KernelKvIdeal.nD Cert.KernelKvIdeal.τ).loc Cert.KernelKvIdeal.main_arg3))
      ∧ r.2.sem = fun _ => 0)

def quiescent_ReferenceKvIdeal [hReferenceKvIdeal : Cert.ReferenceKvIdeal.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1)
      ∧ r.2.mem ((c.tc : Thread Cert.ReferenceKvIdeal.nD Cert.ReferenceKvIdeal.τ).loc Cert.ReferenceKvIdeal.main_arg2) = m ((c.tc : Thread Cert.ReferenceKvIdeal.nD Cert.ReferenceKvIdeal.τ).loc Cert.ReferenceKvIdeal.main_arg2)
      ∧ r.2.mem ((c.tc : Thread Cert.ReferenceKvIdeal.nD Cert.ReferenceKvIdeal.τ).loc Cert.ReferenceKvIdeal.main_arg3) = m ((c.tc : Thread Cert.ReferenceKvIdeal.nD Cert.ReferenceKvIdeal.τ).loc Cert.ReferenceKvIdeal.main_arg3))
      ∧ r.2.sem = fun _ => 0)

def quiescent_KernelLast [hKernelLast : Cert.KernelLast.Facts] : Prop :=
  ∀ (m : (ℓ : Loc Cert.KernelLast.nD Cert.KernelLast.τ Cert.KernelLast.sig) → Buf (Elt Bits) ℓ) (g : Dev Cert.KernelLast.nD → PrngReg), Pre_KernelLast m →
    θ_run (Cert.KernelLast.defs (F := Bits)) (onTc (τ := Cert.KernelLast.τ) (Cert.KernelLast.main (F := Bits))) ⟨m, fun _ => 0, g⟩ (fun r => (∀ c : Dev Cert.KernelLast.nD,
      r.2.mem ((c.tc : Thread Cert.KernelLast.nD Cert.KernelLast.τ).loc Cert.KernelLast.main_arg0) = m ((c.tc : Thread Cert.KernelLast.nD Cert.KernelLast.τ).loc Cert.KernelLast.main_arg0)
      ∧ r.2.mem ((c.tc : Thread Cert.KernelLast.nD Cert.KernelLast.τ).loc Cert.KernelLast.main_arg1) = m ((c.tc : Thread Cert.KernelLast.nD Cert.KernelLast.τ).loc Cert.KernelLast.main_arg1)
      ∧ r.2.mem ((c.tc : Thread Cert.KernelLast.nD Cert.KernelLast.τ).loc Cert.KernelLast.main_arg2) = m ((c.tc : Thread Cert.KernelLast.nD Cert.KernelLast.τ).loc Cert.KernelLast.main_arg2)
      ∧ r.2.mem ((c.tc : Thread Cert.KernelLast.nD Cert.KernelLast.τ).loc Cert.KernelLast.main_arg3) = m ((c.tc : Thread Cert.KernelLast.nD Cert.KernelLast.τ).loc Cert.KernelLast.main_arg3))
      ∧ r.2.sem = fun _ => 0)

def quiescent_KernelLastIdeal [hKernelLastIdeal : Cert.KernelLastIdeal.Facts] : Prop :=
  ∀ (m : (ℓ : Loc Cert.KernelLastIdeal.nD Cert.KernelLastIdeal.τ Cert.KernelLastIdeal.sig) → Buf (Elt Ideal) ℓ) (g : Dev Cert.KernelLastIdeal.nD → PrngReg), Pre_KernelLastIdeal m →
    θ_run (Cert.KernelLastIdeal.defs (F := Ideal)) (onTc (τ := Cert.KernelLastIdeal.τ) (Cert.KernelLastIdeal.main (F := Ideal))) ⟨m, fun _ => 0, g⟩ (fun r => (∀ c : Dev Cert.KernelLastIdeal.nD,
      r.2.mem ((c.tc : Thread Cert.KernelLastIdeal.nD Cert.KernelLastIdeal.τ).loc Cert.KernelLastIdeal.main_arg0) = m ((c.tc : Thread Cert.KernelLastIdeal.nD Cert.KernelLastIdeal.τ).loc Cert.KernelLastIdeal.main_arg0)
      ∧ r.2.mem ((c.tc : Thread Cert.KernelLastIdeal.nD Cert.KernelLastIdeal.τ).loc Cert.KernelLastIdeal.main_arg1) = m ((c.tc : Thread Cert.KernelLastIdeal.nD Cert.KernelLastIdeal.τ).loc Cert.KernelLastIdeal.main_arg1)
      ∧ r.2.mem ((c.tc : Thread Cert.KernelLastIdeal.nD Cert.KernelLastIdeal.τ).loc Cert.KernelLastIdeal.main_arg2) = m ((c.tc : Thread Cert.KernelLastIdeal.nD Cert.KernelLastIdeal.τ).loc Cert.KernelLastIdeal.main_arg2)
      ∧ r.2.mem ((c.tc : Thread Cert.KernelLastIdeal.nD Cert.KernelLastIdeal.τ).loc Cert.KernelLastIdeal.main_arg3) = m ((c.tc : Thread Cert.KernelLastIdeal.nD Cert.KernelLastIdeal.τ).loc Cert.KernelLastIdeal.main_arg3))
      ∧ r.2.sem = fun _ => 0)

def quiescent_ReferenceLastIdeal [hReferenceLastIdeal : Cert.ReferenceLastIdeal.Facts] : Prop :=
  ∀ (m : (ℓ : Loc Cert.ReferenceLastIdeal.nD Cert.ReferenceLastIdeal.τ Cert.ReferenceLastIdeal.sig) → Buf (Elt Ideal) ℓ) (g : Dev Cert.ReferenceLastIdeal.nD → PrngReg), Pre_ReferenceLastIdeal m →
    θ_run (Cert.ReferenceLastIdeal.defs (F := Ideal)) (onTc (τ := Cert.ReferenceLastIdeal.τ) (Cert.ReferenceLastIdeal.main (F := Ideal))) ⟨m, fun _ => 0, g⟩ (fun r => (∀ c : Dev Cert.ReferenceLastIdeal.nD,
      r.2.mem ((c.tc : Thread Cert.ReferenceLastIdeal.nD Cert.ReferenceLastIdeal.τ).loc Cert.ReferenceLastIdeal.main_arg0) = m ((c.tc : Thread Cert.ReferenceLastIdeal.nD Cert.ReferenceLastIdeal.τ).loc Cert.ReferenceLastIdeal.main_arg0)
      ∧ r.2.mem ((c.tc : Thread Cert.ReferenceLastIdeal.nD Cert.ReferenceLastIdeal.τ).loc Cert.ReferenceLastIdeal.main_arg1) = m ((c.tc : Thread Cert.ReferenceLastIdeal.nD Cert.ReferenceLastIdeal.τ).loc Cert.ReferenceLastIdeal.main_arg1)
      ∧ r.2.mem ((c.tc : Thread Cert.ReferenceLastIdeal.nD Cert.ReferenceLastIdeal.τ).loc Cert.ReferenceLastIdeal.main_arg2) = m ((c.tc : Thread Cert.ReferenceLastIdeal.nD Cert.ReferenceLastIdeal.τ).loc Cert.ReferenceLastIdeal.main_arg2)
      ∧ r.2.mem ((c.tc : Thread Cert.ReferenceLastIdeal.nD Cert.ReferenceLastIdeal.τ).loc Cert.ReferenceLastIdeal.main_arg3) = m ((c.tc : Thread Cert.ReferenceLastIdeal.nD Cert.ReferenceLastIdeal.τ).loc Cert.ReferenceLastIdeal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "q_scale" .f32 0x3E38AA3B#32 (((1 / 8) * (Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v191) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v8) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)
      ∧ m' ((c.tc : Thread Cert.ReferenceDownIdeal.nD Cert.ReferenceDownIdeal.τ).loc Cert.ReferenceDownIdeal.main_arg4) = m ((c.tc : Thread Cert.KernelDownIdeal.nD Cert.KernelDownIdeal.τ).loc Cert.KernelDownIdeal.main_arg4)
      ∧ m' ((c.tc : Thread Cert.ReferenceDownIdeal.nD Cert.ReferenceDownIdeal.τ).loc Cert.ReferenceDownIdeal.main_arg5) = m ((c.tc : Thread Cert.KernelDownIdeal.nD Cert.KernelDownIdeal.τ).loc Cert.KernelDownIdeal.main_arg5)) →
    ∃ (v0 : (c : Dev Cert.KernelDownIdeal.nD) → Buf (Elt Ideal) ((c.tc : Thread Cert.KernelDownIdeal.nD Cert.KernelDownIdeal.τ).loc Cert.KernelDownIdeal.main_v3_0)) (v1 : (c : Dev Cert.KernelDownIdeal.nD) → Buf (Elt Ideal) ((c.tc : Thread Cert.KernelDownIdeal.nD Cert.KernelDownIdeal.τ).loc Cert.KernelDownIdeal.main_v3_1)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v3_0) = v0 c
          ∧ r.2.mem ((c.tc : Thread Cert.KernelDownIdeal.nD Cert.KernelDownIdeal.τ).loc Cert.KernelDownIdeal.main_v3_1) = v1 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
          ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4)
          ∧ r.2.mem ((c.tc : Thread Cert.KernelDownIdeal.nD Cert.KernelDownIdeal.τ).loc Cert.KernelDownIdeal.main_arg5) = m ((c.tc : Thread Cert.KernelDownIdeal.nD Cert.KernelDownIdeal.τ).loc Cert.KernelDownIdeal.main_arg5))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v13) = v0 c
          ∧ r.2.mem ((c.tc : Thread Cert.ReferenceDownIdeal.nD Cert.ReferenceDownIdeal.τ).loc Cert.ReferenceDownIdeal.main_v47) = v1 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3)
          ∧ r.2.mem ((c.tc : Thread Cert.ReferenceDownIdeal.nD Cert.ReferenceDownIdeal.τ).loc Cert.ReferenceDownIdeal.main_arg4) = m' ((c.tc : Thread Cert.ReferenceDownIdeal.nD Cert.ReferenceDownIdeal.τ).loc Cert.ReferenceDownIdeal.main_arg4)
          ∧ r.2.mem ((c.tc : Thread Cert.ReferenceDownIdeal.nD Cert.ReferenceDownIdeal.τ).loc Cert.ReferenceDownIdeal.main_arg5) = m' ((c.tc : Thread Cert.ReferenceDownIdeal.nD Cert.ReferenceDownIdeal.τ).loc Cert.ReferenceDownIdeal.main_arg5))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)
      ∧ m' ((c.tc : Thread Cert.ReferenceMixIdeal.nD Cert.ReferenceMixIdeal.τ).loc Cert.ReferenceMixIdeal.main_arg5) = m ((c.tc : Thread Cert.KernelMixIdeal.nD Cert.KernelMixIdeal.τ).loc Cert.KernelMixIdeal.main_arg5)
      ∧ m' ((c.tc : Thread Cert.ReferenceMixIdeal.nD Cert.ReferenceMixIdeal.τ).loc Cert.ReferenceMixIdeal.main_arg6) = m ((c.tc : Thread Cert.KernelMixIdeal.nD Cert.KernelMixIdeal.τ).loc Cert.KernelMixIdeal.main_arg6)
      ∧ m' ((c.tc : Thread Cert.ReferenceMixIdeal.nD Cert.ReferenceMixIdeal.τ).loc Cert.ReferenceMixIdeal.main_arg7) = m ((c.tc : Thread Cert.KernelMixIdeal.nD Cert.KernelMixIdeal.τ).loc Cert.KernelMixIdeal.main_arg7)) →
    ∃ (v0 : (c : Dev Cert.KernelMixIdeal.nD) → Buf (Elt Ideal) ((c.tc : Thread Cert.KernelMixIdeal.nD Cert.KernelMixIdeal.τ).loc Cert.KernelMixIdeal.main_v3)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v3) = v0 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
          ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
          ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
          ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v25) = v0 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4)
          ∧ r.2.mem ((c.tc : Thread Cert.ReferenceMixIdeal.nD Cert.ReferenceMixIdeal.τ).loc Cert.ReferenceMixIdeal.main_arg5) = m' ((c.tc : Thread Cert.ReferenceMixIdeal.nD Cert.ReferenceMixIdeal.τ).loc Cert.ReferenceMixIdeal.main_arg5)
          ∧ r.2.mem ((c.tc : Thread Cert.ReferenceMixIdeal.nD Cert.ReferenceMixIdeal.τ).loc Cert.ReferenceMixIdeal.main_arg6) = m' ((c.tc : Thread Cert.ReferenceMixIdeal.nD Cert.ReferenceMixIdeal.τ).loc Cert.ReferenceMixIdeal.main_arg6)
          ∧ r.2.mem ((c.tc : Thread Cert.ReferenceMixIdeal.nD Cert.ReferenceMixIdeal.τ).loc Cert.ReferenceMixIdeal.main_arg7) = m' ((c.tc : Thread Cert.ReferenceMixIdeal.nD Cert.ReferenceMixIdeal.τ).loc Cert.ReferenceMixIdeal.main_arg7))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v0)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v3) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)) →
    ∃ (v0 : (c : Dev Cert.KernelOutIdeal.nD) → Buf (Elt Ideal) ((c.tc : Thread Cert.KernelOutIdeal.nD Cert.KernelOutIdeal.τ).loc Cert.KernelOutIdeal.main_v2_0)) (v1 : (c : Dev Cert.KernelOutIdeal.nD) → Buf (Elt Ideal) ((c.tc : Thread Cert.KernelOutIdeal.nD Cert.KernelOutIdeal.τ).loc Cert.KernelOutIdeal.main_v2_1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v2_0) = v0 c
          ∧ r.2.mem ((c.tc : Thread Cert.KernelOutIdeal.nD Cert.KernelOutIdeal.τ).loc Cert.KernelOutIdeal.main_v2_1) = v1 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v14) = v0 c
          ∧ r.2.mem ((c.tc : Thread Cert.ReferenceOutIdeal.nD Cert.ReferenceOutIdeal.τ).loc Cert.ReferenceOutIdeal.main_v48) = v1 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5))

def preserves_KernelKv_KernelKvIdeal : Prop :=
  True

def algebraic_KernelKvIdeal_ReferenceKvIdeal [hKernelKvIdeal : Cert.KernelKvIdeal.Facts] [hReferenceKvIdeal : Cert.ReferenceKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg)
    (m' : (ℓ : Loc Cert.ReferenceKvIdeal.nD Cert.ReferenceKvIdeal.τ Cert.ReferenceKvIdeal.sig) → Buf (Elt Ideal) ℓ) (g' : Dev Cert.ReferenceKvIdeal.nD → PrngReg), Pre_KernelKvIdeal m →
    (∀ c : Dev Cert.KernelKvIdeal.nD,
      m' ((c.tc : Thread Cert.ReferenceKvIdeal.nD Cert.ReferenceKvIdeal.τ).loc Cert.ReferenceKvIdeal.main_arg0) = m ((c.tc : Thread Cert.KernelKvIdeal.nD Cert.KernelKvIdeal.τ).loc Cert.KernelKvIdeal.main_arg0)
      ∧ m' ((c.tc : Thread Cert.ReferenceKvIdeal.nD Cert.ReferenceKvIdeal.τ).loc Cert.ReferenceKvIdeal.main_arg1) = m ((c.tc : Thread Cert.KernelKvIdeal.nD Cert.KernelKvIdeal.τ).loc Cert.KernelKvIdeal.main_arg1)
      ∧ m' ((c.tc : Thread Cert.ReferenceKvIdeal.nD Cert.ReferenceKvIdeal.τ).loc Cert.ReferenceKvIdeal.main_arg2) = m ((c.tc : Thread Cert.KernelKvIdeal.nD Cert.KernelKvIdeal.τ).loc Cert.KernelKvIdeal.main_arg2)
      ∧ m' ((c.tc : Thread Cert.ReferenceKvIdeal.nD Cert.ReferenceKvIdeal.τ).loc Cert.ReferenceKvIdeal.main_arg3) = m ((c.tc : Thread Cert.KernelKvIdeal.nD Cert.KernelKvIdeal.τ).loc Cert.KernelKvIdeal.main_arg3)) →
    ∃ (v0 : (c : Dev Cert.KernelKvIdeal.nD) → Buf (Elt Ideal) ((c.tc : Thread Cert.KernelKvIdeal.nD Cert.KernelKvIdeal.τ).loc Cert.KernelKvIdeal.main_v26)) (v1 : (c : Dev Cert.KernelKvIdeal.nD) → Buf (Elt Ideal) ((c.tc : Thread Cert.KernelKvIdeal.nD Cert.KernelKvIdeal.τ).loc Cert.KernelKvIdeal.main_v27)),
      θ_run (Cert.KernelKvIdeal.defs (F := Ideal)) (onTc (τ := Cert.KernelKvIdeal.τ) (Cert.KernelKvIdeal.main (F := Ideal))) ⟨m, fun _ => 0, g⟩ (fun r => ∀ c : Dev Cert.KernelKvIdeal.nD,
          r.2.mem ((c.tc : Thread Cert.KernelKvIdeal.nD Cert.KernelKvIdeal.τ).loc Cert.KernelKvIdeal.main_v26) = v0 c
          ∧ r.2.mem ((c.tc : Thread Cert.KernelKvIdeal.nD Cert.KernelKvIdeal.τ).loc Cert.KernelKvIdeal.main_v27) = v1 c
          ∧ r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
          ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
          ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2)
          ∧ r.2.mem ((c.tc : Thread Cert.KernelKvIdeal.nD Cert.KernelKvIdeal.τ).loc Cert.KernelKvIdeal.main_arg3) = m ((c.tc : Thread Cert.KernelKvIdeal.nD Cert.KernelKvIdeal.τ).loc Cert.KernelKvIdeal.main_arg3))
      ∧ θ_run (Cert.ReferenceKvIdeal.defs (F := Ideal)) (onTc (τ := Cert.ReferenceKvIdeal.τ) (Cert.ReferenceKvIdeal.main (F := Ideal))) ⟨m', fun _ => 0, g'⟩ (fun r => ∀ c : Dev Cert.ReferenceKvIdeal.nD,
          r.2.mem ((c.tc : Thread Cert.ReferenceKvIdeal.nD Cert.ReferenceKvIdeal.τ).loc Cert.ReferenceKvIdeal.main_v48) = v0 c
          ∧ r.2.mem ((c.tc : Thread Cert.ReferenceKvIdeal.nD Cert.ReferenceKvIdeal.τ).loc Cert.ReferenceKvIdeal.main_v51) = v1 c
          ∧ r.2.mem ((c.tc : Thread Cert.ReferenceKvIdeal.nD Cert.ReferenceKvIdeal.τ).loc Cert.ReferenceKvIdeal.main_arg0) = m' ((c.tc : Thread Cert.ReferenceKvIdeal.nD Cert.ReferenceKvIdeal.τ).loc Cert.ReferenceKvIdeal.main_arg0)
          ∧ r.2.mem ((c.tc : Thread Cert.ReferenceKvIdeal.nD Cert.ReferenceKvIdeal.τ).loc Cert.ReferenceKvIdeal.main_arg1) = m' ((c.tc : Thread Cert.ReferenceKvIdeal.nD Cert.ReferenceKvIdeal.τ).loc Cert.ReferenceKvIdeal.main_arg1)
          ∧ r.2.mem ((c.tc : Thread Cert.ReferenceKvIdeal.nD Cert.ReferenceKvIdeal.τ).loc Cert.ReferenceKvIdeal.main_arg2) = m' ((c.tc : Thread Cert.ReferenceKvIdeal.nD Cert.ReferenceKvIdeal.τ).loc Cert.ReferenceKvIdeal.main_arg2)
          ∧ r.2.mem ((c.tc : Thread Cert.ReferenceKvIdeal.nD Cert.ReferenceKvIdeal.τ).loc Cert.ReferenceKvIdeal.main_arg3) = m' ((c.tc : Thread Cert.ReferenceKvIdeal.nD Cert.ReferenceKvIdeal.τ).loc Cert.ReferenceKvIdeal.main_arg3))

def preserves_KernelLast_KernelLastIdeal : Prop :=
  True

def algebraic_KernelLastIdeal_ReferenceLastIdeal [hKernelLastIdeal : Cert.KernelLastIdeal.Facts] [hReferenceLastIdeal : Cert.ReferenceLastIdeal.Facts] : Prop :=
  ∀ (m : (ℓ : Loc Cert.KernelLastIdeal.nD Cert.KernelLastIdeal.τ Cert.KernelLastIdeal.sig) → Buf (Elt Ideal) ℓ) (g : Dev Cert.KernelLastIdeal.nD → PrngReg)
    (m' : (ℓ : Loc Cert.ReferenceLastIdeal.nD Cert.ReferenceLastIdeal.τ Cert.ReferenceLastIdeal.sig) → Buf (Elt Ideal) ℓ) (g' : Dev Cert.ReferenceLastIdeal.nD → PrngReg), Pre_KernelLastIdeal m →
    (∀ c : Dev Cert.KernelLastIdeal.nD,
      m' ((c.tc : Thread Cert.ReferenceLastIdeal.nD Cert.ReferenceLastIdeal.τ).loc Cert.ReferenceLastIdeal.main_arg0) = m ((c.tc : Thread Cert.KernelLastIdeal.nD Cert.KernelLastIdeal.τ).loc Cert.KernelLastIdeal.main_arg0)
      ∧ m' ((c.tc : Thread Cert.ReferenceLastIdeal.nD Cert.ReferenceLastIdeal.τ).loc Cert.ReferenceLastIdeal.main_arg1) = m ((c.tc : Thread Cert.KernelLastIdeal.nD Cert.KernelLastIdeal.τ).loc Cert.KernelLastIdeal.main_arg1)
      ∧ m' ((c.tc : Thread Cert.ReferenceLastIdeal.nD Cert.ReferenceLastIdeal.τ).loc Cert.ReferenceLastIdeal.main_arg2) = m ((c.tc : Thread Cert.KernelLastIdeal.nD Cert.KernelLastIdeal.τ).loc Cert.KernelLastIdeal.main_arg2)
      ∧ m' ((c.tc : Thread Cert.ReferenceLastIdeal.nD Cert.ReferenceLastIdeal.τ).loc Cert.ReferenceLastIdeal.main_arg3) = m ((c.tc : Thread Cert.KernelLastIdeal.nD Cert.KernelLastIdeal.τ).loc Cert.KernelLastIdeal.main_arg3)) →
    ∃ (v0 : (c : Dev Cert.KernelLastIdeal.nD) → Buf (Elt Ideal) ((c.tc : Thread Cert.KernelLastIdeal.nD Cert.KernelLastIdeal.τ).loc Cert.KernelLastIdeal.main_v1_0)) (v1 : (c : Dev Cert.KernelLastIdeal.nD) → Buf (Elt Ideal) ((c.tc : Thread Cert.KernelLastIdeal.nD Cert.KernelLastIdeal.τ).loc Cert.KernelLastIdeal.main_v1_1)),
      θ_run (Cert.KernelLastIdeal.defs (F := Ideal)) (onTc (τ := Cert.KernelLastIdeal.τ) (Cert.KernelLastIdeal.main (F := Ideal))) ⟨m, fun _ => 0, g⟩ (fun r => ∀ c : Dev Cert.KernelLastIdeal.nD,
          r.2.mem ((c.tc : Thread Cert.KernelLastIdeal.nD Cert.KernelLastIdeal.τ).loc Cert.KernelLastIdeal.main_v1_0) = v0 c
          ∧ r.2.mem ((c.tc : Thread Cert.KernelLastIdeal.nD Cert.KernelLastIdeal.τ).loc Cert.KernelLastIdeal.main_v1_1) = v1 c
          ∧ r.2.mem ((c.tc : Thread Cert.KernelLastIdeal.nD Cert.KernelLastIdeal.τ).loc Cert.KernelLastIdeal.main_arg0) = m ((c.tc : Thread Cert.KernelLastIdeal.nD Cert.KernelLastIdeal.τ).loc Cert.KernelLastIdeal.main_arg0)
          ∧ r.2.mem ((c.tc : Thread Cert.KernelLastIdeal.nD Cert.KernelLastIdeal.τ).loc Cert.KernelLastIdeal.main_arg1) = m ((c.tc : Thread Cert.KernelLastIdeal.nD Cert.KernelLastIdeal.τ).loc Cert.KernelLastIdeal.main_arg1)
          ∧ r.2.mem ((c.tc : Thread Cert.KernelLastIdeal.nD Cert.KernelLastIdeal.τ).loc Cert.KernelLastIdeal.main_arg2) = m ((c.tc : Thread Cert.KernelLastIdeal.nD Cert.KernelLastIdeal.τ).loc Cert.KernelLastIdeal.main_arg2)
          ∧ r.2.mem ((c.tc : Thread Cert.KernelLastIdeal.nD Cert.KernelLastIdeal.τ).loc Cert.KernelLastIdeal.main_arg3) = m ((c.tc : Thread Cert.KernelLastIdeal.nD Cert.KernelLastIdeal.τ).loc Cert.KernelLastIdeal.main_arg3))
      ∧ θ_run (Cert.ReferenceLastIdeal.defs (F := Ideal)) (onTc (τ := Cert.ReferenceLastIdeal.τ) (Cert.ReferenceLastIdeal.main (F := Ideal))) ⟨m', fun _ => 0, g'⟩ (fun r => ∀ c : Dev Cert.ReferenceLastIdeal.nD,
          r.2.mem ((c.tc : Thread Cert.ReferenceLastIdeal.nD Cert.ReferenceLastIdeal.τ).loc Cert.ReferenceLastIdeal.main_v11) = v0 c
          ∧ r.2.mem ((c.tc : Thread Cert.ReferenceLastIdeal.nD Cert.ReferenceLastIdeal.τ).loc Cert.ReferenceLastIdeal.main_v22) = v1 c
          ∧ r.2.mem ((c.tc : Thread Cert.ReferenceLastIdeal.nD Cert.ReferenceLastIdeal.τ).loc Cert.ReferenceLastIdeal.main_arg0) = m' ((c.tc : Thread Cert.ReferenceLastIdeal.nD Cert.ReferenceLastIdeal.τ).loc Cert.ReferenceLastIdeal.main_arg0)
          ∧ r.2.mem ((c.tc : Thread Cert.ReferenceLastIdeal.nD Cert.ReferenceLastIdeal.τ).loc Cert.ReferenceLastIdeal.main_arg1) = m' ((c.tc : Thread Cert.ReferenceLastIdeal.nD Cert.ReferenceLastIdeal.τ).loc Cert.ReferenceLastIdeal.main_arg1)
          ∧ r.2.mem ((c.tc : Thread Cert.ReferenceLastIdeal.nD Cert.ReferenceLastIdeal.τ).loc Cert.ReferenceLastIdeal.main_arg2) = m' ((c.tc : Thread Cert.ReferenceLastIdeal.nD Cert.ReferenceLastIdeal.τ).loc Cert.ReferenceLastIdeal.main_arg2)
          ∧ r.2.mem ((c.tc : Thread Cert.ReferenceLastIdeal.nD Cert.ReferenceLastIdeal.τ).loc Cert.ReferenceLastIdeal.main_arg3) = m' ((c.tc : Thread Cert.ReferenceLastIdeal.nD Cert.ReferenceLastIdeal.τ).loc Cert.ReferenceLastIdeal.main_arg3))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelMix : Cert.KernelMix.Facts) (hKernelMixIdeal : Cert.KernelMixIdeal.Facts) (hReferenceMixIdeal : Cert.ReferenceMixIdeal.Facts) (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelKv : Cert.KernelKv.Facts) (hKernelKvIdeal : Cert.KernelKvIdeal.Facts) (hReferenceKvIdeal : Cert.ReferenceKvIdeal.Facts) (hKernelLast : Cert.KernelLast.Facts) (hKernelLastIdeal : Cert.KernelLastIdeal.Facts) (hReferenceLastIdeal : Cert.ReferenceLastIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelKv (hKernelKv := hKernelKv)
    ∧ quiescent_KernelKvIdeal (hKernelKvIdeal := hKernelKvIdeal)
    ∧ quiescent_ReferenceKvIdeal (hReferenceKvIdeal := hReferenceKvIdeal)
    ∧ quiescent_KernelLast (hKernelLast := hKernelLast)
    ∧ quiescent_KernelLastIdeal (hKernelLastIdeal := hKernelLastIdeal)
    ∧ quiescent_ReferenceLastIdeal (hReferenceLastIdeal := hReferenceLastIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelMix_KernelMixIdeal
    ∧ algebraic_KernelMixIdeal_ReferenceMixIdeal (hKernelMixIdeal := hKernelMixIdeal) (hReferenceMixIdeal := hReferenceMixIdeal)
    ∧ preserves_KernelIn_KernelInIdeal
    ∧ algebraic_KernelInIdeal_ReferenceInIdeal (hKernelInIdeal := hKernelInIdeal) (hReferenceInIdeal := hReferenceInIdeal)
    ∧ preserves_KernelOut_KernelOutIdeal
    ∧ algebraic_KernelOutIdeal_ReferenceOutIdeal (hKernelOutIdeal := hKernelOutIdeal) (hReferenceOutIdeal := hReferenceOutIdeal)
    ∧ preserves_KernelKv_KernelKvIdeal
    ∧ algebraic_KernelKvIdeal_ReferenceKvIdeal (hKernelKvIdeal := hKernelKvIdeal) (hReferenceKvIdeal := hReferenceKvIdeal)
    ∧ preserves_KernelLast_KernelLastIdeal
    ∧ algebraic_KernelLastIdeal_ReferenceLastIdeal (hKernelLastIdeal := hKernelLastIdeal) (hReferenceLastIdeal := hReferenceLastIdeal)
-- ==== Pre_finite_scores.lean ====
abbrev S8192x4096 : Shape := ⟨2, ![8192, 4096]⟩
abbrev S4x2x256x16x64 : Shape := ⟨5, ![4, 2, 256, 16, 64]⟩
abbrev S2x16x15x31 : Shape := ⟨4, ![2, 16, 15, 31]⟩
abbrev S2x64 : Shape := ⟨2, ![2, 64]⟩
abbrev S4x1x256x16x64 : Shape := ⟨5, ![4, 1, 256, 16, 64]⟩
abbrev S4x256x16x64 : Shape := ⟨4, ![4, 256, 16, 64]⟩
abbrev S_ : Shape := ⟨0, ![]⟩
abbrev S1x16x15x31 : Shape := ⟨4, ![1, 16, 15, 31]⟩
abbrev S16x15x31 : Shape := ⟨3, ![16, 15, 31]⟩
abbrev S1x64 : Shape := ⟨2, ![1, 64]⟩
abbrev S64 : Shape := ⟨1, ![64]⟩

class Facts : Prop where
  slices_S4x2x256x16x64_S4x1x256x16x64_0_0_0_0_0 : S4x2x256x16x64.Slices ![0, 0, 0, 0, 0] S4x1x256x16x64
  shapeCasts_S4x1x256x16x64_S4x256x16x64 : S4x1x256x16x64.ShapeCasts S4x256x16x64
  bcast_S_S4x256x16x64 : S_.BroadcastsInDim S4x256x16x64 (![] : Fin 0 → Fin S4x256x16x64.rank)
  slices_S2x16x15x31_S1x16x15x31_0_0_0_0 : S2x16x15x31.Slices ![0, 0, 0, 0] S1x16x15x31
  shapeCasts_S1x16x15x31_S16x15x31 : S1x16x15x31.ShapeCasts S16x15x31
  bcast_S_S16x15x31 : S_.BroadcastsInDim S16x15x31 (![] : Fin 0 → Fin S16x15x31.rank)
  slices_S2x64_S1x64_0_0 : S2x64.Slices ![0, 0] S1x64
  shapeCasts_S1x64_S64 : S1x64.ShapeCasts S64
  bcast_S_S64 : S_.BroadcastsInDim S64 (![] : Fin 0 → Fin S64.rank)

variable [Facts]

def fn {F : FTy → Type} [FloatOps F] (main_arg0 : FVec F S8192x4096 .f32) (main_arg1 : FVec F S4x2x256x16x64 .f32) (main_arg2 : FVec F S4x2x256x16x64 .f32) (main_arg3 : FVec F S2x16x15x31 .f32) (main_arg4 : FVec F S2x64 .f32) (main_arg5 : FVec F S2x64 .f32) : IVec S4x256x16x64 1 × IVec S16x15x31 1 × IVec S64 1 × IVec S64 1 :=
  let main_v0 : FVec F S4x1x256x16x64 .f32 := (extractStridedSlice S4x1x256x16x64 ![0, 0, 0, 0, 0] · slices_S4x2x256x16x64_S4x1x256x16x64_0_0_0_0_0) main_arg1
  let main_v1 : FVec F S4x256x16x64 .f32 := shapeCast S4x256x16x64 main_v0 shapeCasts_S4x1x256x16x64_S4x256x16x64
  let main_v2 : FVec F S4x256x16x64 .f32 := Host.absf main_v1
  let main_cst : FVec F S_ .f32 := constant S_ .f32 0x7F800000#32
  let main_v3 : FVec F S4x256x16x64 .f32 := broadcastInDim S4x256x16x64 ![] bcast_S_S4x256x16x64 main_cst
  let main_v4 : IVec S4x256x16x64 1 := cmpf .olt main_v2 main_v3
  let main_v5 : FVec F S1x16x15x31 .f32 := (extractStridedSlice S1x16x15x31 ![0, 0, 0, 0] · slices_S2x16x15x31_S1x16x15x31_0_0_0_0) main_arg3
  let main_v6 : FVec F S16x15x31 .f32 := shapeCast S16x15x31 main_v5 shapeCasts_S1x16x15x31_S16x15x31
  let main_v7 : FVec F S16x15x31 .f32 := Host.absf main_v6
  let main_cst_0 : FVec F S_ .f32 := constant S_ .f32 0x7F800000#32
  let main_v8 : FVec F S16x15x31 .f32 := broadcastInDim S16x15x31 ![] bcast_S_S16x15x31 main_cst_0
  let main_v9 : IVec S16x15x31 1 := cmpf .olt main_v7 main_v8
  let main_v10 : FVec F S1x64 .f32 := (extractStridedSlice S1x64 ![0, 0] · slices_S2x64_S1x64_0_0) main_arg4
  let main_v11 : FVec F S64 .f32 := shapeCast S64 main_v10 shapeCasts_S1x64_S64
  let main_v12 : FVec F S64 .f32 := Host.absf main_v11
  let main_cst_1 : FVec F S_ .f32 := constant S_ .f32 0x7F800000#32
  let main_v13 : FVec F S64 .f32 := broadcastInDim S64 ![] bcast_S_S64 main_cst_1
  let main_v14 : IVec S64 1 := cmpf .olt main_v12 main_v13
  let main_v15 : FVec F S1x64 .f32 := (extractStridedSlice S1x64 ![0, 0] · slices_S2x64_S1x64_0_0) main_arg5
  let main_v16 : FVec F S64 .f32 := shapeCast S64 main_v15 shapeCasts_S1x64_S64
  let main_v17 : FVec F S64 .f32 := Host.absf main_v16
  let main_cst_2 : FVec F S_ .f32 := constant S_ .f32 0x7F800000#32
  let main_v18 : FVec F S64 .f32 := broadcastInDim S64 ![] bcast_S_S64 main_cst_2
  let main_v19 : IVec S64 1 := cmpf .olt main_v17 main_v18
  (main_v4, main_v9, main_v14, main_v19)
-- ==== Kernel.lean ====
abbrev S8192x4096 : Shape := ⟨2, ![8192, 4096]⟩
abbrev S4x2x256x16x64 : Shape := ⟨5, ![4, 2, 256, 16, 64]⟩
abbrev S2x16x15x31 : Shape := ⟨4, ![2, 16, 15, 31]⟩
abbrev S2x64 : Shape := ⟨2, ![2, 64]⟩
abbrev S4x2x256x1024 : Shape := ⟨4, ![4, 2, 256, 1024]⟩
abbrev S_ : Shape := ⟨0, ![]⟩
abbrev S2x16x16x128 : Shape := ⟨4, ![2, 16, 16, 128]⟩
abbrev S2x8x2x16x128 : Shape := ⟨5, ![2, 8, 2, 16, 128]⟩
abbrev S2x8x128x896 : Shape := ⟨4, ![2, 8, 128, 896]⟩
abbrev S1x1x2x16x128 : Shape := ⟨5, ![1, 1, 2, 16, 128]⟩
abbrev S1x1x128x896 : Shape := ⟨4, ![1, 1, 128, 896]⟩
abbrev S64x128 : Shape := ⟨2, ![64, 128]⟩
abbrev S1x1x1x1x128 : Shape := ⟨5, ![1, 1, 1, 1, 128]⟩
abbrev S1x128 : Shape := ⟨2, ![1, 128]⟩
abbrev S1x1x64x128 : Shape := ⟨4, ![1, 1, 64, 128]⟩
abbrev S1x64 : Shape := ⟨2, ![1, 64]⟩
abbrev S64 : Shape := ⟨1, ![64]⟩
abbrev S128 : Shape := ⟨1, ![128]⟩
abbrev S4096x1024 : Shape := ⟨2, ![4096, 1024]⟩
abbrev S1024x128 : Shape := ⟨2, ![1024, 128]⟩
abbrev S1x1x256x128 : Shape := ⟨4, ![1, 1, 256, 128]⟩
abbrev S16x128x768 : Shape := ⟨3, ![16, 128, 768]⟩
abbrev S16x128x128 : Shape := ⟨3, ![16, 128, 128]⟩
abbrev S1024 : Shape := ⟨1, ![1024]⟩
abbrev S1024x1 : Shape := ⟨2, ![1024, 1]⟩
abbrev S256x128 : Shape := ⟨2, ![256, 128]⟩
abbrev S128x128 : Shape := ⟨2, ![128, 128]⟩
abbrev S1x1x128x512 : Shape := ⟨4, ![1, 1, 128, 512]⟩
abbrev S128x512 : Shape := ⟨2, ![128, 512]⟩
abbrev S512x128 : Shape := ⟨2, ![512, 128]⟩
abbrev S1x128x512 : Shape := ⟨3, ![1, 128, 512]⟩
abbrev S128x256 : Shape := ⟨2, ![128, 256]⟩
abbrev S1x128x256 : Shape := ⟨3, ![1, 128, 256]⟩
abbrev S1x128x768 : Shape := ⟨3, ![1, 128, 768]⟩
abbrev S128x768 : Shape := ⟨2, ![128, 768]⟩
abbrev S128x1 : Shape := ⟨2, ![128, 1]⟩
abbrev S1x128x128 : Shape := ⟨3, ![1, 128, 128]⟩

abbrev nBuf : Space → Nat
  | .hbm => 27
  | .vmem => 27
  | .smem => 0
  | _ => 0

abbrev bufTy : (tb : Table) → Fin (tcTables nBuf tb) → BufTy
  | .hbm, ⟨0, _⟩ => ⟨S8192x4096, .f32⟩
  | .hbm, ⟨1, _⟩ => ⟨S4x2x256x16x64, .f32⟩
  | .hbm, ⟨2, _⟩ => ⟨S4x2x256x16x64, .f32⟩
  | .hbm, ⟨3, _⟩ => ⟨S2x16x15x31, .f32⟩
  | .hbm, ⟨4, _⟩ => ⟨S2x64, .f32⟩
  | .hbm, ⟨5, _⟩ => ⟨S2x64, .f32⟩
  | .hbm, ⟨6, _⟩ => ⟨S4x2x256x1024, .f32⟩
  | .hbm, ⟨7, _⟩ => ⟨S4x2x256x1024, .f32⟩
  | .hbm, ⟨8, _⟩ => ⟨S_, .i32⟩
  | .hbm, ⟨9, _⟩ => ⟨S_, .f32⟩
  | .hbm, ⟨10, _⟩ => ⟨S2x16x16x128, .f32⟩
  | .hbm, ⟨11, _⟩ => ⟨S2x8x2x16x128, .f32⟩
  | .hbm, ⟨12, _⟩ => ⟨S2x8x128x896, .f32⟩
  | .hbm, ⟨13, _⟩ => ⟨S2x8x128x896, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S2x64, .f32⟩
  | .hbm, ⟨18, _⟩ => ⟨S128, .f32⟩
  | .hbm, ⟨19, _⟩ => ⟨S1x128, .f32⟩
  | .hbm, ⟨20, _⟩ => ⟨S1x64, .f32⟩
  | .hbm, ⟨21, _⟩ => ⟨S64, .f32⟩
  | .hbm, ⟨22, _⟩ => ⟨S1x64, .f32⟩
  | .hbm, ⟨23, _⟩ => ⟨S2x64, .f32⟩
  | .hbm, ⟨24, _⟩ => ⟨S128, .f32⟩
  | .hbm, ⟨25, _⟩ => ⟨S1x128, .f32⟩
  | .hbm, ⟨26, _⟩ => ⟨S4096x1024, .bf16⟩
  | .local _ .vmem, ⟨0, _⟩ => ⟨S1x1x2x16x128, .f32⟩
  | .local _ .vmem, ⟨1, _⟩ => ⟨S1x1x2x16x128, .f32⟩
  | .local _ .vmem, ⟨2, _⟩ => ⟨S1x1x128x896, .f32⟩
  | .local _ .vmem, ⟨3, _⟩ => ⟨S1x1x128x896, .f32⟩
  | .local _ .vmem, ⟨4, _⟩ => ⟨S1x1x128x896, .f32⟩
  | .local _ .vmem, ⟨5, _⟩ => ⟨S1x1x128x896, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1x1x256x128, .f32⟩
  | .local _ .vmem, ⟨13, _⟩ => ⟨S1x1x256x128, .f32⟩
  | .local _ .vmem, ⟨14, _⟩ => ⟨S1x1x256x128, .f32⟩
  | .local _ .vmem, ⟨15, _⟩ => ⟨S1x1x256x128, .f32⟩
  | .local _ .vmem, ⟨16, _⟩ => ⟨S1x1x128x896, .f32⟩
  | .local _ .vmem, ⟨17, _⟩ => ⟨S1x1x128x896, .f32⟩
  | .local _ .vmem, ⟨18, _⟩ => ⟨S1x1x128x896, .f32⟩
  | .local _ .vmem, ⟨19, _⟩ => ⟨S1x1x128x896, .f32⟩
  | .local _ .vmem, ⟨20, _⟩ => ⟨S1x128, .f32⟩
  | .local _ .vmem, ⟨21, _⟩ => ⟨S1x128, .f32⟩
  | .local _ .vmem, ⟨22, _⟩ => ⟨S1024x128, .bf16⟩
  | .local _ .vmem, ⟨23, _⟩ => ⟨S1024x128, .bf16⟩
  | .local _ .vmem, ⟨24, _⟩ => ⟨S16x128x768, .f32⟩
  | .local _ .vmem, ⟨25, _⟩ => ⟨S16x128x768, .bf16⟩
  | .local _ .vmem, ⟨26, _⟩ => ⟨S16x128x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc1_scratch0 : Ref sig .tc := ⟨.vmem, 24, rfl⟩
abbrev cc1_scratch1 : Ref sig .tc := ⟨.vmem, 25, rfl⟩
abbrev cc1_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem8_0 : DmaSem sig := 21
abbrev cc1_sem9_0 : DmaSem sig := 22
abbrev cc1_sem9_1 : DmaSem sig := 23

abbrev nD : Nat := 1
abbrev τ : Topo := Topo.v7x

variable {F : FTy → Type} [FloatOps F]

abbrev grid0 : Pipeline.Grid := ⟨2, ![2, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x2x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![v0.toNat, v1.toNat]

def cc1_transform_1 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c8_i32 : BitVec 32 := 8#32
  let v1 : BitVec 32 := Scalar.addi c8_i32 arg0
  let c0_i32 : BitVec 32 := 0#32
  ![v0.toNat, v1.toNat]

def cc1_transform_2 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c16_i32 : BitVec 32 := 16#32
  let v1 : BitVec 32 := Scalar.addi c16_i32 arg0
  let c0_i32 : BitVec 32 := 0#32
  ![v0.toNat, v1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat, arg0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat, arg0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x128x896 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x1x128x896 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S1024x128 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]
-- ==== KernelIdeal.lean ====
variable {F : FTy → Type} [FloatOps F] [Named F]
def κ : String → Option EReal := fun
  | "log2e" => some (((Real.log 2)⁻¹ : ℝ) : EReal)
  | "q_scale" => some (((1 / 8) * (Real.log 2)⁻¹ : ℝ) : EReal)
  | _ => none
-- ==== ReferenceIdeal.lean ====
abbrev S8192x4096 : Shape := ⟨2, ![8192, 4096]⟩
abbrev S4x2x256x16x64 : Shape := ⟨5, ![4, 2, 256, 16, 64]⟩
abbrev S2x16x15x31 : Shape := ⟨4, ![2, 16, 15, 31]⟩
abbrev S2x64 : Shape := ⟨2, ![2, 64]⟩
abbrev S4096x4096 : Shape := ⟨2, ![4096, 4096]⟩
abbrev S4x1024x4096 : Shape := ⟨3, ![4, 1024, 4096]⟩
abbrev S4x1024x1024 : Shape := ⟨3, ![4, 1024, 1024]⟩
abbrev S4x1024x16x64 : Shape := ⟨4, ![4, 1024, 16, 64]⟩
abbrev S1x64 : Shape := ⟨2, ![1, 64]⟩
abbrev S64 : Shape := ⟨1, ![64]⟩
abbrev S_ : Shape := ⟨0, ![]⟩
abbrev S4x1024x16 : Shape := ⟨3, ![4, 1024, 16]⟩
abbrev S4x1024x16x1 : Shape := ⟨4, ![4, 1024, 16, 1]⟩
abbrev S1x1x1x64 : Shape := ⟨4, ![1, 1, 1, 64]⟩
abbrev S4x1x256x16x64 : Shape := ⟨5, ![4, 1, 256, 16, 64]⟩
abbrev S4x256x16x64 : Shape := ⟨4, ![4, 256, 16, 64]⟩
abbrev S1x16x15x31 : Shape := ⟨4, ![1, 16, 15, 31]⟩
abbrev S16x15x31 : Shape := ⟨3, ![16, 15, 31]⟩
abbrev S16 : Shape := ⟨1, ![16]⟩
abbrev S16x1 : Shape := ⟨2, ![16, 1]⟩
abbrev S8 : Shape := ⟨1, ![8]⟩
abbrev S1x8 : Shape := ⟨2, ![1, 8]⟩
abbrev S16x8 : Shape := ⟨2, ![16, 8]⟩
abbrev S4 : Shape := ⟨1, ![4]⟩
abbrev S4x1 : Shape := ⟨2, ![4, 1]⟩
abbrev S32 : Shape := ⟨1, ![32]⟩
abbrev S1x32 : Shape := ⟨2, ![1, 32]⟩
abbrev S4x32 : Shape := ⟨2, ![4, 32]⟩
abbrev S1x16 : Shape := ⟨2, ![1, 16]⟩
abbrev S4x16 : Shape := ⟨2, ![4, 16]⟩
abbrev S4x16x1 : Shape := ⟨3, ![4, 16, 1]⟩
abbrev S4x1x32 : Shape := ⟨3, ![4, 1, 32]⟩
abbrev S4x16x32 : Shape := ⟨3, ![4, 16, 32]⟩
abbrev S16x1x1x8x1 : Shape := ⟨5, ![16, 1, 1, 8, 1]⟩
abbrev S1x4x16x1x32 : Shape := ⟨5, ![1, 4, 16, 1, 32]⟩
abbrev S16x4x16x8x32 : Shape := ⟨5, ![16, 4, 16, 8, 32]⟩
abbrev S16x4x16x8x32x1 : Shape := ⟨6, ![16, 4, 16, 8, 32, 1]⟩
abbrev S16x4x16x8x32x2 : Shape := ⟨6, ![16, 4, 16, 8, 32, 2]⟩
abbrev S16x16x4x16x8x32 : Shape := ⟨6, ![16, 16, 4, 16, 8, 32]⟩
abbrev S1x1x4x16x1x32 : Shape := ⟨6, ![1, 1, 4, 16, 1, 32]⟩
abbrev S16x16x4x16x256 : Shape := ⟨5, ![16, 16, 4, 16, 256]⟩
abbrev S4x16x4x16x16x64 : Shape := ⟨6, ![4, 16, 4, 16, 16, 64]⟩
abbrev S4x16x64x16x64 : Shape := ⟨5, ![4, 16, 64, 16, 64]⟩
abbrev S16x1x8x1 : Shape := ⟨4, ![16, 1, 8, 1]⟩
abbrev S1x4x1x32 : Shape := ⟨4, ![1, 4, 1, 32]⟩
abbrev S16x4x8x32 : Shape := ⟨4, ![16, 4, 8, 32]⟩
abbrev S16x4x8x32x1 : Shape := ⟨5, ![16, 4, 8, 32, 1]⟩
abbrev S16x4x8x32x2 : Shape := ⟨5, ![16, 4, 8, 32, 2]⟩
abbrev S4x16x4x8x32x16x64 : Shape := ⟨7, ![4, 16, 4, 8, 32, 16, 64]⟩
abbrev S4x16x4x256x16x64 : Shape := ⟨6, ![4, 16, 4, 256, 16, 64]⟩
abbrev S4x16x16x4x16x256 : Shape := ⟨6, ![4, 16, 16, 4, 16, 256]⟩
abbrev S1x16x16x4x16x256 : Shape := ⟨6, ![1, 16, 16, 4, 16, 256]⟩
abbrev S4x16x16x4x16x512 : Shape := ⟨6, ![4, 16, 16, 4, 16, 512]⟩
abbrev S4x16x16x4x16 : Shape := ⟨5, ![4, 16, 16, 4, 16]⟩
abbrev S4x16x16x4x16x1 : Shape := ⟨6, ![4, 16, 16, 4, 16, 1]⟩
abbrev S4x16x4x16x64x16 : Shape := ⟨6, ![4, 16, 4, 16, 64, 16]⟩
abbrev S4x16x64x16x4x16 : Shape := ⟨6, ![4, 16, 64, 16, 4, 16]⟩
abbrev S4096x1024 : Shape := ⟨2, ![4096, 1024]⟩

abbrev nBuf : Space → Nat
  | .hbm => 256
  | .vmem => 0
  | .smem => 0
  | _ => 0

abbrev hbmTy0_0 (i : Nat) : BufTy := match i % 128 with
  | 0 => ⟨S8192x4096, .f32⟩
  | 1 => ⟨S4x2x256x16x64, .f32⟩
  | 2 => ⟨S4x2x256x16x64, .f32⟩
  | 3 => ⟨S2x16x15x31, .f32⟩
  | 4 => ⟨S2x64, .f32⟩
  | 5 => ⟨S2x64, .f32⟩
  | 6 => ⟨S4096x4096, .f32⟩
  | 7 => ⟨S4x1024x4096, .f32⟩
  | 8 => ⟨S4x1024x1024, .f32⟩
  | 9 => ⟨S4x1024x1024, .f32⟩
  | 10 => ⟨S4x1024x1024, .f32⟩
  | 11 => ⟨S4x1024x1024, .f32⟩
  | 12 => ⟨S4x1024x16x64, .f32⟩
  | 13 => ⟨S1x64, .f32⟩
  | 14 => ⟨S64, .f32⟩
  | 15 => ⟨S4x1024x16x64, .f32⟩
  | 16 => ⟨S_, .f32⟩
  | 17 => ⟨S4x1024x16, .f32⟩
  | 18 => ⟨S4x1024x16x1, .f32⟩
  | 19 => ⟨S_, .f32⟩
  | 20 => ⟨S4x1024x16x1, .f32⟩
  | 21 => ⟨S4x1024x16x1, .f32⟩
  | 22 => ⟨S_, .f32⟩
  | 23 => ⟨S4x1024x16x1, .f32⟩
  | 24 => ⟨S4x1024x16x1, .f32⟩
  | 25 => ⟨S4x1024x16x1, .f32⟩
  | 26 => ⟨S4x1024x16x64, .f32⟩
  | 27 => ⟨S4x1024x16x64, .f32⟩
  | 28 => ⟨S1x1x1x64, .f32⟩
  | 29 => ⟨S4x1024x16x64, .f32⟩
  | 30 => ⟨S4x1024x16x64, .f32⟩
  | 31 => ⟨S4x1024x16x64, .f32⟩
  | 32 => ⟨S1x64, .f32⟩
  | 33 => ⟨S64, .f32⟩
  | 34 => ⟨S4x1024x16x64, .f32⟩
  | 35 => ⟨S_, .f32⟩
  | 36 => ⟨S4x1024x16, .f32⟩
  | 37 => ⟨S4x1024x16x1, .f32⟩
  | 38 => ⟨S_, .f32⟩
  | 39 => ⟨S4x1024x16x1, .f32⟩
  | 40 => ⟨S4x1024x16x1, .f32⟩
  | 41 => ⟨S_, .f32⟩
  | 42 => ⟨S4x1024x16x1, .f32⟩
  | 43 => ⟨S4x1024x16x1, .f32⟩
  | 44 => ⟨S4x1024x16x1, .f32⟩
  | 45 => ⟨S4x1024x16x64, .f32⟩
  | 46 => ⟨S4x1024x16x64, .f32⟩
  | 47 => ⟨S1x1x1x64, .f32⟩
  | 48 => ⟨S4x1024x16x64, .f32⟩
  | 49 => ⟨S4x1024x16x64, .f32⟩
  | 50 => ⟨S4x1024x16x64, .f32⟩
  | 51 => ⟨S4x1x256x16x64, .f32⟩
  | 52 => ⟨S4x256x16x64, .f32⟩
  | 53 => ⟨S4x1x256x16x64, .f32⟩
  | 54 => ⟨S4x256x16x64, .f32⟩
  | 55 => ⟨S1x16x15x31, .f32⟩
  | 56 => ⟨S16x15x31, .f32⟩
  | 57 => ⟨S16, .i32⟩
  | 58 => ⟨S_, .i32⟩
  | 59 => ⟨S16, .i32⟩
  | 60 => ⟨S16, .i32⟩
  | 61 => ⟨S_, .i32⟩
  | 62 => ⟨S_, .i32⟩
  | 63 => ⟨S_, .i32⟩
  | 64 => ⟨S16, .i32⟩
  | 65 => ⟨S16, .i32⟩
  | 66 => ⟨S_, .i32⟩
  | 67 => ⟨S16, .i32⟩
  | 68 => ⟨S16, .i32⟩
  | 69 => ⟨S16x1, .i32⟩
  | 70 => ⟨S8, .i32⟩
  | 71 => ⟨S1x8, .i32⟩
  | 72 => ⟨S16x8, .i32⟩
  | 73 => ⟨S16x8, .i32⟩
  | 74 => ⟨S16x8, .i32⟩
  | 75 => ⟨S4, .i32⟩
  | 76 => ⟨S_, .i32⟩
  | 77 => ⟨S4, .i32⟩
  | 78 => ⟨S4, .i32⟩
  | 79 => ⟨S_, .i32⟩
  | 80 => ⟨S4, .i32⟩
  | 81 => ⟨S4, .i32⟩
  | 82 => ⟨S_, .i32⟩
  | 83 => ⟨S_, .i32⟩
  | 84 => ⟨S_, .i32⟩
  | 85 => ⟨S4, .i32⟩
  | 86 => ⟨S4, .i32⟩
  | 87 => ⟨S_, .i32⟩
  | 88 => ⟨S4, .i32⟩
  | 89 => ⟨S4, .i32⟩
  | 90 => ⟨S4x1, .i32⟩
  | 91 => ⟨S32, .i32⟩
  | 92 => ⟨S1x32, .i32⟩
  | 93 => ⟨S4x32, .i32⟩
  | 94 => ⟨S4x32, .i32⟩
  | 95 => ⟨S4x32, .i32⟩
  | 96 => ⟨S4x1, .i32⟩
  | 97 => ⟨S16, .i32⟩
  | 98 => ⟨S1x16, .i32⟩
  | 99 => ⟨S4x16, .i32⟩
  | 100 => ⟨S4x16, .i32⟩
  | 101 => ⟨S4x16, .i32⟩
  | 102 => ⟨S_, .i32⟩
  | 103 => ⟨S4x16, .i32⟩
  | 104 => ⟨S4x16, .i32⟩
  | 105 => ⟨S_, .i32⟩
  | 106 => ⟨S_, .i32⟩
  | 107 => ⟨S_, .i32⟩
  | 108 => ⟨S4x16, .i32⟩
  | 109 => ⟨S4x16, .i32⟩
  | 110 => ⟨S_, .i32⟩
  | 111 => ⟨S4x16, .i32⟩
  | 112 => ⟨S4x16, .i32⟩
  | 113 => ⟨S4x16x1, .i32⟩
  | 114 => ⟨S4x1x32, .i32⟩
  | 115 => ⟨S4x16x32, .i32⟩
  | 116 => ⟨S4x16x32, .i32⟩
  | 117 => ⟨S4x16x32, .i1⟩
  | 118 => ⟨S4x1x32, .i32⟩
  | 119 => ⟨S_, .i32⟩
  | 120 => ⟨S4x16x1, .i32⟩
  | 121 => ⟨S4x16x1, .i32⟩
  | 122 => ⟨S4x16x32, .i32⟩
  | 123 => ⟨S4x16x32, .i32⟩
  | 124 => ⟨S4x16x32, .i1⟩
  | 125 => ⟨S4x16x32, .i1⟩
  | 126 => ⟨S16x1, .i32⟩
  | 127 => ⟨S16x8, .i32⟩
  | _ => ⟨S8192x4096, .f32⟩

abbrev hbmTy0_1 (i : Nat) : BufTy := match i % 128 with
  | 0 => ⟨S16x8, .i32⟩
  | 1 => ⟨S_, .i32⟩
  | 2 => ⟨S16x8, .i32⟩
  | 3 => ⟨S16x8, .i32⟩
  | 4 => ⟨S4x1x32, .i32⟩
  | 5 => ⟨S4x16x1, .i32⟩
  | 6 => ⟨S4x16x32, .i32⟩
  | 7 => ⟨S4x16x32, .i32⟩
  | 8 => ⟨S4x16x32, .i32⟩
  | 9 => ⟨S_, .i32⟩
  | 10 => ⟨S4x16x32, .i32⟩
  | 11 => ⟨S4x16x32, .i32⟩
  | 12 => ⟨S_, .i32⟩
  | 13 => ⟨S_, .i32⟩
  | 14 => ⟨S4x16x32, .i32⟩
  | 15 => ⟨S4x16x32, .i32⟩
  | 16 => ⟨S16x1x1x8x1, .i32⟩
  | 17 => ⟨S1x4x16x1x32, .i32⟩
  | 18 => ⟨S_, .i32⟩
  | 19 => ⟨S16x1x1x8x1, .i32⟩
  | 20 => ⟨S16x1x1x8x1, .i1⟩
  | 21 => ⟨S_, .i32⟩
  | 22 => ⟨S16x1x1x8x1, .i32⟩
  | 23 => ⟨S16x1x1x8x1, .i32⟩
  | 24 => ⟨S16x1x1x8x1, .i32⟩
  | 25 => ⟨S_, .i32⟩
  | 26 => ⟨S1x4x16x1x32, .i32⟩
  | 27 => ⟨S1x4x16x1x32, .i1⟩
  | 28 => ⟨S_, .i32⟩
  | 29 => ⟨S1x4x16x1x32, .i32⟩
  | 30 => ⟨S1x4x16x1x32, .i32⟩
  | 31 => ⟨S1x4x16x1x32, .i32⟩
  | 32 => ⟨S16x4x16x8x32, .i32⟩
  | 33 => ⟨S16x4x16x8x32, .i32⟩
  | 34 => ⟨S16x4x16x8x32x1, .i32⟩
  | 35 => ⟨S16x4x16x8x32x1, .i32⟩
  | 36 => ⟨S16x4x16x8x32x2, .i32⟩
  | 37 => ⟨S16x16x4x16x8x32, .f32⟩
  | 38 => ⟨S1x1x4x16x1x32, .i1⟩
  | 39 => ⟨S_, .f32⟩
  | 40 => ⟨S_, .f32⟩
  | 41 => ⟨S16x16x4x16x8x32, .i1⟩
  | 42 => ⟨S16x16x4x16x8x32, .f32⟩
  | 43 => ⟨S16x16x4x16x8x32, .f32⟩
  | 44 => ⟨S16x16x4x16x256, .f32⟩
  | 45 => ⟨S4x16x4x16x16x64, .f32⟩
  | 46 => ⟨S4x16x64x16x64, .f32⟩
  | 47 => ⟨S4x16x64x16x64, .f32⟩
  | 48 => ⟨S16x1x8x1, .i32⟩
  | 49 => ⟨S1x4x1x32, .i32⟩
  | 50 => ⟨S_, .i32⟩
  | 51 => ⟨S16x1x8x1, .i32⟩
  | 52 => ⟨S16x1x8x1, .i1⟩
  | 53 => ⟨S_, .i32⟩
  | 54 => ⟨S16x1x8x1, .i32⟩
  | 55 => ⟨S16x1x8x1, .i32⟩
  | 56 => ⟨S16x1x8x1, .i32⟩
  | 57 => ⟨S_, .i32⟩
  | 58 => ⟨S1x4x1x32, .i32⟩
  | 59 => ⟨S1x4x1x32, .i1⟩
  | 60 => ⟨S_, .i32⟩
  | 61 => ⟨S1x4x1x32, .i32⟩
  | 62 => ⟨S1x4x1x32, .i32⟩
  | 63 => ⟨S1x4x1x32, .i32⟩
  | 64 => ⟨S16x4x8x32, .i32⟩
  | 65 => ⟨S16x4x8x32, .i32⟩
  | 66 => ⟨S16x4x8x32x1, .i32⟩
  | 67 => ⟨S16x4x8x32x1, .i32⟩
  | 68 => ⟨S16x4x8x32x2, .i32⟩
  | 69 => ⟨S4x16x4x8x32x16x64, .f32⟩
  | 70 => ⟨S4x16x4x256x16x64, .f32⟩
  | 71 => ⟨S_, .i32⟩
  | 72 => ⟨S16x1x8x1, .i32⟩
  | 73 => ⟨S16x1x8x1, .i1⟩
  | 74 => ⟨S_, .i32⟩
  | 75 => ⟨S16x1x8x1, .i32⟩
  | 76 => ⟨S16x1x8x1, .i32⟩
  | 77 => ⟨S16x1x8x1, .i32⟩
  | 78 => ⟨S_, .i32⟩
  | 79 => ⟨S1x4x1x32, .i32⟩
  | 80 => ⟨S1x4x1x32, .i1⟩
  | 81 => ⟨S_, .i32⟩
  | 82 => ⟨S1x4x1x32, .i32⟩
  | 83 => ⟨S1x4x1x32, .i32⟩
  | 84 => ⟨S1x4x1x32, .i32⟩
  | 85 => ⟨S16x4x8x32, .i32⟩
  | 86 => ⟨S16x4x8x32, .i32⟩
  | 87 => ⟨S16x4x8x32x1, .i32⟩
  | 88 => ⟨S16x4x8x32x1, .i32⟩
  | 89 => ⟨S16x4x8x32x2, .i32⟩
  | 90 => ⟨S4x16x4x8x32x16x64, .f32⟩
  | 91 => ⟨S4x16x4x256x16x64, .f32⟩
  | 92 => ⟨S4x16x16x4x16x256, .f32⟩
  | 93 => ⟨S_, .f32⟩
  | 94 => ⟨S4x16x16x4x16x256, .f32⟩
  | 95 => ⟨S4x16x16x4x16x256, .f32⟩
  | 96 => ⟨S1x16x16x4x16x256, .f32⟩
  | 97 => ⟨S4x16x16x4x16x256, .f32⟩
  | 98 => ⟨S4x16x16x4x16x256, .f32⟩
  | 99 => ⟨S4x16x16x4x16x256, .f32⟩
  | 100 => ⟨S_, .f32⟩
  | 101 => ⟨S4x16x16x4x16x256, .f32⟩
  | 102 => ⟨S4x16x16x4x16x256, .f32⟩
  | 103 => ⟨S4x16x16x4x16x512, .f32⟩
  | 104 => ⟨S_, .f32⟩
  | 105 => ⟨S4x16x16x4x16, .f32⟩
  | 106 => ⟨S_, .f32⟩
  | 107 => ⟨S4x16x16x4x16, .f32⟩
  | 108 => ⟨S4x16x16x4x16, .f32⟩
  | 109 => ⟨S4x16x16x4x16x1, .f32⟩
  | 110 => ⟨S4x16x16x4x16x512, .f32⟩
  | 111 => ⟨S4x16x16x4x16x512, .f32⟩
  | 112 => ⟨S4x16x16x4x16x512, .f32⟩
  | 113 => ⟨S_, .f32⟩
  | 114 => ⟨S4x16x16x4x16, .f32⟩
  | 115 => ⟨S4x16x16x4x16x1, .f32⟩
  | 116 => ⟨S4x16x16x4x16x512, .f32⟩
  | 117 => ⟨S4x16x16x4x16x512, .f32⟩
  | 118 => ⟨S4x16x16x4x16x256, .f32⟩
  | 119 => ⟨S4x16x4x16x64x16, .f32⟩
  | 120 => ⟨S4x16x4x16x16x64, .f32⟩
  | 121 => ⟨S4x16x16x4x16x256, .f32⟩
  | 122 => ⟨S4x16x64x16x4x16, .f32⟩
  | 123 => ⟨S4x16x4x16x16x64, .f32⟩
  | 124 => ⟨S4x16x4x16x16x64, .f32⟩
  | 125 => ⟨S4x1024x16x64, .f32⟩
  | 126 => ⟨S4096x1024, .f32⟩
  | 127 => ⟨S4096x1024, .bf16⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_c : Ref sig .tc := ⟨.hbm, 58, rfl⟩
abbrev main_v46 : Ref sig .tc := ⟨.hbm, 59, rfl⟩
abbrev main_v47 : Ref sig .tc := ⟨.hbm, 60, rfl⟩
abbrev main_c_5 : Ref sig .tc := ⟨.hbm, 61, rfl⟩
abbrev main_c_6 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c_7 : Ref sig .tc := ⟨.hbm, 76, rfl⟩
abbrev main_v56 : Ref sig .tc := ⟨.hbm, 77, rfl⟩
abbrev main_v57 : Ref sig .tc := ⟨.hbm, 78, rfl⟩
abbrev main_c_8 : Ref sig .tc := ⟨.hbm, 79, rfl⟩
abbrev main_v58 : Ref sig .tc := ⟨.hbm, 80, rfl⟩
abbrev main_v59 : Ref sig .tc := ⟨.hbm, 81, rfl⟩
abbrev main_c_9 : Ref sig .tc := ⟨.hbm, 82, rfl⟩
abbrev main_c_10 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_11 : Ref sig .tc := ⟨.hbm, 102, rfl⟩
abbrev main_v73 : Ref sig .tc := ⟨.hbm, 103, rfl⟩
abbrev main_v74 : Ref sig .tc := ⟨.hbm, 104, rfl⟩
abbrev main_c_12 : Ref sig .tc := ⟨.hbm, 105, rfl⟩
abbrev main_c_13 : Ref sig .tc := ⟨.hbm, 106, rfl⟩
abbrev main_call2_v0 : Ref sig .tc := ⟨.hbm, 107, rfl⟩
abbrev main_call2_v1 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_c_14 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_c_15 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_c_16 : Ref sig .tc := ⟨.hbm, 137, rfl⟩
abbrev main_v98 : Ref sig .tc := ⟨.hbm, 138, rfl⟩
abbrev main_v99 : Ref sig .tc := ⟨.hbm, 139, rfl⟩
abbrev main_c_17 : Ref sig .tc := ⟨.hbm, 140, rfl⟩
abbrev main_call3_v0 : Ref sig .tc := ⟨.hbm, 141, rfl⟩
abbrev main_call3_v1 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_c_18 : Ref sig .tc := ⟨.hbm, 146, rfl⟩
abbrev main_v103 : Ref sig .tc := ⟨.hbm, 147, rfl⟩
abbrev main_v104 : Ref sig .tc := ⟨.hbm, 148, rfl⟩
abbrev main_c_19 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_c_20 : Ref sig .tc := ⟨.hbm, 153, rfl⟩
abbrev main_v108 : Ref sig .tc := ⟨.hbm, 154, rfl⟩
abbrev main_v109 : Ref sig .tc := ⟨.hbm, 155, rfl⟩
abbrev main_c_21 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_cst_22 : Ref sig .tc := ⟨.hbm, 167, rfl⟩
abbrev main_call4_v0 : Ref sig .tc := ⟨.hbm, 168, rfl⟩
abbrev main_call4_v1 : Ref sig .tc := ⟨.hbm, 169, rfl⟩
abbrev main_call4_v2 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_c_23 : Ref sig .tc := ⟨.hbm, 178, rfl⟩
abbrev main_v127 : Ref sig .tc := ⟨.hbm, 179, rfl⟩
abbrev main_v128 : Ref sig .tc := ⟨.hbm, 180, rfl⟩
abbrev main_c_24 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_c_25 : Ref sig .tc := ⟨.hbm, 185, rfl⟩
abbrev main_v132 : Ref sig .tc := ⟨.hbm, 186, rfl⟩
abbrev main_v133 : Ref sig .tc := ⟨.hbm, 187, rfl⟩
abbrev main_c_26 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_c_27 : Ref sig .tc := ⟨.hbm, 199, rfl⟩
abbrev main_v144 : Ref sig .tc := ⟨.hbm, 200, rfl⟩
abbrev main_v145 : Ref sig .tc := ⟨.hbm, 201, rfl⟩
abbrev main_c_28 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_c_29 : Ref sig .tc := ⟨.hbm, 206, rfl⟩
abbrev main_v149 : Ref sig .tc := ⟨.hbm, 207, rfl⟩
abbrev main_v150 : Ref sig .tc := ⟨.hbm, 208, rfl⟩
abbrev main_c_30 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_cst_31 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_cst_32 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_cst_33 : Ref sig .tc := ⟨.hbm, 232, rfl⟩
abbrev main_v171 : Ref sig .tc := ⟨.hbm, 233, rfl⟩
abbrev main_cst_34 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_cst_35 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩

abbrev nD : Nat := 1
abbrev τ : Topo := Topo.v7x

variable {F : FTy → Type} [FloatOps F]
-- ==== KernelUp.lean ====
abbrev S8192x2048 : Shape := ⟨2, ![8192, 2048]⟩
abbrev S2x2048x11264 : Shape := ⟨3, ![2, 2048, 11264]⟩
abbrev S8192x5632 : Shape := ⟨2, ![8192, 5632]⟩
abbrev S2048x2048 : Shape := ⟨2, ![2048, 2048]⟩
abbrev S1x2048x512 : Shape := ⟨3, ![1, 2048, 512]⟩
abbrev S2048x512 : Shape := ⟨2, ![2048, 512]⟩
abbrev S2048x256 : Shape := ⟨2, ![2048, 256]⟩

abbrev nBuf : Space → Nat
  | .hbm => 3
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2x2048x11264, .f32⟩
  | .hbm, ⟨2, _⟩ => ⟨S8192x5632, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceUpIdeal.lean ====
abbrev S8192x2048 : Shape := ⟨2, ![8192, 2048]⟩
abbrev S2x2048x11264 : Shape := ⟨3, ![2, 2048, 11264]⟩
abbrev S1x2048x11264 : Shape := ⟨3, ![1, 2048, 11264]⟩
abbrev S2048x11264 : Shape := ⟨2, ![2048, 11264]⟩
abbrev S8192x11264 : Shape := ⟨2, ![8192, 11264]⟩
abbrev S8192x5632 : Shape := ⟨2, ![8192, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x11264, .f32⟩
  | .hbm, ⟨2, _⟩ => ⟨S8192x2048, .f32⟩
  | .hbm, ⟨3, _⟩ => ⟨S1x2048x11264, .f32⟩
  | .hbm, ⟨4, _⟩ => ⟨S2048x11264, .f32⟩
  | .hbm, ⟨5, _⟩ => ⟨S8192x11264, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== KernelDown.lean ====
abbrev S8192x5632 : Shape := ⟨2, ![8192, 5632]⟩
abbrev S8192x2048 : Shape := ⟨2, ![8192, 2048]⟩
abbrev S8x6x2048 : Shape := ⟨3, ![8, 6, 2048]⟩
abbrev S2048 : Shape := ⟨1, ![2048]⟩
abbrev S2x5632x2048 : Shape := ⟨3, ![2, 5632, 2048]⟩
abbrev S1x5632x2048 : Shape := ⟨3, ![1, 5632, 2048]⟩
abbrev S1x2048 : Shape := ⟨2, ![1, 2048]⟩
abbrev S256x5632 : Shape := ⟨2, ![256, 5632]⟩
abbrev S256x2048 : Shape := ⟨2, ![256, 2048]⟩
abbrev S1x6x2048 : Shape := ⟨3, ![1, 6, 2048]⟩
abbrev S6x2048 : Shape := ⟨2, ![6, 2048]⟩
abbrev S5632x2048 : Shape := ⟨2, ![5632, 2048]⟩
abbrev S256 : Shape := ⟨1, ![256]⟩
abbrev S256x1 : Shape := ⟨2, ![256, 1]⟩

abbrev nBuf : Space → Nat
  | .hbm => 11
  | .vmem => 14
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S8x6x2048, .f32⟩
  | .hbm, ⟨3, _⟩ => ⟨S8x6x2048, .f32⟩
  | .hbm, ⟨4, _⟩ => ⟨S2048, .f32⟩
  | .hbm, ⟨5, _⟩ => ⟨S2x5632x2048, .f32⟩
  | .hbm, ⟨6, _⟩ => ⟨S1x5632x2048, .f32⟩
  | .hbm, ⟨7, _⟩ => ⟨S1x5632x2048, .bf16⟩
  | .hbm, ⟨8, _⟩ => ⟨S1x2048, .f32⟩
  | .hbm, ⟨9, _⟩ => ⟨S8192x2048, .f32⟩
  | .hbm, ⟨10, _⟩ => ⟨S8192x2048, .bf16⟩
  | .local _ .vmem, ⟨0, _⟩ => ⟨S256x5632, .bf16⟩
  | .local _ .vmem, ⟨1, _⟩ => ⟨S256x5632, .bf16⟩
  | .local _ .vmem, ⟨2, _⟩ => ⟨S1x5632x2048, .bf16⟩
  | .local _ .vmem, ⟨3, _⟩ => ⟨S256x2048, .f32⟩
  | .local _ .vmem, ⟨4, _⟩ => ⟨S256x2048, .f32⟩
  | .local _ .vmem, ⟨5, _⟩ => ⟨S1x6x2048, .f32⟩
  | .local _ .vmem, ⟨6, _⟩ => ⟨S1x6x2048, .f32⟩
  | .local _ .vmem, ⟨7, _⟩ => ⟨S1x6x2048, .f32⟩
  | .local _ .vmem, ⟨8, _⟩ => ⟨S1x6x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_4 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceDownIdeal.lean ====
abbrev S8192x5632 : Shape := ⟨2, ![8192, 5632]⟩
abbrev S8192x2048 : Shape := ⟨2, ![8192, 2048]⟩
abbrev S8x6x2048 : Shape := ⟨3, ![8, 6, 2048]⟩
abbrev S2048 : Shape := ⟨1, ![2048]⟩
abbrev S2x5632x2048 : Shape := ⟨3, ![2, 5632, 2048]⟩
abbrev S1x1x2048 : Shape := ⟨3, ![1, 1, 2048]⟩
abbrev S4096x2048 : Shape := ⟨2, ![4096, 2048]⟩
abbrev S4x1x2048 : Shape := ⟨3, ![4, 1, 2048]⟩
abbrev S4x2048 : Shape := ⟨2, ![4, 2048]⟩
abbrev S4x1024x2048 : Shape := ⟨3, ![4, 1024, 2048]⟩
abbrev S1x5632x2048 : Shape := ⟨3, ![1, 5632, 2048]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 58
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S8x6x2048, .f32⟩
  | .hbm, ⟨3, _⟩ => ⟨S8x6x2048, .f32⟩
  | .hbm, ⟨4, _⟩ => ⟨S2048, .f32⟩
  | .hbm, ⟨5, _⟩ => ⟨S2x5632x2048, .f32⟩
  | .hbm, ⟨6, _⟩ => ⟨S1x1x2048, .f32⟩
  | .hbm, ⟨7, _⟩ => ⟨S2048, .f32⟩
  | .hbm, ⟨8, _⟩ => ⟨S4096x2048, .f32⟩
  | .hbm, ⟨9, _⟩ => ⟨S4x1x2048, .f32⟩
  | .hbm, ⟨10, _⟩ => ⟨S4x2048, .f32⟩
  | .hbm, ⟨11, _⟩ => ⟨S4x1024x2048, .f32⟩
  | .hbm, ⟨12, _⟩ => ⟨S4096x2048, .f32⟩
  | .hbm, ⟨13, _⟩ => ⟨S8192x2048, .f32⟩
  | .hbm, ⟨14, _⟩ => ⟨S8192x5632, .f32⟩
  | .hbm, ⟨15, _⟩ => ⟨S1x5632x2048, .f32⟩
  | .hbm, ⟨16, _⟩ => ⟨S5632x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x2048, .f32⟩
  | .hbm, ⟨32, _⟩ => ⟨S8192x2048, .f32⟩
  | .hbm, ⟨33, _⟩ => ⟨S1x2048, .f32⟩
  | .hbm, ⟨34, _⟩ => ⟨S8192x2048, .f32⟩
  | .hbm, ⟨35, _⟩ => ⟨S8192x2048, .f32⟩
  | .hbm, ⟨36, _⟩ => ⟨S1x1x2048, .f32⟩
  | .hbm, ⟨37, _⟩ => ⟨S2048, .f32⟩
  | .hbm, ⟨38, _⟩ => ⟨S4096x2048, .f32⟩
  | .hbm, ⟨39, _⟩ => ⟨S4x1x2048, .f32⟩
  | .hbm, ⟨40, _⟩ => ⟨S4x2048, .f32⟩
  | .hbm, ⟨41, _⟩ => ⟨S4x1024x2048, .f32⟩
  | .hbm, ⟨42, _⟩ => ⟨S4096x2048, .f32⟩
  | .hbm, ⟨43, _⟩ => ⟨S8192x2048, .f32⟩
  | .hbm, ⟨44, _⟩ => ⟨S_, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S1x1x2048, .f32⟩
  | .hbm, ⟨49, _⟩ => ⟨S2048, .f32⟩
  | .hbm, ⟨50, _⟩ => ⟨S4096x2048, .f32⟩
  | .hbm, ⟨51, _⟩ => ⟨S4x1x2048, .f32⟩
  | .hbm, ⟨52, _⟩ => ⟨S4x2048, .f32⟩
  | .hbm, ⟨53, _⟩ => ⟨S4x1024x2048, .f32⟩
  | .hbm, ⟨54, _⟩ => ⟨S4096x2048, .f32⟩
  | .hbm, ⟨55, _⟩ => ⟨S8192x2048, .f32⟩
  | .hbm, ⟨56, _⟩ => ⟨S8192x2048, .f32⟩
  | .hbm, ⟨57, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩

abbrev nD : Nat := 1
abbrev τ : Topo := Topo.v7x

variable {F : FTy → Type} [FloatOps F]
-- ==== KernelMix.lean ====
abbrev S8192x2048 : Shape := ⟨2, ![8192, 2048]⟩
abbrev S4096x1024 : Shape := ⟨2, ![4096, 1024]⟩
abbrev S2x2048x4096 : Shape := ⟨3, ![2, 2048, 4096]⟩
abbrev S2x1024x2048 : Shape := ⟨3, ![2, 1024, 2048]⟩
abbrev S2x8x2048x512 : Shape := ⟨4, ![2, 8, 2048, 512]⟩
abbrev S1x2048x512 : Shape := ⟨3, ![1, 2048, 512]⟩
abbrev S1x1x2048x512 : Shape := ⟨4, ![1, 1, 2048, 512]⟩
abbrev S2048x512 : Shape := ⟨2, ![2048, 512]⟩
abbrev S2x4x1024x512 : Shape := ⟨4, ![2, 4, 1024, 512]⟩
abbrev S1x1024x512 : Shape := ⟨3, ![1, 1024, 512]⟩
abbrev S1x1x1024x512 : Shape := ⟨4, ![1, 1, 1024, 512]⟩
abbrev S1024x512 : Shape := ⟨2, ![1024, 512]⟩
abbrev S1024x2048 : Shape := ⟨2, ![1024, 2048]⟩
abbrev S1024x1024 : Shape := ⟨2, ![1024, 1024]⟩

abbrev nBuf : Space → Nat
  | .hbm => 12
  | .vmem => 32
  | .smem => 0
  | _ => 0

abbrev bufTy : (tb : Table) → Fin (tcTables nBuf tb) → BufTy
  | .hbm, ⟨0, _⟩ => ⟨S8192x2048, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S2x2048x4096, .f32⟩
  | .hbm, ⟨6, _⟩ => ⟨S2x1024x2048, .f32⟩
  | .hbm, ⟨7, _⟩ => ⟨S2x1024x2048, .f32⟩
  | .hbm, ⟨8, _⟩ => ⟨S2x8x2048x512, .bf16⟩
  | .hbm, ⟨9, _⟩ => ⟨S2x4x1024x512, .bf16⟩
  | .hbm, ⟨10, _⟩ => ⟨S2x4x1024x512, .bf16⟩
  | .hbm, ⟨11, _⟩ => ⟨S8192x2048, .bf16⟩
  | .local _ .vmem, ⟨0, _⟩ => ⟨S1x2048x512, .f32⟩
  | .local _ .vmem, ⟨1, _⟩ => ⟨S1x2048x512, .f32⟩
  | .local _ .vmem, ⟨2, _⟩ => ⟨S1x1x2048x512, .bf16⟩
  | .local _ .vmem, ⟨3, _⟩ => ⟨S1x1x2048x512, .bf16⟩
  | .local _ .vmem, ⟨4, _⟩ => ⟨S1x1024x512, .f32⟩
  | .local _ .vmem, ⟨5, _⟩ => ⟨S1x1024x512, .f32⟩
  | .local _ .vmem, ⟨6, _⟩ => ⟨S1x1x1024x512, .bf16⟩
  | .local _ .vmem, ⟨7, _⟩ => ⟨S1x1x1024x512, .bf16⟩
  | .local _ .vmem, ⟨8, _⟩ => ⟨S1x1024x512, .f32⟩
  | .local _ .vmem, ⟨9, _⟩ => ⟨S1x1024x512, .f32⟩
  | .local _ .vmem, ⟨10, _⟩ => ⟨S1x1x1024x512, .bf16⟩
  | .local _ .vmem, ⟨11, _⟩ => ⟨S1x1x1024x512, .bf16⟩
  | .local _ .vmem, ⟨12, _⟩ => ⟨S1024x2048, .bf16⟩
  | .local _ .vmem, ⟨13, _⟩ => ⟨S1024x2048, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1x1x2048x512, .bf16⟩
  | .local _ .vmem, ⟨23, _⟩ => ⟨S1x1x2048x512, .bf16⟩
  | .local _ .vmem, ⟨24, _⟩ => ⟨S1x1x2048x512, .bf16⟩
  | .local _ .vmem, ⟨25, _⟩ => ⟨S1x1x2048x512, .bf16⟩
  | .local _ .vmem, ⟨26, _⟩ => ⟨S1x1x1024x512, .bf16⟩
  | .local _ .vmem, ⟨27, _⟩ => ⟨S1x1x1024x512, .bf16⟩
  | .local _ .vmem, ⟨28, _⟩ => ⟨S1x1x1024x512, .bf16⟩
  | .local _ .vmem, ⟨29, _⟩ => ⟨S1x1x1024x512, .bf16⟩
  | .local _ .vmem, ⟨30, _⟩ => ⟨S1024x512, .bf16⟩
  | .local _ .vmem, ⟨31, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc3_stg2_0 : Ref sig .tc := ⟨.vmem, 16, rfl⟩
abbrev cc3_stg2_1 : Ref sig .tc := ⟨.vmem, 17, rfl⟩
abbrev cc3_stg3_0 : Ref sig .tc := ⟨.vmem, 18, rfl⟩
abbrev cc3_stg3_1 : Ref sig .tc := ⟨.vmem, 19, rfl⟩
abbrev cc3_stg4_0 : Ref sig .tc := ⟨.vmem, 20, rfl⟩
abbrev cc3_stg4_1 : Ref sig .tc := ⟨.vmem, 21, rfl⟩
abbrev cc3_stg5_0 : Ref sig .tc := ⟨.vmem, 22, rfl⟩
abbrev cc3_stg5_1 : Ref sig .tc := ⟨.vmem, 23, rfl⟩
abbrev cc3_stg6_0 : Ref sig .tc := ⟨.vmem, 24, rfl⟩
abbrev cc3_stg6_1 : Ref sig .tc := ⟨.vmem, 25, rfl⟩
abbrev cc3_stg7_0 : Ref sig .tc := ⟨.vmem, 26, rfl⟩
abbrev cc3_stg7_1 : Ref sig .tc := ⟨.vmem, 27, rfl⟩
abbrev cc3_stg8_0 : Ref sig .tc := ⟨.vmem, 28, rfl⟩
abbrev cc3_stg8_1 : Ref sig .tc := ⟨.vmem, 29, rfl⟩
abbrev cc3_stg9_0 : Ref sig .tc := ⟨.vmem, 30, rfl⟩
abbrev cc3_stg9_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15
abbrev cc3_sem2_0 : DmaSem sig := 16
abbrev cc3_sem2_1 : DmaSem sig := 17
abbrev cc3_sem3_0 : DmaSem sig := 18
abbrev cc3_sem3_1 : DmaSem sig := 19
abbrev cc3_sem4_0 : DmaSem sig := 20
abbrev cc3_sem4_1 : DmaSem sig := 21
abbrev cc3_sem5_0 : DmaSem sig := 22
abbrev cc3_sem5_1 : DmaSem sig := 23
abbrev cc3_sem6_0 : DmaSem sig := 24
abbrev cc3_sem6_1 : DmaSem sig := 25
abbrev cc3_sem7_0 : DmaSem sig := 26
abbrev cc3_sem7_1 : DmaSem sig := 27
abbrev cc3_sem8_0 : DmaSem sig := 28
abbrev cc3_sem8_1 : DmaSem sig := 29
abbrev cc3_sem9_0 : DmaSem sig := 30
abbrev cc3_sem9_1 : DmaSem sig := 31

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![2, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat, arg1.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := ⟨2, ![2, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat, arg1.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1x1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev grid3 : Pipeline.Grid := ⟨2, ![8, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc3_transform_2 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc3_transform_3 (i : grid3.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc3_transform_4 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc3_transform_5 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc3_transform_6 (i : grid3.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc3_transform_7 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc3_transform_8 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1024x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1024x1024 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S1x1x2048x512 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![false, true]

abbrev stage3_6 : Fin 2 → Memref sig .tc .vmem S1x1x2048x512 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![false, true]

abbrev stage3_7 : Fin 2 → Memref sig .tc .vmem S1x1x1024x512 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![false, true]

abbrev stage3_8 : Fin 2 → Memref sig .tc .vmem S1x1x1024x512 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![false, true]

abbrev stage3_9 : Fin 2 → Memref sig .tc .vmem S1024x512 .bf16 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]
-- ==== ReferenceMixIdeal.lean ====
abbrev S8192x2048 : Shape := ⟨2, ![8192, 2048]⟩
abbrev S4096x1024 : Shape := ⟨2, ![4096, 1024]⟩
abbrev S2x2048x4096 : Shape := ⟨3, ![2, 2048, 4096]⟩
abbrev S2x1024x2048 : Shape := ⟨3, ![2, 1024, 2048]⟩
abbrev S8192x1024 : Shape := ⟨2, ![8192, 1024]⟩
abbrev S1x1024x2048 : Shape := ⟨3, ![1, 1024, 2048]⟩
abbrev S1024x2048 : Shape := ⟨2, ![1024, 2048]⟩
abbrev S1x2048x4096 : Shape := ⟨3, ![1, 2048, 4096]⟩
abbrev S2048x4096 : Shape := ⟨2, ![2048, 4096]⟩
abbrev S8192x4096 : Shape := ⟨2, ![8192, 4096]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S2x2048x4096, .f32⟩
  | .hbm, ⟨6, _⟩ => ⟨S2x1024x2048, .f32⟩
  | .hbm, ⟨7, _⟩ => ⟨S2x1024x2048, .f32⟩
  | .hbm, ⟨8, _⟩ => ⟨S8192x1024, .bf16⟩
  | .hbm, ⟨9, _⟩ => ⟨S8192x1024, .f32⟩
  | .hbm, ⟨10, _⟩ => ⟨S8192x1024, .bf16⟩
  | .hbm, ⟨11, _⟩ => ⟨S8192x1024, .f32⟩
  | .hbm, ⟨12, _⟩ => ⟨S1x1024x2048, .f32⟩
  | .hbm, ⟨13, _⟩ => ⟨S1024x2048, .f32⟩
  | .hbm, ⟨14, _⟩ => ⟨S8192x2048, .f32⟩
  | .hbm, ⟨15, _⟩ => ⟨S1x1024x2048, .f32⟩
  | .hbm, ⟨16, _⟩ => ⟨S1024x2048, .f32⟩
  | .hbm, ⟨17, _⟩ => ⟨S8192x2048, .f32⟩
  | .hbm, ⟨18, _⟩ => ⟨S8192x2048, .f32⟩
  | .hbm, ⟨19, _⟩ => ⟨S1x2048x4096, .f32⟩
  | .hbm, ⟨20, _⟩ => ⟨S2048x4096, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S_, .f32⟩
  | .hbm, ⟨28, _⟩ => ⟨S8192x4096, .f32⟩
  | .hbm, ⟨29, _⟩ => ⟨S8192x4096, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== KernelIn.lean ====
abbrev S8192x2048 : Shape := ⟨2, ![8192, 2048]⟩
abbrev S2x2048x4096 : Shape := ⟨3, ![2, 2048, 4096]⟩
abbrev S8192x4096 : Shape := ⟨2, ![8192, 4096]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x4096, .f32⟩
  | .hbm, ⟨2, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceInIdeal.lean ====
abbrev S8192x2048 : Shape := ⟨2, ![8192, 2048]⟩
abbrev S2x2048x4096 : Shape := ⟨3, ![2, 2048, 4096]⟩
abbrev S1x2048x4096 : Shape := ⟨3, ![1, 2048, 4096]⟩
abbrev S2048x4096 : Shape := ⟨2, ![2048, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x4096, .f32⟩
  | .hbm, ⟨2, _⟩ => ⟨S8192x2048, .f32⟩
  | .hbm, ⟨3, _⟩ => ⟨S1x2048x4096, .f32⟩
  | .hbm, ⟨4, _⟩ => ⟨S2048x4096, .f32⟩
  | .hbm, ⟨5, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelOut.lean ====
abbrev S8192x2048 : Shape := ⟨2, ![8192, 2048]⟩
abbrev S4096x2048 : Shape := ⟨2, ![4096, 2048]⟩
abbrev S8x6x2048 : Shape := ⟨3, ![8, 6, 2048]⟩
abbrev S2048 : Shape := ⟨1, ![2048]⟩
abbrev S2x2048x2048 : Shape := ⟨3, ![2, 2048, 2048]⟩
abbrev S1x2048 : Shape := ⟨2, ![1, 2048]⟩
abbrev S512x2048 : Shape := ⟨2, ![512, 2048]⟩
abbrev S1x2048x2048 : Shape := ⟨3, ![1, 2048, 2048]⟩
abbrev S1x6x2048 : Shape := ⟨3, ![1, 6, 2048]⟩
abbrev S6x2048 : Shape := ⟨2, ![6, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 10
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S4096x2048, .f32⟩
  | .hbm, ⟨2, _⟩ => ⟨S4096x2048, .f32⟩
  | .hbm, ⟨3, _⟩ => ⟨S8x6x2048, .f32⟩
  | .hbm, ⟨4, _⟩ => ⟨S2048, .f32⟩
  | .hbm, ⟨5, _⟩ => ⟨S2x2048x2048, .f32⟩
  | .hbm, ⟨6, _⟩ => ⟨S2x2048x2048, .bf16⟩
  | .hbm, ⟨7, _⟩ => ⟨S1x2048, .f32⟩
  | .hbm, ⟨8, _⟩ => ⟨S8192x2048, .f32⟩
  | .hbm, ⟨9, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S1x6x2048, .f32⟩
  | .local _ .vmem, ⟨4, _⟩ => ⟨S1x6x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceOutIdeal.lean ====
abbrev S8192x2048 : Shape := ⟨2, ![8192, 2048]⟩
abbrev S4096x2048 : Shape := ⟨2, ![4096, 2048]⟩
abbrev S8x6x2048 : Shape := ⟨3, ![8, 6, 2048]⟩
abbrev S2048 : Shape := ⟨1, ![2048]⟩
abbrev S2x2048x2048 : Shape := ⟨3, ![2, 2048, 2048]⟩
abbrev S1x1x2048 : Shape := ⟨3, ![1, 1, 2048]⟩
abbrev S4x1x2048 : Shape := ⟨3, ![4, 1, 2048]⟩
abbrev S4x2048 : Shape := ⟨2, ![4, 2048]⟩
abbrev S4x1024x2048 : Shape := ⟨3, ![4, 1024, 2048]⟩
abbrev S1x2048x2048 : Shape := ⟨3, ![1, 2048, 2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 59
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4096x2048, .f32⟩
  | .hbm, ⟨2, _⟩ => ⟨S4096x2048, .f32⟩
  | .hbm, ⟨3, _⟩ => ⟨S8x6x2048, .f32⟩
  | .hbm, ⟨4, _⟩ => ⟨S2048, .f32⟩
  | .hbm, ⟨5, _⟩ => ⟨S2x2048x2048, .f32⟩
  | .hbm, ⟨6, _⟩ => ⟨S8192x2048, .f32⟩
  | .hbm, ⟨7, _⟩ => ⟨S1x1x2048, .f32⟩
  | .hbm, ⟨8, _⟩ => ⟨S2048, .f32⟩
  | .hbm, ⟨9, _⟩ => ⟨S4096x2048, .f32⟩
  | .hbm, ⟨10, _⟩ => ⟨S4x1x2048, .f32⟩
  | .hbm, ⟨11, _⟩ => ⟨S4x2048, .f32⟩
  | .hbm, ⟨12, _⟩ => ⟨S4x1024x2048, .f32⟩
  | .hbm, ⟨13, _⟩ => ⟨S4096x2048, .f32⟩
  | .hbm, ⟨14, _⟩ => ⟨S8192x2048, .f32⟩
  | .hbm, ⟨15, _⟩ => ⟨S8192x2048, .f32⟩
  | .hbm, ⟨16, _⟩ => ⟨S1x2048x2048, .f32⟩
  | .hbm, ⟨17, _⟩ => ⟨S2048x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S1x1x2048, .f32⟩
  | .hbm, ⟨38, _⟩ => ⟨S2048, .f32⟩
  | .hbm, ⟨39, _⟩ => ⟨S4096x2048, .f32⟩
  | .hbm, ⟨40, _⟩ => ⟨S4x1x2048, .f32⟩
  | .hbm, ⟨41, _⟩ => ⟨S4x2048, .f32⟩
  | .hbm, ⟨42, _⟩ => ⟨S4x1024x2048, .f32⟩
  | .hbm, ⟨43, _⟩ => ⟨S4096x2048, .f32⟩
  | .hbm, ⟨44, _⟩ => ⟨S8192x2048, .f32⟩
  | .hbm, ⟨45, _⟩ => ⟨S_, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S1x1x2048, .f32⟩
  | .hbm, ⟨50, _⟩ => ⟨S2048, .f32⟩
  | .hbm, ⟨51, _⟩ => ⟨S4096x2048, .f32⟩
  | .hbm, ⟨52, _⟩ => ⟨S4x1x2048, .f32⟩
  | .hbm, ⟨53, _⟩ => ⟨S4x2048, .f32⟩
  | .hbm, ⟨54, _⟩ => ⟨S4x1024x2048, .f32⟩
  | .hbm, ⟨55, _⟩ => ⟨S4096x2048, .f32⟩
  | .hbm, ⟨56, _⟩ => ⟨S8192x2048, .f32⟩
  | .hbm, ⟨57, _⟩ => ⟨S8192x2048, .f32⟩
  | .hbm, ⟨58, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩

abbrev nD : Nat := 1
abbrev τ : Topo := Topo.v7x

variable {F : FTy → Type} [FloatOps F]
-- ==== KernelKv.lean ====
abbrev S8192x4096 : Shape := ⟨2, ![8192, 4096]⟩
abbrev S2x64 : Shape := ⟨2, ![2, 64]⟩
abbrev S1x64 : Shape := ⟨2, ![1, 64]⟩
abbrev S64 : Shape := ⟨1, ![64]⟩
abbrev S128 : Shape := ⟨1, ![128]⟩
abbrev S1x128 : Shape := ⟨2, ![1, 128]⟩
abbrev S4096x1024 : Shape := ⟨2, ![4096, 1024]⟩
abbrev S16x2x16x64x256 : Shape := ⟨5, ![16, 2, 16, 64, 256]⟩
abbrev S256x1024 : Shape := ⟨2, ![256, 1024]⟩
abbrev S1x2x16x64x256 : Shape := ⟨5, ![1, 2, 16, 64, 256]⟩
abbrev S8x512x256 : Shape := ⟨3, ![8, 512, 256]⟩
abbrev S8x512x128 : Shape := ⟨3, ![8, 512, 128]⟩
abbrev S16x64x256 : Shape := ⟨3, ![16, 64, 256]⟩
abbrev S1x1x16x64x256 : Shape := ⟨5, ![1, 1, 16, 64, 256]⟩
abbrev S256x128 : Shape := ⟨2, ![256, 128]⟩
abbrev S1024x256 : Shape := ⟨2, ![1024, 256]⟩
abbrev S2x16x64x256 : Shape := ⟨4, ![2, 16, 64, 256]⟩
abbrev S1x16x64x256 : Shape := ⟨4, ![1, 16, 64, 256]⟩
abbrev S256 : Shape := ⟨1, ![256]⟩
abbrev S256x1 : Shape := ⟨2, ![256, 1]⟩
abbrev S512x128 : Shape := ⟨2, ![512, 128]⟩
abbrev S512x256 : Shape := ⟨2, ![512, 256]⟩
abbrev S1x512x256 : Shape := ⟨3, ![1, 512, 256]⟩
abbrev S512 : Shape := ⟨1, ![512]⟩
abbrev S512x1 : Shape := ⟨2, ![512, 1]⟩
abbrev S1x512x128 : Shape := ⟨3, ![1, 512, 128]⟩
abbrev S16x2x256x16x64 : Shape := ⟨5, ![16, 2, 256, 16, 64]⟩

abbrev nBuf : Space → Nat
  | .hbm => 36
  | .vmem => 36
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S2x64, .f32⟩
  | .hbm, ⟨3, _⟩ => ⟨S2x64, .f32⟩
  | .hbm, ⟨4, _⟩ => ⟨S1x64, .f32⟩
  | .hbm, ⟨5, _⟩ => ⟨S64, .f32⟩
  | .hbm, ⟨6, _⟩ => ⟨S1x64, .f32⟩
  | .hbm, ⟨7, _⟩ => ⟨S2x64, .f32⟩
  | .hbm, ⟨8, _⟩ => ⟨S128, .f32⟩
  | .hbm, ⟨9, _⟩ => ⟨S1x128, .f32⟩
  | .hbm, ⟨10, _⟩ => ⟨S1x64, .f32⟩
  | .hbm, ⟨11, _⟩ => ⟨S64, .f32⟩
  | .hbm, ⟨12, _⟩ => ⟨S1x64, .f32⟩
  | .hbm, ⟨13, _⟩ => ⟨S2x64, .f32⟩
  | .hbm, ⟨14, _⟩ => ⟨S128, .f32⟩
  | .hbm, ⟨15, _⟩ => ⟨S1x128, .f32⟩
  | .hbm, ⟨16, _⟩ => ⟨S4096x1024, .bf16⟩
  | .hbm, ⟨17, _⟩ => ⟨S16x2x16x64x256, .f32⟩
  | .hbm, ⟨18, _⟩ => ⟨S16x2x16x64x256, .f32⟩
  | .hbm, ⟨19, _⟩ => ⟨S1x64, .f32⟩
  | .hbm, ⟨20, _⟩ => ⟨S64, .f32⟩
  | .hbm, ⟨21, _⟩ => ⟨S1x64, .f32⟩
  | .hbm, ⟨22, _⟩ => ⟨S2x64, .f32⟩
  | .hbm, ⟨23, _⟩ => ⟨S128, .f32⟩
  | .hbm, ⟨24, _⟩ => ⟨S1x128, .f32⟩
  | .hbm, ⟨25, _⟩ => ⟨S1x64, .f32⟩
  | .hbm, ⟨26, _⟩ => ⟨S64, .f32⟩
  | .hbm, ⟨27, _⟩ => ⟨S1x64, .f32⟩
  | .hbm, ⟨28, _⟩ => ⟨S2x64, .f32⟩
  | .hbm, ⟨29, _⟩ => ⟨S128, .f32⟩
  | .hbm, ⟨30, _⟩ => ⟨S1x128, .f32⟩
  | .hbm, ⟨31, _⟩ => ⟨S4096x1024, .bf16⟩
  | .hbm, ⟨32, _⟩ => ⟨S16x2x16x64x256, .f32⟩
  | .hbm, ⟨33, _⟩ => ⟨S16x2x16x64x256, .f32⟩
  | .hbm, ⟨34, _⟩ => ⟨S16x2x256x16x64, .f32⟩
  | .hbm, ⟨35, _⟩ => ⟨S16x2x256x16x64, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x128, .f32⟩
  | .local _ .vmem, ⟨7, _⟩ => ⟨S1x128, .f32⟩
  | .local _ .vmem, ⟨8, _⟩ => ⟨S256x1024, .bf16⟩
  | .local _ .vmem, ⟨9, _⟩ => ⟨S256x1024, .bf16⟩
  | .local _ .vmem, ⟨10, _⟩ => ⟨S1x2x16x64x256, .f32⟩
  | .local _ .vmem, ⟨11, _⟩ => ⟨S1x2x16x64x256, .f32⟩
  | .local _ .vmem, ⟨12, _⟩ => ⟨S1x2x16x64x256, .f32⟩
  | .local _ .vmem, ⟨13, _⟩ => ⟨S1x2x16x64x256, .f32⟩
  | .local _ .vmem, ⟨14, _⟩ => ⟨S8x512x256, .f32⟩
  | .local _ .vmem, ⟨15, _⟩ => ⟨S8x512x256, .bf16⟩
  | .local _ .vmem, ⟨16, _⟩ => ⟨S8x512x128, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S1x128, .f32⟩
  | .local _ .vmem, ⟨25, _⟩ => ⟨S1x128, .f32⟩
  | .local _ .vmem, ⟨26, _⟩ => ⟨S256x1024, .bf16⟩
  | .local _ .vmem, ⟨27, _⟩ => ⟨S256x1024, .bf16⟩
  | .local _ .vmem, ⟨28, _⟩ => ⟨S1x1x16x64x256, .f32⟩
  | .local _ .vmem, ⟨29, _⟩ => ⟨S1x1x16x64x256, .f32⟩
  | .local _ .vmem, ⟨30, _⟩ => ⟨S1x1x16x64x256, .f32⟩
  | .local _ .vmem, ⟨31, _⟩ => ⟨S1x1x16x64x256, .f32⟩
  | .local _ .vmem, ⟨32, _⟩ => ⟨S8x512x256, .f32⟩
  | .local _ .vmem, ⟨33, _⟩ => ⟨S8x512x256, .bf16⟩
  | .local _ .vmem, ⟨34, _⟩ => ⟨S8x512x128, .f32⟩
  | .local _ .vmem, ⟨35, _⟩ => ⟨S256x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25_0 : Ref sig .tc := ⟨.hbm, 31, rfl⟩
abbrev main_v25_1 : Ref sig .tc := ⟨.hbm, 32, rfl⟩
abbrev main_v25_2 : Ref sig .tc := ⟨.hbm, 33, rfl⟩
abbrev main_v26 : Ref sig .tc := ⟨.hbm, 34, rfl⟩
abbrev main_v27 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc1_scratch0 : Ref sig .tc := ⟨.vmem, 32, rfl⟩
abbrev cc1_scratch1 : Ref sig .tc := ⟨.vmem, 33, rfl⟩
abbrev cc1_scratch2 : Ref sig .tc := ⟨.vmem, 34, rfl⟩
abbrev cc1_scratch3 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_7 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x16x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x16x64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_2 (i : grid1.Coords) : Fin 2 → Nat :=
  let arg0 : BitVec 32 := BitVec.ofNat 32 (i 0).val
  let c2_i32 : BitVec 32 := 2#32
  let c0_i32 : BitVec 32 := 0#32
  ![arg0.toNat, c2_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![arg0.toNat, c1_i32.toNat, c0_i32.toNat, c0_i32_0.toNat, c0_i32_1.toNat]

def cc1_transform_9 (i : grid1.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![arg0.toNat, c1_i32.toNat, c0_i32.toNat, c0_i32_0.toNat, c0_i32_1.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x16x64x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x1x16x64x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceKvIdeal.lean ====
abbrev S8192x4096 : Shape := ⟨2, ![8192, 4096]⟩
abbrev S2x64 : Shape := ⟨2, ![2, 64]⟩
abbrev S4096x4096 : Shape := ⟨2, ![4096, 4096]⟩
abbrev S16x256x4096 : Shape := ⟨3, ![16, 256, 4096]⟩
abbrev S16x256x1024 : Shape := ⟨3, ![16, 256, 1024]⟩
abbrev S16x256x16x64 : Shape := ⟨4, ![16, 256, 16, 64]⟩
abbrev S1x64 : Shape := ⟨2, ![1, 64]⟩
abbrev S64 : Shape := ⟨1, ![64]⟩
abbrev S_ : Shape := ⟨0, ![]⟩
abbrev S16x256x16 : Shape := ⟨3, ![16, 256, 16]⟩
abbrev S16x256x16x1 : Shape := ⟨4, ![16, 256, 16, 1]⟩
abbrev S1x1x1x64 : Shape := ⟨4, ![1, 1, 1, 64]⟩
abbrev S16x1x256x16x64 : Shape := ⟨5, ![16, 1, 256, 16, 64]⟩
abbrev S16x2x256x16x64 : Shape := ⟨5, ![16, 2, 256, 16, 64]⟩

abbrev nBuf : Space → Nat
  | .hbm => 62
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S2x64, .f32⟩
  | .hbm, ⟨3, _⟩ => ⟨S2x64, .f32⟩
  | .hbm, ⟨4, _⟩ => ⟨S4096x4096, .f32⟩
  | .hbm, ⟨5, _⟩ => ⟨S16x256x4096, .f32⟩
  | .hbm, ⟨6, _⟩ => ⟨S16x256x1024, .f32⟩
  | .hbm, ⟨7, _⟩ => ⟨S16x256x1024, .f32⟩
  | .hbm, ⟨8, _⟩ => ⟨S16x256x1024, .f32⟩
  | .hbm, ⟨9, _⟩ => ⟨S16x256x1024, .f32⟩
  | .hbm, ⟨10, _⟩ => ⟨S16x256x16x64, .f32⟩
  | .hbm, ⟨11, _⟩ => ⟨S1x64, .f32⟩
  | .hbm, ⟨12, _⟩ => ⟨S64, .f32⟩
  | .hbm, ⟨13, _⟩ => ⟨S16x256x16x64, .f32⟩
  | .hbm, ⟨14, _⟩ => ⟨S_, .f32⟩
  | .hbm, ⟨15, _⟩ => ⟨S16x256x16, .f32⟩
  | .hbm, ⟨16, _⟩ => ⟨S16x256x16x1, .f32⟩
  | .hbm, ⟨17, _⟩ => ⟨S_, .f32⟩
  | .hbm, ⟨18, _⟩ => ⟨S16x256x16x1, .f32⟩
  | .hbm, ⟨19, _⟩ => ⟨S16x256x16x1, .f32⟩
  | .hbm, ⟨20, _⟩ => ⟨S_, .f32⟩
  | .hbm, ⟨21, _⟩ => ⟨S16x256x16x1, .f32⟩
  | .hbm, ⟨22, _⟩ => ⟨S16x256x16x1, .f32⟩
  | .hbm, ⟨23, _⟩ => ⟨S16x256x16x1, .f32⟩
  | .hbm, ⟨24, _⟩ => ⟨S16x256x16x64, .f32⟩
  | .hbm, ⟨25, _⟩ => ⟨S16x256x16x64, .f32⟩
  | .hbm, ⟨26, _⟩ => ⟨S1x1x1x64, .f32⟩
  | .hbm, ⟨27, _⟩ => ⟨S16x256x16x64, .f32⟩
  | .hbm, ⟨28, _⟩ => ⟨S16x256x16x64, .f32⟩
  | .hbm, ⟨29, _⟩ => ⟨S16x256x16x64, .f32⟩
  | .hbm, ⟨30, _⟩ => ⟨S4096x4096, .f32⟩
  | .hbm, ⟨31, _⟩ => ⟨S16x256x4096, .f32⟩
  | .hbm, ⟨32, _⟩ => ⟨S16x256x1024, .f32⟩
  | .hbm, ⟨33, _⟩ => ⟨S16x256x1024, .f32⟩
  | .hbm, ⟨34, _⟩ => ⟨S16x256x1024, .f32⟩
  | .hbm, ⟨35, _⟩ => ⟨S16x256x1024, .f32⟩
  | .hbm, ⟨36, _⟩ => ⟨S16x256x16x64, .f32⟩
  | .hbm, ⟨37, _⟩ => ⟨S1x64, .f32⟩
  | .hbm, ⟨38, _⟩ => ⟨S64, .f32⟩
  | .hbm, ⟨39, _⟩ => ⟨S16x256x16x64, .f32⟩
  | .hbm, ⟨40, _⟩ => ⟨S_, .f32⟩
  | .hbm, ⟨41, _⟩ => ⟨S16x256x16, .f32⟩
  | .hbm, ⟨42, _⟩ => ⟨S16x256x16x1, .f32⟩
  | .hbm, ⟨43, _⟩ => ⟨S_, .f32⟩
  | .hbm, ⟨44, _⟩ => ⟨S16x256x16x1, .f32⟩
  | .hbm, ⟨45, _⟩ => ⟨S16x256x16x1, .f32⟩
  | .hbm, ⟨46, _⟩ => ⟨S_, .f32⟩
  | .hbm, ⟨47, _⟩ => ⟨S16x256x16x1, .f32⟩
  | .hbm, ⟨48, _⟩ => ⟨S16x256x16x1, .f32⟩
  | .hbm, ⟨49, _⟩ => ⟨S16x256x16x1, .f32⟩
  | .hbm, ⟨50, _⟩ => ⟨S16x256x16x64, .f32⟩
  | .hbm, ⟨51, _⟩ => ⟨S16x256x16x64, .f32⟩
  | .hbm, ⟨52, _⟩ => ⟨S1x1x1x64, .f32⟩
  | .hbm, ⟨53, _⟩ => ⟨S16x256x16x64, .f32⟩
  | .hbm, ⟨54, _⟩ => ⟨S16x256x16x64, .f32⟩
  | .hbm, ⟨55, _⟩ => ⟨S16x256x16x64, .f32⟩
  | .hbm, ⟨56, _⟩ => ⟨S16x1x256x16x64, .f32⟩
  | .hbm, ⟨57, _⟩ => ⟨S16x1x256x16x64, .f32⟩
  | .hbm, ⟨58, _⟩ => ⟨S16x2x256x16x64, .f32⟩
  | .hbm, ⟨59, _⟩ => ⟨S16x1x256x16x64, .f32⟩
  | .hbm, ⟨60, _⟩ => ⟨S16x1x256x16x64, .f32⟩
  | .hbm, ⟨61, _⟩ => ⟨S16x2x256x16x64, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩

abbrev nD : Nat := 1
abbrev τ : Topo := Topo.v7x

variable {F : FTy → Type} [FloatOps F]
-- ==== KernelLast.lean ====
abbrev S8192x5632 : Shape := ⟨2, ![8192, 5632]⟩
abbrev S8192x2048 : Shape := ⟨2, ![8192, 2048]⟩
abbrev S8x6x2048 : Shape := ⟨3, ![8, 6, 2048]⟩
abbrev S2x5632x2048 : Shape := ⟨3, ![2, 5632, 2048]⟩
abbrev S1x4x5632x512 : Shape := ⟨4, ![1, 4, 5632, 512]⟩
abbrev S1x5632x512 : Shape := ⟨3, ![1, 5632, 512]⟩
abbrev S1x1x5632x512 : Shape := ⟨4, ![1, 1, 5632, 512]⟩
abbrev S5632x512 : Shape := ⟨2, ![5632, 512]⟩
abbrev S4096x2048 : Shape := ⟨2, ![4096, 2048]⟩
abbrev S1024x5632 : Shape := ⟨2, ![1024, 5632]⟩
abbrev S1024x512 : Shape := ⟨2, ![1024, 512]⟩
abbrev S1x6x512 : Shape := ⟨3, ![1, 6, 512]⟩
abbrev S6x512 : Shape := ⟨2, ![6, 512]⟩
abbrev S1x512 : Shape := ⟨2, ![1, 512]⟩

abbrev nBuf : Space → Nat
  | .hbm => 7
  | .vmem => 16
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S8x6x2048, .f32⟩
  | .hbm, ⟨3, _⟩ => ⟨S2x5632x2048, .f32⟩
  | .hbm, ⟨4, _⟩ => ⟨S1x4x5632x512, .bf16⟩
  | .hbm, ⟨5, _⟩ => ⟨S4096x2048, .f32⟩
  | .hbm, ⟨6, _⟩ => ⟨S4096x2048, .f32⟩
  | .local _ .vmem, ⟨0, _⟩ => ⟨S1x5632x512, .f32⟩
  | .local _ .vmem, ⟨1, _⟩ => ⟨S1x5632x512, .f32⟩
  | .local _ .vmem, ⟨2, _⟩ => ⟨S1x1x5632x512, .bf16⟩
  | .local _ .vmem, ⟨3, _⟩ => ⟨S1x1x5632x512, .bf16⟩
  | .local _ .vmem, ⟨4, _⟩ => ⟨S1024x5632, .bf16⟩
  | .local _ .vmem, ⟨5, _⟩ => ⟨S1024x5632, .bf16⟩
  | .local _ .vmem, ⟨6, _⟩ => ⟨S1x1x5632x512, .bf16⟩
  | .local _ .vmem, ⟨7, _⟩ => ⟨S1x1x5632x512, .bf16⟩
  | .local _ .vmem, ⟨8, _⟩ => ⟨S1024x512, .f32⟩
  | .local _ .vmem, ⟨9, _⟩ => ⟨S1024x512, .f32⟩
  | .local _ .vmem, ⟨10, _⟩ => ⟨S1x6x512, .f32⟩
  | .local _ .vmem, ⟨11, _⟩ => ⟨S1x6x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x5632x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![8, 4], ![false, false]⟩

def k1_cond1 (i : grid1.Coords) : BitVec 1 :=
  let arg0 : BitVec 32 := BitVec.ofNat 32 (i 0).val
  let c4_i32 : BitVec 32 := 4#32
  let v11 : BitVec 1 := Scalar.cmpi .slt arg0 c4_i32
  let v12 : BitVec 32 := Scalar.extui v11
  let c0_i32 : BitVec 32 := 0#32
  let v13 : BitVec 1 := Scalar.cmpi .ne v12 c0_i32
  v13

def k1_cond2 (i : grid1.Coords) : BitVec 1 :=
  let arg0 : BitVec 32 := BitVec.ofNat 32 (i 0).val
  let c4_i32 : BitVec 32 := 4#32
  let v11 : BitVec 1 := Scalar.cmpi .slt arg0 c4_i32
  let v_true : BitVec 1 := 1#1
  let v14 : BitVec 1 := Scalar.xori v11 v_true
  let v15 : BitVec 32 := Scalar.extui v14
  let c0_i32_10 : BitVec 32 := 0#32
  let v16 : BitVec 1 := Scalar.cmpi .ne v15 c0_i32_10
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c1024_i32_1 : BitVec 32 := 1024#32
  let v3 : BitVec 32 := Scalar.divsi v2 c1024_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c1024_i32_1 c0_i32_3
  let v10 : BitVec 32 := Scalar.extui v9
  let c0_i32_4 : BitVec 32 := 0#32
  let v11 : BitVec 1 := Scalar.cmpi .slt c1024_i32_1 c0_i32_4
  let v12 : BitVec 32 := Scalar.extui v11
  let v13 : BitVec 32 := Scalar.subi v10 v12
  let v14 : BitVec 1 := Scalar.cmpi .ne v8 v13
  let v15 : BitVec 32 := Scalar.remsi v2 c1024_i32_1
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v1 c0_i32_7 v20
  let c0_i32_8 : BitVec 32 := 0#32
  let c0_i32_9 : BitVec 32 := 0#32
  ![v21.toNat, c0_i32_8.toNat, arg1.toNat]

def cc1_transform_4 (i : grid1.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c4_i32 : BitVec 32 := 4#32
  let v1 : BitVec 1 := Scalar.cmpi .slt arg0 c4_i32
  let c3_i32_0 : BitVec 32 := 3#32
  let v2 : BitVec 32 := Scalar.select v1 arg1 c3_i32_0
  let c0_i32 : BitVec 32 := 0#32
  ![v0.toNat, v2.toNat]

def cc1_transform_5 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c4_i32_0 : BitVec 32 := 4#32
  let v2 : BitVec 1 := Scalar.cmpi .slt arg0 c4_i32_0
  let c0_i32_1 : BitVec 32 := 0#32
  let v3 : BitVec 32 := Scalar.select v2 c0_i32_1 arg1
  let c0_i32_2 : BitVec 32 := 0#32
  ![v1.toNat, v3.toNat]

abbrev stage1_0 : Fin 2 → Memref sig .tc .vmem S1024x5632 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1x5632x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x6x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== ReferenceLastIdeal.lean ====
abbrev S8192x5632 : Shape := ⟨2, ![8192, 5632]⟩
abbrev S8192x2048 : Shape := ⟨2, ![8192, 2048]⟩
abbrev S8x6x2048 : Shape := ⟨3, ![8, 6, 2048]⟩
abbrev S2x5632x2048 : Shape := ⟨3, ![2, 5632, 2048]⟩
abbrev S1x5632x2048 : Shape := ⟨3, ![1, 5632, 2048]⟩
abbrev S5632x2048 : Shape := ⟨2, ![5632, 2048]⟩
abbrev S4096x2048 : Shape := ⟨2, ![4096, 2048]⟩
abbrev S1x1x2048 : Shape := ⟨3, ![1, 1, 2048]⟩
abbrev S2048 : Shape := ⟨1, ![2048]⟩
abbrev S1x2048 : Shape := ⟨2, ![1, 2048]⟩
abbrev S4x1024x2048 : Shape := ⟨3, ![4, 1024, 2048]⟩
abbrev S4x1x2048 : Shape := ⟨3, ![4, 1, 2048]⟩
abbrev S4x2048 : Shape := ⟨2, ![4, 2048]⟩

abbrev nBuf : Space → Nat
  | .hbm => 27
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S8x6x2048, .f32⟩
  | .hbm, ⟨3, _⟩ => ⟨S2x5632x2048, .f32⟩
  | .hbm, ⟨4, _⟩ => ⟨S8192x5632, .f32⟩
  | .hbm, ⟨5, _⟩ => ⟨S1x5632x2048, .f32⟩
  | .hbm, ⟨6, _⟩ => ⟨S5632x2048, .f32⟩
  | .hbm, ⟨7, _⟩ => ⟨S8192x2048, .f32⟩
  | .hbm, ⟨8, _⟩ => ⟨S4096x2048, .f32⟩
  | .hbm, ⟨9, _⟩ => ⟨S1x1x2048, .f32⟩
  | .hbm, ⟨10, _⟩ => ⟨S2048, .f32⟩
  | .hbm, ⟨11, _⟩ => ⟨S4096x2048, .f32⟩
  | .hbm, ⟨12, _⟩ => ⟨S1x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4x1024x2048, .f32⟩
  | .hbm, ⟨18, _⟩ => ⟨S4x1x2048, .f32⟩
  | .hbm, ⟨19, _⟩ => ⟨S4x2048, .f32⟩
  | .hbm, ⟨20, _⟩ => ⟨S4x1x2048, .f32⟩
  | .hbm, ⟨21, _⟩ => ⟨S4096x2048, .f32⟩
  | .hbm, ⟨22, _⟩ => ⟨S4x1024x2048, .f32⟩
  | .hbm, ⟨23, _⟩ => ⟨S4x1024x2048, .f32⟩
  | .hbm, ⟨24, _⟩ => ⟨S4x1024x2048, .f32⟩
  | .hbm, ⟨25, _⟩ => ⟨S4x1024x2048, .f32⟩
  | .hbm, ⟨26, _⟩ => ⟨S4096x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩

abbrev nD : Nat := 1
abbrev τ : Topo := Topo.v7x

variable {F : FTy → Type} [FloatOps F]
-- ==== Proof.Attention.Block.lean ====
/-
  What one block of the neighbourhood attention computes: the scores of the sixteen image rows of one sample against their
  band of keys and the context keys, the softmax numerators and reciprocal denominators, and the output rows. Query row
  `a < 64` of an image row is column `a` of the first head of the pair, `a ≥ 64` column `a - 64` of the second.
-/
module

public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem
open Cert.KernelIdeal Cert.KernelIdeal.Gen

namespace Cert.Attention

/-- The first image row of the band of eight that image row `r` attends to. -/
def bandStart (r : ℕ) : ℕ := min (r - 4) 8

theorem bandStart_le (r : ℕ) : bandStart r ≤ 8 := Nat.min_le_right _ _

/-- The row of the bias table at which the band of image row `r` starts. -/
def biasStart (r : ℕ) : ℕ := bandStart r + 7 - r

theorem biasStart_le (r : ℕ) : biasStart r ≤ 7 := by unfold biasStart bandStart; omega

/-- The arrays that a block's scores and outputs are made of: the queries masked to each head, the keys and values of the
    sample, the context's keys and values, and the two bias tables (the second starts one row later). -/
structure Block where
  qlo : FVec Ideal S1024x128 .bf16
  qhi : FVec Ideal S1024x128 .bf16
  key : FVec Ideal S1024x128 .bf16
  val : FVec Ideal S1024x128 .bf16
  ckey : FVec Ideal S256x128 .bf16
  cval : FVec Ideal S256x128 .bf16
  bias : Vec Ideal S1x1x128x896 .f32
  bias' : Vec Ideal S1x1x128x896 .f32

namespace Block

variable (B : Block)

/-- The query of image row `r` at position `a` of the stacked pair. -/
def query (r : Fin 16) (a e : Fin 128) : EReal :=
  if a.val < 64 then B.qlo (ix2 ⟨64 * r.val + a.val % 64, by omega⟩ e) else B.qhi (ix2 ⟨64 * r.val + a.val % 64, by omega⟩ e)

/-- Where a key of the band of image row `r` stands in the sample. -/
def bandRow (r : Fin 16) (k : Fin 512) : Fin 1024 := ⟨64 * bandStart r + k.val, by have := bandStart_le r; omega⟩

/-- The bias of a score. -/
def biasAt (r : Fin 16) (a : Fin 128) (k : Fin 512) : EReal :=
  if h : biasStart r % 2 = 0 then B.bias (ix4 0 0 a ⟨64 * biasStart r + k.val, by have := biasStart_le r; omega⟩)
  else B.bias' (ix4 0 0 a ⟨64 * (biasStart r - 1) + k.val, by have := biasStart_le r; omega⟩)

/-- The score against key `k` of the band. -/
def scoreBand (r : Fin 16) (a : Fin 128) (k : Fin 512) : EReal :=
  ∑ e : Fin 128, B.query r a e * B.key (ix2 (bandRow r k) e) + B.biasAt r a k

/-- The score against context key `k`. -/
def scoreCtx (r : Fin 16) (a : Fin 128) (k : Fin 256) : EReal := ∑ e : Fin 128, B.query r a e * B.ckey (ix2 k e)

/-- All the scores of a query: 512 of the band, then 256 of the context. -/
def score (r : Fin 16) (a : Fin 128) (k : Fin 768) : EReal :=
  if h : k.val < 512 then B.scoreBand r a ⟨k.val, h⟩ else B.scoreCtx r a ⟨k.val - 512, by omega⟩

/-- The greatest score. -/
def top (r : Fin 16) (a : Fin 128) : EReal := Finset.univ.fold max ⊥ fun k => B.score r a k

/-- The softmax's numerator. -/
def weight (r : Fin 16) (a : Fin 128) (k : Fin 768) : EReal := Ideal.exp2 (B.score r a k - B.top r a)

/-- The reciprocal of the softmax's denominator. -/
def recip (r : Fin 16) (a : Fin 128) : EReal := Ideal.div 1 (∑ k, B.weight r a k)

/-- One row of the attention's output, before the two heads are put side by side. -/
def attend (r : Fin 16) (a l : Fin 128) : EReal :=
  (∑ k : Fin 512, B.weight r a ⟨k.val, by omega⟩ * B.val (ix2 (bandRow r k) l)
    + ∑ k : Fin 256, B.weight r a ⟨512 + k.val, by omega⟩ * B.cval (ix2 k l)) * B.recip r a

/-- The block's output: image row `i / 64`, column `i % 64`; the first 64 lanes are the first head's. -/
def out (i : Fin 1024) (l : Fin 128) : EReal :=
  B.attend ⟨i.val / 64, by omega⟩ ⟨if l.val < 64 then i.val % 64 else 64 + i.val % 64, by split <;> omega⟩ l

/-! ## The kernel's rows -/

theorem query_pair (r : Fin 16) (o : ℕ) (ho : S1024x128.Slices ![o, 0] S64x128) (hr : o = 64 * r.val) (a e : Fin 128) :
    concatenate S128x128 0
      [⟨S64x128, extractStridedSlice S64x128 ![o, 0] B.qlo ho⟩, ⟨S64x128, extractStridedSlice S64x128 ![o, 0] B.qhi ho⟩]
      concatenates_S64x128_S64x128_S128x128_d0 (ix2 a e) = B.query r a e := by
  subst hr
  pointwise [query]
  split
  · congr 3; omega
  · congr 3; omega

/-- The scores of image row `r` against the band, as stored. -/
theorem score_band (r : Fin 16) (o s : ℕ) (b : Vec Ideal S1x1x128x512 .f32)
    (ho : S1024x128.Slices ![o, 0] S64x128) (hs : S1024x128.Slices ![s, 0] S512x128)
    (hr : o = 64 * r.val) (hbs : s = 64 * bandStart r) (hb : ∀ a k, b (ix4 0 0 a k) = B.biasAt r a k)
    (x : S1x128x512.Idx) :
    shapeCast S1x128x512
      (addf
        (matmul dot_S128x128_S512x128_S128x512_1_1_0_0_n_n none
          (concatenate S128x128 0
            [⟨S64x128, extractStridedSlice S64x128 ![o, 0] B.qlo ho⟩, ⟨S64x128, extractStridedSlice S64x128 ![o, 0] B.qhi ho⟩]
            concatenates_S64x128_S64x128_S128x128_d0)
          (extractStridedSlice S512x128 ![s, 0] B.key hs) (constant S128x512 .f32 0x00000000#32))
        (shapeCast S128x512 b shapeCasts_S1x1x128x512_S128x512)) shapeCasts_S128x512_S1x128x512 x
      = B.scoreBand r (x 1) (x 2) := by
  idx_vars x
  unfold scoreBand
  generalize hq : concatenate S128x128 0 _ _ = q
  pointwise []
  rw [hb]
  subst hbs hq
  congr 1
  refine Finset.sum_congr rfl fun e _ => ?_
  rw [query_pair B r o ho hr]
  rfl

/-- The scores of image row `r` against the context, as stored. -/
theorem score_ctx (r : Fin 16) (o : ℕ) (ho : S1024x128.Slices ![o, 0] S64x128) (hr : o = 64 * r.val) (x : S1x128x256.Idx) :
    shapeCast S1x128x256
      (matmul dot_S128x128_S256x128_S128x256_1_1_0_0_n_n none
        (concatenate S128x128 0
          [⟨S64x128, extractStridedSlice S64x128 ![o, 0] B.qlo ho⟩, ⟨S64x128, extractStridedSlice S64x128 ![o, 0] B.qhi ho⟩]
          concatenates_S64x128_S64x128_S128x128_d0)
        B.ckey (constant S128x256 .f32 0x00000000#32)) shapeCasts_S128x256_S1x128x256 x
      = B.scoreCtx r (x 1) (x 2) := by
  idx_vars x
  unfold scoreCtx
  generalize hq : concatenate S128x128 0 _ _ = q
  pointwise []
  subst hq
  refine Finset.sum_congr rfl fun e _ => ?_
  rw [query_pair B r o ho hr]

/-- The exponentials of one image row of scores, less each query's greatest. -/
def expRow (s : Vec Ideal S1x128x768 .f32) : FVec Ideal S128x768 .f32 :=
  exp2 (subf (shapeCast S128x768 s shapeCasts_S1x128x768_S128x768)
    (broadcastTo S128x768 (shapeCast S128x1
      (multiReduction .maximumf [1] S128 (shapeCast S128x768 s shapeCasts_S1x128x768_S128x768) 0xFF800000#32
        reduces_S128x768_S128 (.inl rfl) rfl) shapeCasts_S128_S128x1) broadcasts_S128x1_S128x768))

theorem expRow_apply (r : Fin 16) (s : Vec Ideal S1x128x768 .f32) (hs : ∀ x, s x = B.score r (x 1) (x 2)) (x : S128x768.Idx) :
    expRow s x = B.weight r (x 0) (x 1) := by
  idx_vars x
  pointwise [weight, top, expRow]
  simp only [hs]
  rfl

theorem weight_row (r : Fin 16) (s : Vec Ideal S1x128x768 .f32) (hs : ∀ x, s x = B.score r (x 1) (x 2)) (x : S1x128x768.Idx) :
    shapeCast S1x128x768 (truncf .bf16 (expRow s) bitsLt_bf16_f32) shapeCasts_S128x768_S1x128x768 x
      = B.weight r (x 1) (x 2) := by
  idx_vars x
  pointwise []
  rw [expRow_apply B r s hs]
  rfl

theorem recip_row (r : Fin 16) (s : Vec Ideal S1x128x768 .f32) (hs : ∀ x, s x = B.score r (x 1) (x 2)) (x : S1x128x128.Idx) :
    shapeCast S1x128x128
      (broadcastTo S128x128 (shapeCast S128x1
        (divf (broadcast S128x1 (Scalar.ofBits .f32 0x3F800000#32))
          (shapeCast S128x1 (multiReduction .add [1] S128 (expRow s) 0x00000000#32 reduces_S128x768_S128 (.inl rfl) rfl)
            shapeCasts_S128_S128x1)) shapeCasts_S128x1_S128x1) broadcasts_S128x1_S128x128)
      shapeCasts_S128x128_S1x128x128 x = B.recip r (x 1) := by
  idx_vars x
  pointwise [recip]
  simp only [expRow_apply B r s hs]
  rfl

/-- A choice by the lane, as the kernel makes it. -/
theorem select_low (l : Fin 128) (x y : EReal) :
    Scalar.select (IntOp.cmpi .slt (BitVec.ofNat 32 l.val) 64#32) x y = if l.val < 64 then x else y := by
  have h : IntOp.cmpi .slt (BitVec.ofNat 32 l.val) 64#32 = BitVec.ofBool (decide (l.val < 64)) := by
    revert l; decide
  rw [h]
  by_cases hl : l.val < 64 <;> simp [hl, Scalar.select]

/-- One image row of outputs for both heads, the second's rows below the first's. -/
def pairRow (s : ℕ) (v : FVec Ideal S1024x128 .bf16) (cv : FVec Ideal S256x128 .bf16) (p : FVec Ideal S1x128x512 .bf16)
    (p' : FVec Ideal S1x128x256 .bf16) (d : FVec Ideal S1x128x128 .f32) (hs : S1024x128.Slices ![s, 0] S512x128) :
    FVec Ideal S128x128 .f32 :=
  mulf (addf
    (matmul dot_S128x512_S512x128_S128x128_1_0_0_1_n_n none (shapeCast S128x512 p shapeCasts_S1x128x512_S128x512)
      (extractStridedSlice S512x128 ![s, 0] v hs) (constant S128x128 .f32 0x00000000#32))
    (matmul dot_S128x256_S256x128_S128x128_1_0_0_1_n_n none (shapeCast S128x256 p' shapeCasts_S1x128x256_S128x256)
      cv (constant S128x128 .f32 0x00000000#32)))
    (shapeCast S128x128 d shapeCasts_S1x128x128_S128x128)

/-- The output of image row `r`, as stored. -/
theorem out_row (r : Fin 16) (s : ℕ) (p : FVec Ideal S1x128x512 .bf16) (p' : FVec Ideal S1x128x256 .bf16) (d : FVec Ideal S1x128x128 .f32)
    (hs : S1024x128.Slices ![s, 0] S512x128) (hbs : s = 64 * bandStart r)
    (hp : ∀ x, p x = B.weight r (x 1) ⟨(x 2).val, by have : (x 2).val < 512 := (x 2).isLt; omega⟩)
    (hp' : ∀ x, p' x = B.weight r (x 1) ⟨512 + (x 2).val, by have : (x 2).val < 256 := (x 2).isLt; omega⟩)
    (hd : ∀ x, d x = B.recip r (x 1)) (x : S64x128.Idx) :
    truncf .bf16
      (select (cmpi .slt (iota .tc S64x128 32 [1] iota_S64x128_d1_w32) (broadcast S64x128 64#32))
        (extractStridedSlice S64x128 ![0, 0] (pairRow s B.val B.cval p p' d hs) slices_S128x128_o0_0_S64x128)
        (extractStridedSlice S64x128 ![64, 0] (pairRow s B.val B.cval p p' d hs) slices_S128x128_o64_0_S64x128))
      bitsLt_bf16_f32 x
      = B.attend r ⟨if (x 1).val < 64 then (x 0).val else 64 + (x 0).val,
          by have : (x 0).val < 64 := (x 0).isLt; split <;> omega⟩ (x 1) := by
  subst hbs
  idx_vars x
  pointwise [attend, pairRow]
  simp only [hp, hp', hd]
  rw [select_low]
  by_cases hl : x1.val < 64
  · simp only [hl, ↓reduceIte]; rfl
  · simp only [hl, ↓reduceIte]; rfl

end Block
end Cert.Attention
-- ==== Proof.Attention.Softmax.lean ====
/-
  The softmax over scores measured in powers of two, with entries that are masked off, is the softmax over the entries that
  are left, measured in powers of `e`.
-/
module

public import Idealize.ShloMosaic.Lib.Pointwise

@[expose] public section

noncomputable section

open Idealize.ShloMosaic

namespace Cert.Attention

/-- What a score in powers of `e` is multiplied by to become one in powers of two. -/
def log2e : EReal := (((Real.log 2)⁻¹ : ℝ) : EReal)

theorem log2e_pos : (0 : ℝ) < (Real.log 2)⁻¹ := inv_pos.2 (Real.log_pos (by norm_num))

theorem bot_mul_log2e : (⊥ : EReal) * log2e = ⊥ := EReal.bot_mul_coe_of_pos log2e_pos

/-- A score: a real number, or `⊥` where it is masked off. -/
def IsScore (x : EReal) : Prop := x = ⊥ ∨ ∃ r : ℝ, x = r

theorem fold_max_eq_sup {ι : Type} [Fintype ι] (s : ι → EReal) : Finset.univ.fold max ⊥ s = Finset.univ.sup s := rfl

section
variable {ι κ : Type} [Fintype ι] [Fintype κ] {e : ι → κ} {s : ι → EReal} {t : κ → EReal}

/-- The greatest of the scores. -/
def peak (s : ι → EReal) : EReal := Finset.univ.fold max ⊥ s

theorem peak_real (hs : ∀ i, IsScore (s i)) (hne : ∃ i, ∃ r : ℝ, s i = r) : ∃ m : ℝ, peak s = m := by
  obtain ⟨i, r, hi⟩ := hne
  have hle : s i ≤ peak s := Finset.le_sup (f := s) (Finset.mem_univ i)
  obtain ⟨j, -, hj⟩ := Finset.exists_mem_eq_sup Finset.univ ⟨i, Finset.mem_univ i⟩ s
  rcases hs j with h | ⟨m, h⟩
  · exfalso
    have : peak s = ⊥ := by rw [peak, fold_max_eq_sup, hj, h]
    rw [this, hi] at hle
    exact absurd hle (by simp)
  · exact ⟨m, by rw [peak, fold_max_eq_sup, hj, h]⟩

theorem peak_scaled (hin : ∀ i, t (e i) = s i * log2e) (hout : ∀ k, k ∉ Set.range e → t k = ⊥) (i₀ : ι) :
    peak t = peak s * log2e := by
  apply le_antisymm
  · refine Finset.sup_le fun k _ => ?_
    by_cases hk : k ∈ Set.range e
    · obtain ⟨i, rfl⟩ := hk
      rw [hin]
      exact mul_le_mul_of_nonneg_right (Finset.le_sup (f := s) (Finset.mem_univ i)) (EReal.coe_nonneg.2 log2e_pos.le)
    · rw [hout k hk]; exact bot_le
  · obtain ⟨j, -, hj⟩ := Finset.exists_mem_eq_sup Finset.univ ⟨i₀, Finset.mem_univ i₀⟩ s
    rw [show peak s = s j from hj, ← hin]
    exact Finset.le_sup (f := t) (Finset.mem_univ _)

theorem exp2_scaled (x : EReal) (hx : IsScore x) (m : ℝ) : Ideal.exp2 (x * log2e - (m : EReal) * log2e) = Ideal.exp (x - m) := by
  rcases hx with rfl | ⟨r, rfl⟩
  · rw [bot_mul_log2e]; simp
  · rw [log2e, ← EReal.coe_mul, ← EReal.coe_mul, ← EReal.coe_sub, ← EReal.coe_sub, Ideal.exp2_coe, Ideal.exp_coe]
    congr 1
    have h2 : Real.log 2 ≠ 0 := (Real.log_pos (by norm_num)).ne'
    rw [Real.rpow_eq_pow, Real.rpow_def_of_pos (by norm_num)]
    congr 1
    field_simp

theorem exp_score (x : EReal) (hx : IsScore x) (m : ℝ) : ∃ w : ℝ, 0 ≤ w ∧ Ideal.exp (x - m) = w := by
  rcases hx with rfl | ⟨r, rfl⟩
  · exact ⟨0, le_rfl, by simp⟩
  · exact ⟨Real.exp (r - m), (Real.exp_pos _).le, by rw [← EReal.coe_sub, Ideal.exp_coe]⟩

theorem sum_mul_nonneg {ι : Type} (A : Finset ι) (f : ι → EReal) (c : ℝ) (hc : 0 ≤ c) :
    (∑ i ∈ A, f i) * (c : EReal) = ∑ i ∈ A, f i * c := by
  classical
  induction A using Finset.induction_on with
  | empty => simp
  | insert a A ha ih =>
    rw [Finset.sum_insert ha, Finset.sum_insert ha,
      EReal.right_distrib_of_nonneg_of_ne_top (EReal.coe_nonneg.2 hc) (EReal.coe_ne_top c), ih]

/-- The numerator of a softmax. -/
def numer (s : ι → EReal) (i : ι) : EReal := Ideal.exp (s i - peak s)

/-- The attention over the entries that are left. -/
def softmaxDot (s v : ι → EReal) : EReal := ∑ i, Ideal.div (numer s i) (∑ j, numer s j) * v i

/-- The attention over all entries, in powers of two and divided after the sum. -/
def softmaxDot2 (t v : κ → EReal) : EReal :=
  (∑ k, Ideal.exp2 (t k - peak t) * v k) * Ideal.div 1 (∑ k, Ideal.exp2 (t k - peak t))

theorem softmaxDot2_eq (he : Function.Injective e) (v : κ → EReal) (hs : ∀ i, IsScore (s i)) (hne : ∃ i, ∃ r : ℝ, s i = r)
    (hin : ∀ i, t (e i) = s i * log2e) (hout : ∀ k, k ∉ Set.range e → t k = ⊥) :
    softmaxDot2 t v = softmaxDot s (fun i => v (e i)) := by
  obtain ⟨m, hm⟩ := peak_real hs hne
  have hM : peak t = (m : EReal) * log2e := by rw [peak_scaled hin hout hne.choose, hm]
  have hw (i : ι) : Ideal.exp2 (t (e i) - peak t) = numer s i := by
    rw [numer, hM, hin, exp2_scaled _ (hs i), hm]
  have hz (k : κ) (hk : k ∉ Set.range e) : Ideal.exp2 (t k - peak t) = 0 := by
    rw [hM, hout k hk, log2e, ← EReal.coe_mul]; simp
  choose w hw0 hwr using fun i => exp_score (s i) (hs i) m
  have hn (i : ι) : numer s i = (w i : EReal) := by rw [numer, hm, hwr]
  obtain ⟨i₀, r, hr⟩ := hne
  have hpos : 0 < ∑ i, w i := by
    refine Finset.sum_pos' (fun i _ => hw0 i) ⟨i₀, Finset.mem_univ _, ?_⟩
    have := hwr i₀
    rw [hr, ← EReal.coe_sub, Ideal.exp_coe, EReal.coe_eq_coe_iff] at this
    rw [← this]; exact Real.exp_pos _
  have hS : ∑ i, numer s i = ((∑ i, w i : ℝ) : EReal) := by
    simp only [hn]
    exact (map_sum (⟨⟨Real.toEReal, rfl⟩, EReal.coe_add⟩ : ℝ →+ EReal) w Finset.univ).symm
  have hS2 : ∑ k, Ideal.exp2 (t k - peak t) = ((∑ i, w i : ℝ) : EReal) := by
    rw [← hS]
    exact (Fintype.sum_of_injective e he _ _ hz fun i => (hw i).symm).symm
  rw [softmaxDot2, softmaxDot, hS2, hS, Ideal.div_coe hpos.ne', one_mul,
    ← Fintype.sum_of_injective e he (fun i => numer s i * v (e i)) _ (fun k hk => by rw [hz k hk, zero_mul])
      (fun i => by rw [hw i]),
    sum_mul_nonneg _ _ _ (by positivity)]
  refine Finset.sum_congr rfl fun i _ => ?_
  rw [Ideal.div_coe hpos.ne', mul_right_comm]

end

end Cert.Attention
-- ==== Proof.Attention.Head.lean ====
/-
  One head's attention on one sample: 1024 tokens on a grid of sixteen rows by 64 columns, each attending to eight image rows
  and the sixteen columns of its window, of which 32 columns are looked at and the others masked off, and to 256 context keys.
-/
module

public import proofs.«01_k».proof.Proof.Attention.Block
public import proofs.«01_k».proof.Proof.Attention.Softmax

@[expose] public section

set_option maxRecDepth 16384

noncomputable section

open Idealize.ShloMosaic

namespace Cert.Attention

/-- What the mean square is raised by before its root. -/
def eps : EReal := Ideal.ofBits .f32 0x358637BD#32

/-- The scale of a score. -/
def eighth : EReal := ((1 / 8 : ℝ) : EReal)

/-- A vector over the root of its mean square, times a gain. -/
def rms (x g : Fin 64 → EReal) (e : Fin 64) : EReal :=
  x e * Ideal.rsqrt ((∑ d, x d * x d) * ((1 / 64 : ℝ) : EReal) + eps) * g e

/-- Column `kc` is in the window of column `c`. -/
def InWin (c kc : ℕ) : Prop := min (c - 8) 48 ≤ kc ∧ kc < min (c - 8) 48 + 16

instance (c kc : ℕ) : Decidable (InWin c kc) := instDecidableAnd

/-- The first of the columns that a query of column `c` looks at. -/
def colStart (c : ℕ) : ℕ := min (16 * (c / 16) - 8) 32

theorem colStart_le (c : ℕ) : colStart c ≤ 32 := Nat.min_le_right _ _

/-- The arrays of one head of one sample. -/
structure Head where
  q : Fin 1024 → Fin 64 → EReal
  k : Fin 1024 → Fin 64 → EReal
  v : Fin 1024 → Fin 64 → EReal
  ck : Fin 256 → Fin 64 → EReal
  cv : Fin 256 → Fin 64 → EReal
  rpb : Fin 15 → Fin 31 → EReal
  gq : Fin 64 → EReal
  gk : Fin 64 → EReal

namespace Head

variable (H : Head)

/-- A token's normalised query. -/
def query (i : Fin 1024) : Fin 64 → EReal := rms (H.q i) H.gq

/-- A token's normalised key. -/
def key (i : Fin 1024) : Fin 64 → EReal := rms (H.k i) H.gk

/-- The token at row `r` and column `c`. -/
def tok (r : Fin 16) (c : Fin 64) : Fin 1024 := ⟨64 * r.val + c.val, by omega⟩

/-- The token of row `d` of the band of image row `r`, at column `kc`. -/
def near (r : Fin 16) (d : Fin 8) (kc : Fin 64) : Fin 1024 :=
  ⟨64 * (bandStart r + d.val) + kc.val, by have := bandStart_le r; omega⟩

/-- The relative-position bias of a score, `⊥` outside the window. -/
def bias (r : Fin 16) (c : Fin 64) (d : Fin 8) (kc : Fin 64) : EReal :=
  if h : InWin c kc then
    H.rpb ⟨biasStart r + d.val, by have := biasStart_le r; omega⟩ ⟨kc.val + 15 - c.val, by have := h.1; have := h.2; omega⟩
  else ⊥

/-- The score against a token of the band. -/
def loc (r : Fin 16) (c : Fin 64) (d : Fin 8) (kc : Fin 64) : EReal :=
  (∑ e, H.query (tok r c) e * H.key (near r d kc) e) * eighth + H.bias r c d kc

/-- The score against a context key. -/
def ctx (r : Fin 16) (c : Fin 64) (l : Fin 256) : EReal := (∑ e, H.query (tok r c) e * H.ck l e) * eighth

/-- The image row of the band that entry `i` of the looked-at keys is in. -/
def rowOf (i : Fin 512) (h : i.val < 256) : Fin 8 := ⟨i.val / 32, by omega⟩

/-- The column that entry `i` of the looked-at keys of a query of column `c` is in. -/
def colOf (c : Fin 64) (i : Fin 512) : Fin 64 := ⟨colStart c + i.val % 32, by have := colStart_le c; omega⟩

/-- The scores of a query: eight rows of 32 columns, then the context. -/
def score (r : Fin 16) (c : Fin 64) (i : Fin 512) : EReal :=
  if h : i.val < 256 then H.loc r c (rowOf i h) (colOf c i) else H.ctx r c ⟨i.val - 256, by omega⟩

/-- The values that go with the scores. -/
def value (r : Fin 16) (c : Fin 64) (i : Fin 512) (e : Fin 64) : EReal :=
  if h : i.val < 256 then H.v (near r (rowOf i h) (colOf c i)) e else H.cv ⟨i.val - 256, by omega⟩ e

/-- The attention's output. -/
def attend (r : Fin 16) (c e : Fin 64) : EReal := softmaxDot (H.score r c) (fun i => H.value r c i e)

/-- The context's keys, the biases and the gains are real numbers. -/
structure Real : Prop where
  ck : ∀ l e, ∃ x : ℝ, H.ck l e = x
  rpb : ∀ d w, ∃ x : ℝ, H.rpb d w = x
  gq : ∀ e, ∃ x : ℝ, H.gq e = x
  gk : ∀ e, ∃ x : ℝ, H.gk e = x

end Head

theorem eps_real : ∃ x : ℝ, 0 < x ∧ eps = x := by
  refine ⟨8796093 * (2 : ℝ) ^ (-43 : ℤ), by positivity, ?_⟩
  rw [eps]
  simp [Ideal.ofBits, Ideal.ieee]

theorem real_of_mul_self {x : EReal} (h : x * x ≠ ⊤) : ∃ r : ℝ, x = r := by
  induction x using EReal.rec with
  | bot => exact absurd (by simp) h
  | top => exact absurd (by simp) h
  | coe r => exact ⟨r, rfl⟩

theorem sum_real {ι : Type} [Fintype ι] (f : ι → EReal) (h : ∀ i, ∃ x : ℝ, f i = x) : ∃ x : ℝ, ∑ i, f i = x := by
  choose g hg using h
  refine ⟨∑ i, g i, ?_⟩
  simp only [hg]
  exact (map_sum (⟨⟨Real.toEReal, rfl⟩, EReal.coe_add⟩ : ℝ →+ EReal) g Finset.univ).symm

theorem mul_real {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem mul_self_nonneg' (x : EReal) : 0 ≤ x * x := by
  rcases le_total 0 x with h | h
  · exact mul_nonneg h h
  · have : 0 ≤ -x := by simpa using h
    simpa using mul_nonneg this this

/-- A normalised vector is real where its gain is, whatever the vector: an infinite mean square has the root's inverse 0. -/
theorem rms_real (x g : Fin 64 → EReal) (hg : ∀ e, ∃ r : ℝ, g e = r) (e : Fin 64) : ∃ r : ℝ, rms x g e = r := by
  obtain ⟨ε, hε, he⟩ := eps_real
  refine mul_real ?_ (hg e)
  have hnn : 0 ≤ ∑ d, x d * x d := Finset.sum_nonneg fun d _ => mul_self_nonneg' _
  by_cases ht : ∑ d, x d * x d = ⊤
  · refine ⟨0, ?_⟩
    rw [ht, he, EReal.top_mul_coe_of_pos (by norm_num), EReal.top_add_coe, Ideal.rsqrt_top, mul_zero]; rfl
  · have hle : x e * x e ≤ ∑ d, x d * x d := Finset.single_le_sum (fun d _ => mul_self_nonneg' (x d)) (Finset.mem_univ e)
    have hxe := real_of_mul_self (fun h => ht (top_le_iff.1 (h ▸ hle)))
    refine mul_real hxe ?_
    obtain ⟨s, hs⟩ : ∃ s : ℝ, ∑ d, x d * x d = s := by
      refine ⟨(∑ d, x d * x d).toReal, (EReal.coe_toReal ht ?_).symm⟩
      exact (lt_of_lt_of_le (EReal.bot_lt_coe 0) hnn).ne'
    have hs0 : 0 ≤ s := by rw [hs] at hnn; exact_mod_cast hnn
    rw [hs, he, ← EReal.coe_mul, ← EReal.coe_add, Ideal.rsqrt_coe]
    have hp : 0 < s * (1 / 64) + ε := by positivity
    rw [if_neg (not_lt.2 hp.le), if_neg hp.ne']
    exact ⟨_, rfl⟩

namespace Head

variable {H : Head}

theorem query_real (hH : H.Real) (i : Fin 1024) (e : Fin 64) : ∃ x : ℝ, H.query i e = x := rms_real _ _ hH.gq e

theorem key_real (hH : H.Real) (i : Fin 1024) (e : Fin 64) : ∃ x : ℝ, H.key i e = x := rms_real _ _ hH.gk e

theorem eighth_real : ∃ x : ℝ, eighth = x := ⟨_, rfl⟩

theorem ctx_real (hH : H.Real) (r : Fin 16) (c : Fin 64) (l : Fin 256) : ∃ x : ℝ, H.ctx r c l = x :=
  mul_real (sum_real _ fun e => mul_real (query_real hH _ e) (hH.ck l e)) eighth_real

theorem bias_isScore (hH : H.Real) (r : Fin 16) (c : Fin 64) (d : Fin 8) (kc : Fin 64) : IsScore (H.bias r c d kc) := by
  unfold bias
  split
  · exact Or.inr (hH.rpb _ _)
  · exact Or.inl rfl

theorem add_isScore {x y : EReal} (hx : ∃ r : ℝ, x = r) (hy : IsScore y) : IsScore (x + y) := by
  obtain ⟨a, rfl⟩ := hx
  rcases hy with rfl | ⟨b, rfl⟩
  · exact Or.inl (EReal.add_bot _)
  · exact Or.inr ⟨a + b, (EReal.coe_add a b).symm⟩

theorem dot_real (hH : H.Real) (r : Fin 16) (c : Fin 64) (d : Fin 8) (kc : Fin 64) :
    ∃ x : ℝ, ∑ e, H.query (tok r c) e * H.key (near r d kc) e = x :=
  sum_real _ fun e => mul_real (query_real hH _ e) (key_real hH _ e)

theorem score_isScore (hH : H.Real) (r : Fin 16) (c : Fin 64) (i : Fin 512) : IsScore (H.score r c i) := by
  unfold score
  split
  · exact add_isScore (mul_real (dot_real hH r c _ _) eighth_real) (bias_isScore hH r c _ _)
  · exact Or.inr (ctx_real hH r c _)

theorem score_some (hH : H.Real) (r : Fin 16) (c : Fin 64) : ∃ i, ∃ x : ℝ, H.score r c i = x := by
  refine ⟨⟨256, by omega⟩, ?_⟩
  unfold score
  rw [dif_neg (by simp)]
  exact ctx_real hH r c _

end Head

/-! ## The block of two heads, and one of its heads -/

/-- What a query is scaled by. -/
def queryScale : EReal := (((1 / 8 : ℝ) * (Real.log 2)⁻¹ : ℝ) : EReal)

/-- Block `B` holds head `H` in lanes `64 * hh` to `64 * hh + 63`. -/
structure Holds (B : Block) (H : Head) (hh : Fin 2) : Prop where
  query : ∀ (r : Fin 16) (c : Fin 64) (e : Fin 128), B.query r ⟨64 * hh.val + c.val, by omega⟩ e =
    if e.val / 64 = hh.val then H.query (Head.tok r c) ⟨e.val % 64, by omega⟩ * queryScale else 0
  key : ∀ (i : Fin 1024) (e : Fin 64), B.key (ix2 i ⟨64 * hh.val + e.val, by omega⟩) = H.key i e
  val : ∀ (i : Fin 1024) (e : Fin 64), B.val (ix2 i ⟨64 * hh.val + e.val, by omega⟩) = H.v i e
  ckey : ∀ (l : Fin 256) (e : Fin 64), B.ckey (ix2 l ⟨64 * hh.val + e.val, by omega⟩) = H.ck l e
  cval : ∀ (l : Fin 256) (e : Fin 64), B.cval (ix2 l ⟨64 * hh.val + e.val, by omega⟩) = H.cv l e
  bias : ∀ (r : Fin 16) (c : Fin 64) (d : Fin 8) (kc : Fin 64),
    B.biasAt r ⟨64 * hh.val + c.val, by omega⟩ ⟨64 * d.val + kc.val, by omega⟩ = H.bias r c d kc * log2e

/-- A sum over 128 lanes that is zero outside one half is the sum over that half. -/
theorem sum_half (hh : Fin 2) (f : Fin 128 → EReal) (g : Fin 64 → EReal)
    (h0 : ∀ e : Fin 128, e.val / 64 ≠ hh.val → f e = 0) (h1 : ∀ e : Fin 64, f ⟨64 * hh.val + e.val, by omega⟩ = g e) :
    ∑ e, f e = ∑ e, g e := by
  refine (Fintype.sum_of_injective (fun e : Fin 64 => (⟨64 * hh.val + e.val, by omega⟩ : Fin 128)) ?_ g f ?_ fun e => (h1 e).symm).symm
  · intro a b hab
    simp only [Fin.mk.injEq] at hab
    exact Fin.ext (by omega)
  · intro e he
    refine h0 e fun h => he ⟨⟨e.val % 64, by omega⟩, Fin.ext ?_⟩
    show 64 * hh.val + e.val % 64 = e.val
    omega

namespace Holds

variable {B : Block} {H : Head} {hh : Fin 2} (hB : Holds B H hh)
include hB

/-- The product of a query of the block with any row of 128 lanes is that of the head's query with the head's lanes. -/
theorem dot (r : Fin 16) (c : Fin 64) (y : Fin 128 → EReal) (z : Fin 64 → EReal)
    (hy : ∀ e : Fin 64, y ⟨64 * hh.val + e.val, by omega⟩ = z e) (hH : H.Real) (hz : ∀ e, ∃ x : ℝ, z e = x) :
    ∑ e, B.query r ⟨64 * hh.val + c.val, by omega⟩ e * y e = (∑ e, H.query (Head.tok r c) e * z e) * eighth * log2e := by
  rw [sum_half hh _ (fun e => H.query (Head.tok r c) e * queryScale * z e)]
  · choose q hq using Head.query_real hH (Head.tok r c)
    choose w hw using hz
    simp only [hq, hw, queryScale, eighth, log2e, ← EReal.coe_mul]
    have hsum (f : Fin 64 → ℝ) : ∑ e, ((f e : ℝ) : EReal) = ((∑ e, f e : ℝ) : EReal) :=
      (map_sum (⟨⟨Real.toEReal, rfl⟩, EReal.coe_add⟩ : ℝ →+ EReal) f Finset.univ).symm
    rw [hsum, hsum, ← EReal.coe_mul, ← EReal.coe_mul, Finset.sum_mul, Finset.sum_mul]
    congr 1
    exact Finset.sum_congr rfl fun e _ => by ring
  · intro e he
    rw [hB.query, if_neg he, zero_mul]
  · intro e
    rw [hB.query, hy, if_pos (by show (64 * hh.val + e.val) / 64 = hh.val; omega)]
    congr 4
    show (64 * hh.val + e.val) % 64 = e.val
    omega

theorem add_mul_log2e {x y : EReal} (hx : ∃ r : ℝ, x = r) (hy : IsScore y) : x * log2e + y * log2e = (x + y) * log2e := by
  obtain ⟨a, rfl⟩ := hx
  rcases hy with rfl | ⟨b, rfl⟩
  · rw [bot_mul_log2e, EReal.add_bot, EReal.add_bot, bot_mul_log2e]
  · rw [log2e, ← EReal.coe_mul, ← EReal.coe_mul, ← EReal.coe_add, ← EReal.coe_add, ← EReal.coe_mul, add_mul]

theorem scoreBand (hH : H.Real) (r : Fin 16) (c : Fin 64) (d : Fin 8) (kc : Fin 64) :
    B.scoreBand r ⟨64 * hh.val + c.val, by omega⟩ ⟨64 * d.val + kc.val, by omega⟩ = H.loc r c d kc * log2e := by
  have hrow : Block.bandRow r ⟨64 * d.val + kc.val, by omega⟩ = Head.near r d kc := by
    apply Fin.ext
    show 64 * bandStart r + (64 * d.val + kc.val) = 64 * (bandStart r + d.val) + kc.val
    ring
  rw [Block.scoreBand, hrow, hB.bias, hB.dot r c _ (H.key (Head.near r d kc)) (fun e => hB.key _ e) hH (Head.key_real hH _),
    hB.add_mul_log2e (mul_real (Head.dot_real hH r c d kc) Head.eighth_real) (Head.bias_isScore hH r c d kc), Head.loc]

theorem scoreCtx (hH : H.Real) (r : Fin 16) (c : Fin 64) (l : Fin 256) :
    B.scoreCtx r ⟨64 * hh.val + c.val, by omega⟩ l = H.ctx r c l * log2e := by
  rw [Block.scoreCtx, hB.dot r c _ (H.ck l) (fun e => hB.ckey _ e) hH (hH.ck l), Head.ctx]

end Holds

/-- Where entry `i` of the looked-at keys stands among all 768. -/
def place (c : Fin 64) (i : Fin 512) : Fin 768 :=
  if h : i.val < 256 then ⟨64 * (i.val / 32) + (Head.colOf c i).val, by omega⟩ else ⟨512 + (i.val - 256), by omega⟩

theorem place_lt (c : Fin 64) (i : Fin 512) (h : i.val < 256) :
    (place c i).val = 64 * (i.val / 32) + (colStart c + i.val % 32) := by rw [place, dif_pos h]; rfl

theorem place_ge (c : Fin 64) (i : Fin 512) (h : ¬ i.val < 256) : (place c i).val = 512 + (i.val - 256) := by
  rw [place, dif_neg h]

theorem place_injective (c : Fin 64) : Function.Injective (place c) := by
  intro i j hij
  have hc := colStart_le c
  have hv := congrArg Fin.val hij
  apply Fin.ext
  by_cases hi : i.val < 256 <;> by_cases hj : j.val < 256
  · rw [place_lt c i hi, place_lt c j hj] at hv; omega
  · rw [place_lt c i hi, place_ge c j hj] at hv; omega
  · rw [place_ge c i hi, place_lt c j hj] at hv; omega
  · rw [place_ge c i hi, place_ge c j hj] at hv; omega

/-- A key of the band that no entry looks at is outside the window. -/
theorem not_inWin (c : Fin 64) (k : Fin 768) (hk : k ∉ Set.range (place c)) (hlt : k.val < 512) : ¬ InWin c (k.val % 64) := by
  intro hw
  have h1 := hw.1
  have h2 := hw.2
  have hcs : colStart c ≤ k.val % 64 ∧ k.val % 64 < colStart c + 32 := by
    unfold colStart
    omega
  refine hk ⟨⟨32 * (k.val / 64) + (k.val % 64 - colStart c), by omega⟩, Fin.ext ?_⟩
  rw [place_lt _ _ (by show 32 * (k.val / 64) + (k.val % 64 - colStart c) < 256; omega)]
  show 64 * ((32 * (k.val / 64) + (k.val % 64 - colStart c)) / 32) +
    (colStart c + (32 * (k.val / 64) + (k.val % 64 - colStart c)) % 32) = k.val
  omega

theorem place_notMem (c : Fin 64) (k : Fin 768) (hk : k ∉ Set.range (place c)) : k.val < 512 := by
  by_contra h
  refine hk ⟨⟨k.val - 256, by omega⟩, Fin.ext ?_⟩
  rw [place_ge _ _ (by show ¬ k.val - 256 < 256; omega)]
  show 512 + (k.val - 256 - 256) = k.val
  omega

/-- The values that go with the 768 scores of a query. -/
def Block.valueAt (B : Block) (r : Fin 16) (l : Fin 128) (k : Fin 768) : EReal :=
  if h : k.val < 512 then B.val (ix2 (Block.bandRow r ⟨k.val, h⟩) l) else B.cval (ix2 ⟨k.val - 512, by omega⟩ l)

/-- The two products with the values are one over all 768 keys. -/
theorem Block.attend_eq (B : Block) (r : Fin 16) (a l : Fin 128) :
    B.attend r a l = softmaxDot2 (B.score r a) (B.valueAt r l) := by
  rw [Block.attend, softmaxDot2, Block.recip]
  congr 1
  rw [show (∑ k : Fin 768, Ideal.exp2 (B.score r a k - peak (B.score r a)) * B.valueAt r l k)
    = ∑ k : Fin (512 + 256), Ideal.exp2 (B.score r a k - peak (B.score r a)) * B.valueAt r l k from rfl, Fin.sum_univ_add]
  congr 1

/-- A head's lanes of a block's output are the head's attention. -/
theorem Holds.attend {B : Block} {H : Head} {hh : Fin 2} (hB : Holds B H hh) (hH : H.Real) (r : Fin 16) (c e : Fin 64) :
    B.attend r ⟨64 * hh.val + c.val, by omega⟩ ⟨64 * hh.val + e.val, by omega⟩ = H.attend r c e := by
  rw [Block.attend_eq, softmaxDot2_eq (place_injective c) _ (Head.score_isScore hH r c) (Head.score_some hH r c), Head.attend]
  · congr 1
    funext i
    have hc := colStart_le c
    by_cases hi : i.val < 256
    · rw [Block.valueAt, dif_pos (by rw [place_lt c i hi]; omega), Head.value, dif_pos hi, ← hB.val]
      refine congrArg (fun j => B.val (ix2 j _)) (Fin.ext ?_)
      show 64 * bandStart r + (place c i).val = 64 * (bandStart r + i.val / 32) + (colStart c + i.val % 32)
      rw [place_lt c i hi]; ring
    · rw [Block.valueAt, dif_neg (by rw [place_ge c i hi]; omega), Head.value, dif_neg hi, ← hB.cval]
      refine congrArg (fun j => B.cval (ix2 j _)) (Fin.ext ?_)
      show (place c i).val - 512 = i.val - 256
      rw [place_ge c i hi]; omega
  · intro i
    have hc := colStart_le c
    by_cases hi : i.val < 256
    · rw [Block.score, dif_pos (by rw [place_lt c i hi]; omega), Head.score, dif_pos hi, ← hB.scoreBand hH]
      exact congrArg (B.scoreBand r _) (Fin.ext (place_lt c i hi))
    · rw [Block.score, dif_neg (by rw [place_ge c i hi]; omega), Head.score, dif_neg hi, ← hB.scoreCtx hH]
      exact congrArg (B.scoreCtx r _) (Fin.ext (by show (place c i).val - 512 = i.val - 256; rw [place_ge c i hi]; omega))
  · intro k hk
    have hlt := place_notMem c k hk
    have hw := not_inWin c k hk hlt
    have hs := hB.scoreBand hH r c ⟨k.val / 64, by omega⟩ ⟨k.val % 64, by omega⟩
    rw [Head.loc, Head.bias, dif_neg hw, EReal.add_bot, bot_mul_log2e] at hs
    rw [Block.score, dif_pos hlt, ← hs]
    exact congrArg (B.scoreBand r _) (Fin.ext (by show k.val = 64 * (k.val / 64) + k.val % 64; omega))

/-- An entry of a block's output is that of the head whose lane it is. -/
theorem Holds.out {B : Block} {H : Head} {hh : Fin 2} (hB : Holds B H hh) (hH : H.Real) (r : Fin 16) (c e : Fin 64) :
    B.out (Head.tok r c) ⟨64 * hh.val + e.val, by omega⟩ = H.attend r c e := by
  rw [← hB.attend hH, Block.out]
  congr 1
  · exact Fin.ext (by show (64 * r.val + c.val) / 64 = r.val; omega)
  · apply Fin.ext
    show (if 64 * hh.val + e.val < 64 then (64 * r.val + c.val) % 64 else 64 + (64 * r.val + c.val) % 64) = 64 * hh.val + c.val
    split <;> omega

end Cert.Attention
-- ==== Proof.Attention.Bias.lean ====
/-
  The two tables of relative-position biases: for every column of a query and every column of a key the bias of their distance,
  in powers of two, `⊥` outside the window. The first table's slabs of 64 columns are the distances 0 to 13 in rows, the
  second's 1 to 14.
-/
module

public import proofs.«01_k».proof.Proof.Attention.Head
public import proofs.«01_k».proof.Proof.Gen.KernelIdeal.Frame
public import Idealize.ShloMosaic.Lib.Pipeline.Value
public import Idealize.ShloMosaic.Lib.Pipeline.ValueKit.Tiles

@[expose] public section

set_option maxRecDepth 65536

noncomputable section

open Idealize.ShloMosaic Idealize.ShloMosaic.TcCoe Idealize.SL.Sem
open Cert.KernelIdeal Cert.KernelIdeal.Gen

namespace Cert.Attention

/-- One store of a table: two slabs side by side, each a row of biases turned one lane further for every query. -/
def slab (row row' : Vec Ideal S1x1x1x1x128 .f32) : FVec Ideal S1x1x64x128 .f32 :=
  shapeCast S1x1x64x128
    (select k0_pay3
      (mulf (k0_pay5 row row') (broadcast S64x128 (Named.named κ "log2e" 0x3FB8AA3B#32)))
      (broadcast S64x128 (Scalar.ofBits .f32 0xFF800000#32)))
    shapeCasts_S64x128_S1x1x64x128

theorem named_log2e : (Named.named κ "log2e" 0x3FB8AA3B#32 : Ideal .f32) = log2e :=
  IdealRules.named_const.ideal_named_scalar _ _ _ _ rfl

theorem inWin_word : ∀ (q : Fin 64) (l : Fin 128),
    IntOp.andi
      (IntOp.cmpi CmpIPredicate.sge (IntOp.andi (BitVec.ofNat 32 l.val) 63#32)
        (IntOp.minsi 48#32 (IntOp.maxsi 0#32 (IntOp.subi (BitVec.ofNat 32 q.val) 8#32))))
      (IntOp.cmpi CmpIPredicate.slt (IntOp.andi (BitVec.ofNat 32 l.val) 63#32)
        (IntOp.addi (IntOp.minsi 48#32 (IntOp.maxsi 0#32 (IntOp.subi (BitVec.ofNat 32 q.val) 8#32))) 16#32)) =
    if InWin q.val (l.val % 64) then 1#1 else 0#1 := by decide +kernel

theorem lowHalf_word (l : Fin 128) :
    IntOp.cmpi CmpIPredicate.slt (BitVec.ofNat 32 l.val) 64#32 = if l.val < 64 then 1#1 else 0#1 := by
  revert l; decide

theorem negInf : Ideal.ofBits FTy.f32 0xFF800000#32 = ⊥ := by simp [Ideal.ofBits, Ideal.ieee]

/-- A store's entry: the row's entry at the distance of the two columns. -/
theorem slab_at (row row' : Vec Ideal S1x1x1x1x128 .f32) (q : Fin 64) (l : Fin 128) :
    slab row row' (ix4 0 0 q l) = if h : InWin q.val (l.val % 64) then
      (if l.val < 64 then row else row') (ix5 0 0 0 0 ⟨l.val % 64 + 15 - q.val, by have := h.1; have := h.2; omega⟩) * log2e else ⊥ := by
  generalize hR : (if h : InWin q.val (l.val % 64) then
      (if l.val < 64 then row else row') (ix5 0 0 0 0 ⟨l.val % 64 + 15 - q.val, by have := h.1; have := h.2; omega⟩) * log2e
      else (⊥ : EReal)) = R
  pointwise [slab, k0_pay3, k0_pay4, k0_pay5]
  rw [inWin_word, lowHalf_word, negInf, named_log2e, ← hR]
  by_cases hw : InWin q.val (l.val % 64)
  · have h1 := hw.1
    have h2 := hw.2
    rw [if_pos hw, dif_pos hw]
    by_cases hl : l.val < 64
    · rw [if_pos hl, if_pos hl]
      refine congrArg (fun j => row (ix5 0 0 0 0 j) * log2e) (Fin.ext ?_)
      show (l.val + 128 - (113 + q.val) % 128) % 128 = l.val % 64 + 15 - q.val
      omega
    · rw [if_neg hl, if_neg hl]
      refine congrArg (fun j => row' (ix5 0 0 0 0 j) * log2e) (Fin.ext ?_)
      show (l.val + 128 - (49 + q.val) % 128) % 128 = l.val % 64 + 15 - q.val
      omega
  · rw [if_neg hw, dif_neg hw]
    rfl

/-- The bias of entry `k` of row `a` of a table whose slabs start at row distance `s`: `k / 64` rows on, column `k % 64`. -/
def tableAt (X : Vec Ideal S1x1x2x16x128 .f32) (s : Fin 2) (a : Fin 128) (k : Fin 896) : EReal :=
  if h : InWin (a.val % 64) (k.val % 64) then
    X (ix5 0 0 ⟨a.val / 64, by omega⟩ ⟨k.val / 64 + s.val, by omega⟩
      ⟨k.val % 64 + 15 - a.val % 64, by have := h.1; have := h.2; omega⟩) * log2e
  else ⊥

theorem entry_congr (X : Vec Ideal S1x1x2x16x128 .f32) {a a' : Fin 2} {b b' : Fin 16} {c c' : Fin 128} (ha : a.val = a'.val)
    (hb : b.val = b'.val) (hc : c.val = c'.val) : X (ix5 0 0 a b c) = X (ix5 0 0 a' b' c') := by
  rw [Fin.ext ha, Fin.ext hb, Fin.ext hc]

/-- One store's entry of a table. -/
theorem slab_table (X : Vec Ideal S1x1x2x16x128 .f32) (s : Fin 2) (a : Fin 128) (k : Fin 896) (hh d d' : ℕ)
    (inb : ∀ i, ![0, 0, hh, d, 0] i + S1x1x1x1x128.size i ≤ S1x1x2x16x128.size i)
    (inb' : ∀ i, ![0, 0, hh, d', 0] i + S1x1x1x1x128.size i ≤ S1x1x2x16x128.size i)
    (x : S1x1x64x128.Idx) (ha : a.val = 64 * hh + (x 2).val) (hk : k.val + 64 * s.val = 64 * d + (x 3).val) (hd : d' = d + 1) :
    slab (View.ld X (Rect.unit ![0, 0, hh, d, 0] S1x1x1x1x128.size inb))
      (View.ld X (Rect.unit ![0, 0, hh, d', 0] S1x1x1x1x128.size inb')) x = tableAt X s a k := by
  subst hd
  idx_vars x
  have ha' : a.val = 64 * hh + x2.val := ha
  have hk' : k.val + 64 * s.val = 64 * d + x3.val := hk
  have e0 : x0 = 0 := Subsingleton.elim _ _
  have e1 : x1 = 0 := Subsingleton.elim _ _
  subst e0 e1
  rw [slab_at, tableAt]
  have hx2 : x2.val < 64 := x2.isLt
  have hx3 : x3.val < 128 := x3.isLt
  have hq : a.val % 64 = x2.val := by omega
  have hl : k.val % 64 = x3.val % 64 := by omega
  have hw : InWin x2.val (x3.val % 64) ↔ InWin (a.val % 64) (k.val % 64) := by rw [hq, hl]
  by_cases h : InWin x2.val (x3.val % 64)
  · rw [dif_pos h, dif_pos (hw.1 h)]
    congr 1
    by_cases hlt : x3.val < 64
    · rw [if_pos hlt]
      pointwise
      exact entry_congr X (by dsimp only; omega) (by dsimp only; omega) (by dsimp only; omega)
    · rw [if_neg hlt]
      pointwise
      exact entry_congr X (by dsimp only; omega) (by dsimp only; omega) (by dsimp only; omega)
  · rw [dif_neg h, dif_neg (fun h' => h (hw.2 h'))]

/-- The first table. -/
theorem out0_1_at (X : Vec Ideal S1x1x2x16x128 .f32) (a : Fin 128) (k : Fin 896) :
    out0_1 X (ix4 0 0 a k) = tableAt X 0 a k := by
  unfold out0_1
  canon_tiles x h
  all_goals
    refine slab_table X 0 a k _ _ _ _ _ x ?_ ?_ rfl
    · exact h2.trans (by omega)
    · exact h3.trans (by show _ = _; omega)

/-- The second table. -/
theorem out0_2_at (X : Vec Ideal S1x1x2x16x128 .f32) (a : Fin 128) (k : Fin 896) :
    out0_2 X (ix4 0 0 a k) = tableAt X 1 a k := by
  unfold out0_2
  canon_tiles x h
  all_goals
    refine slab_table X 1 a k _ _ _ _ _ x ?_ ?_ rfl
    · exact h2.trans (by omega)
    · have h3' : k.val = _ := h3
      show k.val + 64 = _
      omega

end Cert.Attention
-- ==== Proof.Attention.Body.lean ====
/-
  The attention's body at one grid point: what its stores leave in the output block is the block of Proof/Attention/Block.lean
  of the blocks it loads. The scores of the sixteen image rows are stored, then read back row by row by the softmax, whose
  numerators and reciprocal denominators are stored and read back by the products with the values.
-/
module

public import proofs.«01_k».proof.Proof.Attention.Block
public import proofs.«01_k».proof.Proof.Gen.KernelIdeal.Frame
public import Idealize.ShloMosaic.Lib.Pipeline.Value
public import Idealize.ShloMosaic.Lib.Pipeline.ReadBack
public import Idealize.ShloMosaic.Lib.WholeRead

@[expose] public section

set_option maxRecDepth 65536

noncomputable section

open Idealize.ShloMosaic Idealize.ShloMosaic.TcCoe Idealize.SL.Sem
open Cert.KernelIdeal Cert.KernelIdeal.Gen

namespace Cert.Attention

/-- The block of the attention whose loaded blocks are `q`, `k`, `v`, the context's keys and values, the two bias tables and
    the two gains. -/
def blockOf (q k v : FVec Ideal S1024x128 .f32) (ck cv : FVec Ideal S1x1x256x128 .f32) (b b' : FVec Ideal S1x1x128x896 .f32)
    (gq gk : FVec Ideal S1x128 .f32) : Block where
  qlo := k1_pay4 q gq
  qhi := k1_pay5 q gq
  key := k1_pay6 k1_pay2 k gk
  val := truncf .bf16 v bitsLt_bf16_f32
  ckey := truncf .bf16 (shapeCast S256x128 ck shapeCasts_S1x1x256x128_S256x128) bitsLt_bf16_f32
  cval := truncf .bf16 (shapeCast S256x128 cv shapeCasts_S1x1x256x128_S256x128) bitsLt_bf16_f32
  bias := b
  bias' := b'

/-- A load of part of a buffer whose contents are known reads that part of them. -/
theorem read_part {s : Shape} {e : EltTy} (m : Memref sig .tc .vmem s e) (h : m.IsWhole) (X : s.Idx → Elt Ideal e) (r : Rect s) :
    View.readAt (Elt Ideal) m.view r.toLoadRect (h.unread X) = View.ld X r := by
  rw [View.readAt_eq_ld, h.read_unread]

variable (c : Dev nD)
  (arg2 : Memref sig .tc .vmem S1024x128 .f32) (harg2 : arg2.IsWhole) (arg3 : Memref sig .tc .vmem S1024x128 .f32) (harg3 : arg3.IsWhole)
  (arg4 : Memref sig .tc .vmem S1024x128 .f32) (harg4 : arg4.IsWhole) (arg5 : Memref sig .tc .vmem S1x1x256x128 .f32) (harg5 : arg5.IsWhole)
  (arg6 : Memref sig .tc .vmem S1x1x256x128 .f32) (harg6 : arg6.IsWhole) (arg7 : Memref sig .tc .vmem S1x1x128x896 .f32) (harg7 : arg7.IsWhole)
  (arg8 : Memref sig .tc .vmem S1x1x128x896 .f32) (harg8 : arg8.IsWhole) (arg9 : Memref sig .tc .vmem S1x128 .f32) (harg9 : arg9.IsWhole)
  (arg10 : Memref sig .tc .vmem S1x128 .f32) (harg10 : arg10.IsWhole)
  (x0 x1 x2 : Vec Ideal S1024x128 .f32) (x3 x4 : Vec Ideal S1x1x256x128 .f32) (x5 x6 : Vec Ideal S1x1x128x896 .f32) (x7 x8 : Vec Ideal S1x128 .f32)

open kernelRun1_A.sl in
/-- The block in the body's own words. -/
def bodyBlock : Block where
  qlo := r c arg2 harg2 arg9 harg9 x0 x7
  qhi := r_1 c arg2 harg2 arg9 harg9 x0 x7
  key := v69 c arg3 harg3 arg10 harg10 x1 x8
  val := v71 c arg4 harg4 x2
  ckey := v74 c arg5 harg5 x3
  cval := v77 c arg6 harg6 x4
  bias := x5
  bias' := x6

theorem bodyBlock_eq : bodyBlock c arg2 harg2 arg3 harg3 arg4 harg4 arg5 harg5 arg6 harg6 arg9 harg9 arg10 harg10 x0 x1 x2 x3 x4 x5 x6 x7 x8
    = blockOf x0 x1 x2 x3 x4 x5 x6 x7 x8 := by
  unfold bodyBlock blockOf
  sl_unfold_words
  simp only [read_part]
  have e : ∀ {a b : ℕ} {e : EltTy} (X : (⟨2, ![a, b]⟩ : Shape).Idx → Elt Ideal e) (inb : ∀ i, ![0, 0] i + ![a, b] i ≤ ![a, b] i),
      View.ld X (Rect.unit (s := ⟨2, ![a, b]⟩) ![0, 0] ![a, b] inb) = X := fun X inb =>
    View.ld_unit_zero (by funext i; fin_cases i <;> rfl) inb X
  have e4 : ∀ {a b c d : ℕ} {e : EltTy} (X : (⟨4, ![a, b, c, d]⟩ : Shape).Idx → Elt Ideal e) (inb : ∀ i, ![0, 0, 0, 0] i + ![a, b, c, d] i ≤ ![a, b, c, d] i),
      View.ld X (Rect.unit (s := ⟨4, ![a, b, c, d]⟩) ![0, 0, 0, 0] ![a, b, c, d] inb) = X := fun X inb =>
    View.ld_unit_zero (by funext i; fin_cases i <;> rfl) inb X
  have h0 := e x0 inb_S1024x128_S1024x128_0_0
  have h1 := e x1 inb_S1024x128_S1024x128_0_0
  have h2 := e x2 inb_S1024x128_S1024x128_0_0
  have h3 := e4 x3 inb_S1x1x256x128_S1x1x256x128_0_0_0_0
  have h4 := e4 x4 inb_S1x1x256x128_S1x1x256x128_0_0_0_0
  have h7 := e x7 inb_S1x128_S1x128_0_0
  have h8 := e x8 inb_S1x128_S1x128_0_0
  erw [h0, h7, h1, h8, h2, h3, h4]
  rfl

/-- The index of an entry of a row's part of one of the three-axis scratches. -/
theorem emb_row {n m w o : ℕ} (r : Fin 16) (q : ℕ) (hq : q = r.val) (inb : ∀ i, ![q, 0, o] i + ![1, n, w] i ≤ ![16, n, m] i)
    (x : (⟨3, ![1, n, w]⟩ : Shape).Idx) :
    (Rect.unit (s := ⟨3, ![16, n, m]⟩) ![q, 0, o] ![1, n, w] inb).emb x
      = ix3 r ⟨(x 1).val, (x 1).isLt⟩ ⟨o + (x 2).val, by have := inb 2; have := (x 2).isLt; simp at *; omega⟩ := by
  subst hq
  funext i
  apply Fin.ext
  have h0 : (x 0).val < 1 := (x 0).isLt
  rw [Rect.emb_apply]
  fin_cases i <;> simp [ix3] <;> omega

/-- A stored piece of the band's scores. -/
theorem band_piece (B : Block) (q : ℕ) (h : q < 16) (o t : ℕ) (b : Vec Ideal S1x1x128x512 .f32)
    (ho : S1024x128.Slices ![o, 0] S64x128) (hs : S1024x128.Slices ![t, 0] S512x128)
    (inb : ∀ i, ![q, 0, 0] i + ![1, 128, 512] i ≤ ![16, 128, 768] i)
    (hr : o = 64 * q) (ht : t = 64 * bandStart q) (hb : ∀ a k, b (ix4 0 0 a k) = B.biasAt ⟨q, h⟩ a k)
    (x : S1x128x512.Idx) :
    shapeCast S1x128x512
      (addf
        (matmul dot_S128x128_S512x128_S128x512_1_1_0_0_n_n none
          (concatenate S128x128 0
            [⟨S64x128, extractStridedSlice S64x128 ![o, 0] B.qlo ho⟩, ⟨S64x128, extractStridedSlice S64x128 ![o, 0] B.qhi ho⟩]
            concatenates_S64x128_S64x128_S128x128_d0)
          (extractStridedSlice S512x128 ![t, 0] B.key hs) (constant S128x512 .f32 0x00000000#32))
        (shapeCast S128x512 b shapeCasts_S1x1x128x512_S128x512)) shapeCasts_S128x512_S1x128x512 x
      = (fun j : S16x128x768.Idx => B.score (j 0) (j 1) (j 2)) ((Rect.unit (s := S16x128x768) ![q, 0, 0] ![1, 128, 512] inb).emb x) := by
  rw [B.score_band ⟨q, h⟩ o t b ho hs hr ht hb, emb_row ⟨q, h⟩ q rfl inb x]
  have h2 : (x 2).val < 512 := (x 2).isLt
  show _ = B.score ⟨q, h⟩ ⟨(x 1).val, _⟩ ⟨0 + (x 2).val, _⟩
  unfold Block.score
  rw [dif_pos (by simpa using h2)]
  congr 1
  exact Fin.ext (Nat.zero_add _).symm

/-- A stored piece of the context's scores. -/
theorem ctx_piece (B : Block) (q : ℕ) (h : q < 16) (o : ℕ) (ho : S1024x128.Slices ![o, 0] S64x128)
    (inb : ∀ i, ![q, 0, 512] i + ![1, 128, 256] i ≤ ![16, 128, 768] i) (hr : o = 64 * q) (x : S1x128x256.Idx) :
    shapeCast S1x128x256
      (matmul dot_S128x128_S256x128_S128x256_1_1_0_0_n_n none
        (concatenate S128x128 0
          [⟨S64x128, extractStridedSlice S64x128 ![o, 0] B.qlo ho⟩, ⟨S64x128, extractStridedSlice S64x128 ![o, 0] B.qhi ho⟩]
          concatenates_S64x128_S64x128_S128x128_d0)
        B.ckey (constant S128x256 .f32 0x00000000#32)) shapeCasts_S128x256_S1x128x256 x
      = (fun j : S16x128x768.Idx => B.score (j 0) (j 1) (j 2)) ((Rect.unit (s := S16x128x768) ![q, 0, 512] ![1, 128, 256] inb).emb x) := by
  rw [B.score_ctx ⟨q, h⟩ o ho hr, emb_row ⟨q, h⟩ q rfl inb x]
  show _ = B.score ⟨q, h⟩ ⟨(x 1).val, _⟩ ⟨512 + (x 2).val, _⟩
  unfold Block.score
  rw [dif_neg (by simp)]
  congr 1
  exact Fin.ext (Nat.add_sub_cancel_left _ _).symm

/-- The bias a row loads: from the first table when the row's offset is even, from the shifted one when it is odd. -/
theorem bias_even (B : Block) (r : Fin 16) (t : ℕ) (m : Memref sig .tc .vmem S1x1x128x896 .f32) (hm : m.IsWhole)
    (inb : ∀ i, ![0, 0, 0, t] i + ![1, 1, 128, 512] i ≤ ![1, 1, 128, 896] i) (he : biasStart r.val % 2 = 0) (ht : t = 64 * biasStart r.val)
    (a : Fin 128) (k : Fin 512) :
    View.readAt (Elt Ideal) m.view (Rect.unit (s := S1x1x128x896) ![0, 0, 0, t] ![1, 1, 128, 512] inb).toLoadRect (hm.unread B.bias)
      (ix4 0 0 a k) = B.biasAt r a k := by
  rw [Memref.IsWhole.readAt_unread]
  unfold Block.biasAt
  rw [dif_pos he]
  refine congrArg B.bias ?_
  funext i
  apply Fin.ext
  fin_cases i <;> simp [ix4, LoadRect.idx, Rect.emb_apply, ht]

theorem bias_odd (B : Block) (r : Fin 16) (t : ℕ) (m : Memref sig .tc .vmem S1x1x128x896 .f32) (hm : m.IsWhole)
    (inb : ∀ i, ![0, 0, 0, t] i + ![1, 1, 128, 512] i ≤ ![1, 1, 128, 896] i) (he : biasStart r.val % 2 ≠ 0)
    (ht : t = 64 * (biasStart r.val - 1))
    (a : Fin 128) (k : Fin 512) :
    View.readAt (Elt Ideal) m.view (Rect.unit (s := S1x1x128x896) ![0, 0, 0, t] ![1, 1, 128, 512] inb).toLoadRect (hm.unread B.bias')
      (ix4 0 0 a k) = B.biasAt r a k := by
  rw [Memref.IsWhole.readAt_unread]
  unfold Block.biasAt
  rw [dif_neg he]
  refine congrArg B.bias' ?_
  funext i
  apply Fin.ext
  fin_cases i <;> simp [ix4, LoadRect.idx, Rect.emb_apply, ht]

open kernelRun1_A.sl in
/-- The stored scores. -/
theorem scores_pieces (B : Block)
    (hB : B = bodyBlock c arg2 harg2 arg3 harg3 arg4 harg4 arg5 harg5 arg6 harg6 arg9 harg9 arg10 harg10 x0 x1 x2 x3 x4 x5 x6 x7 x8) :
    View.PiecesOf (Val := Elt Ideal) (fun j : S16x128x768.Idx => B.score (j 0) (j 1) (j 2))
      (HS0_32 c arg2 harg2 arg3 harg3 arg5 harg5 arg7 harg7 arg8 harg8 arg9 harg9 arg10 harg10 x0 x1 x3 x5 x6 x7 x8) := by
  unfold HS0_32
  subst hB
  repeat' first
    | exact trivial
    | refine ⟨fun x => ctx_piece (bodyBlock c arg2 harg2 arg3 harg3 arg4 harg4 arg5 harg5 arg6 harg6 arg9 harg9 arg10 harg10 x0 x1 x2 x3 x4 x5 x6 x7 x8) _ (by decide) _ _ (by decide) (by decide) x, ?_⟩
    | refine ⟨fun x => band_piece (bodyBlock c arg2 harg2 arg3 harg3 arg4 harg4 arg5 harg5 arg6 harg6 arg9 harg9 arg10 harg10 x0 x1 x2 x3 x4 x5 x6 x7 x8) _ (by decide) _ _ _ _ _ (by decide) (by decide) (by decide)
        (by first
          | exact bias_even (bodyBlock c arg2 harg2 arg3 harg3 arg4 harg4 arg5 harg5 arg6 harg6 arg9 harg9 arg10 harg10 x0 x1 x2 x3 x4 x5 x6 x7 x8) _ _ _ _ (by decide) (by decide) (by decide)
          | exact bias_odd (bodyBlock c arg2 harg2 arg3 harg3 arg4 harg4 arg5 harg5 arg6 harg6 arg9 harg9 arg10 harg10 x0 x1 x2 x3 x4 x5 x6 x7 x8) _ _ _ _ (by decide) (by decide) (by decide)) x, ?_⟩

/-- Pieces that are blocks of one array and cover the buffer: a load of a row's part reads the array there. -/
theorem read_row {e : EltTy} {n m w o : ℕ} (v : View sig .tc .vmem ⟨3, ![16, n, m]⟩ e)
    (G : (⟨3, ![16, n, m]⟩ : Shape).Idx → Elt Ideal e) (L : List (View.Piece (Elt Ideal) ⟨3, ![16, n, m]⟩ e)) (hL : View.PiecesOf G L)
    (hc : ∀ y, ∃ p ∈ L, y ∈ p.1.set) (q : ℕ) (h : q < 16) (inb : ∀ i, ![q, 0, o] i + ![1, n, w] i ≤ ![16, n, m] i)
    (x : (⟨3, ![1, n, w]⟩ : Shape).Idx) :
    v.readCov L (Rect.unit (s := ⟨3, ![16, n, m]⟩) ![q, 0, o] ![1, n, w] inb).toLoadRect x
      = G (ix3 ⟨q, h⟩ ⟨(x 1).val, (x 1).isLt⟩ ⟨o + (x 2).val, by have := inb 2; have := (x 2).isLt; simp at *; omega⟩) := by
  rw [View.readCov_eq_canon']
  have e := View.canon_append_of_piecesOf G [] L hL
    ((Rect.unit (s := ⟨3, ![16, n, m]⟩) ![q, 0, o] ![1, n, w] inb).emb x) (hc _)
  rw [List.append_nil] at e
  exact e.trans (congrArg G (emb_row ⟨q, h⟩ q rfl inb x))

/-- A stored piece of the softmax's numerators. -/
theorem weight_piece (B : Block) (q : ℕ) (h : q < 16) (s : Vec Ideal S1x128x768 .f32)
    (inb : ∀ i, ![q, 0, 0] i + ![1, 128, 768] i ≤ ![16, 128, 768] i) (hs : ∀ x, s x = B.score ⟨q, h⟩ (x 1) (x 2)) (x : S1x128x768.Idx) :
    shapeCast S1x128x768 (truncf .bf16 (Block.expRow s) bitsLt_bf16_f32) shapeCasts_S128x768_S1x128x768 x
      = (fun j : S16x128x768.Idx => B.weight (j 0) (j 1) (j 2)) ((Rect.unit (s := S16x128x768) ![q, 0, 0] ![1, 128, 768] inb).emb x) := by
  rw [B.weight_row ⟨q, h⟩ s hs, emb_row ⟨q, h⟩ q rfl inb x]
  show _ = B.weight ⟨q, h⟩ ⟨(x 1).val, _⟩ ⟨0 + (x 2).val, _⟩
  congr 1
  exact Fin.ext (Nat.zero_add _).symm

/-- A stored piece of the reciprocal denominators. -/
theorem recip_piece (B : Block) (q : ℕ) (h : q < 16) (s : Vec Ideal S1x128x768 .f32)
    (inb : ∀ i, ![q, 0, 0] i + ![1, 128, 128] i ≤ ![16, 128, 128] i) (hs : ∀ x, s x = B.score ⟨q, h⟩ (x 1) (x 2)) (x : S1x128x128.Idx) :
    shapeCast S1x128x128
      (broadcastTo S128x128 (shapeCast S128x1
        (divf (broadcast S128x1 (Scalar.ofBits .f32 0x3F800000#32))
          (shapeCast S128x1 (multiReduction .add [1] S128 (Block.expRow s) 0x00000000#32 reduces_S128x768_S128 (.inl rfl) rfl)
            shapeCasts_S128_S128x1)) shapeCasts_S128x1_S128x1) broadcasts_S128x1_S128x128)
      shapeCasts_S128x128_S1x128x128 x
      = (fun j : S16x128x128.Idx => B.recip (j 0) (j 1)) ((Rect.unit (s := S16x128x128) ![q, 0, 0] ![1, 128, 128] inb).emb x) := by
  rw [B.recip_row ⟨q, h⟩ s hs, emb_row ⟨q, h⟩ q rfl inb x]
  rfl

variable (arg12 : Memref sig .tc .vmem S16x128x768 .f32) (arg13 : Memref sig .tc .vmem S16x128x768 .bf16)
  (arg14 : Memref sig .tc .vmem S16x128x128 .f32)

open kernelRun1_A.sl in
/-- A row of scores, read back. -/
theorem score_read (q : ℕ) (h : q < 16) (inb : ∀ i, ![q, 0, 0] i + ![1, 128, 768] i ≤ ![16, 128, 768] i) (x : S1x128x768.Idx) :
    arg12.view.readCov (HS0_32 c arg2 harg2 arg3 harg3 arg5 harg5 arg7 harg7 arg8 harg8 arg9 harg9 arg10 harg10 x0 x1 x3 x5 x6 x7 x8) (Rect.unit (s := S16x128x768) ![q, 0, 0] ![1, 128, 768] inb).toLoadRect x
      = (bodyBlock c arg2 harg2 arg3 harg3 arg4 harg4 arg5 harg5 arg6 harg6 arg9 harg9 arg10 harg10 x0 x1 x2 x3 x4 x5 x6 x7 x8).score ⟨q, h⟩ (x 1) (x 2) := by
  have e := read_row (w := 768) (o := 0) arg12.view _ _ (scores_pieces c arg2 harg2 arg3 harg3 arg4 harg4 arg5 harg5 arg6 harg6 arg7 harg7 arg8 harg8 arg9 harg9 arg10 harg10 x0 x1 x2 x3 x4 x5 x6 x7 x8 _ rfl)
    (View.cover_of_tiledBy _ ![1, 128, 256] (by sl_kernel_rfl)) q h inb x
  refine e.trans ?_
  show (bodyBlock c arg2 harg2 arg3 harg3 arg4 harg4 arg5 harg5 arg6 harg6 arg9 harg9 arg10 harg10 x0 x1 x2 x3 x4 x5 x6 x7 x8).score ⟨q, h⟩ ⟨(x 1).val, _⟩ ⟨0 + (x 2).val, _⟩ = _
  congr 1
  exact Fin.ext (Nat.zero_add _)

open kernelRun1_A.sl in
/-- The stored numerators. -/
theorem weights_pieces :
    View.PiecesOf (Val := Elt Ideal) (fun j : S16x128x768.Idx => (bodyBlock c arg2 harg2 arg3 harg3 arg4 harg4 arg5 harg5 arg6 harg6 arg9 harg9 arg10 harg10 x0 x1 x2 x3 x4 x5 x6 x7 x8).weight (j 0) (j 1) (j 2))
      (HS1_16 c arg2 harg2 arg3 harg3 arg5 harg5 arg7 harg7 arg8 harg8 arg9 harg9 arg10 harg10 arg12 x0 x1 x3 x5 x6 x7 x8) := by
  unfold HS1_16
  repeat' first
    | exact trivial
    | refine ⟨fun x => weight_piece (bodyBlock c arg2 harg2 arg3 harg3 arg4 harg4 arg5 harg5 arg6 harg6 arg9 harg9 arg10 harg10 x0 x1 x2 x3 x4 x5 x6 x7 x8) _ (by decide) _ (by decide) (score_read c arg2 harg2 arg3 harg3 arg4 harg4 arg5 harg5 arg6 harg6 arg7 harg7 arg8 harg8 arg9 harg9 arg10 harg10 x0 x1 x2 x3 x4 x5 x6 x7 x8 arg12 _ (by decide) (by decide)) x, ?_⟩

open kernelRun1_A.sl in
/-- The stored reciprocal denominators. -/
theorem recips_pieces :
    View.PiecesOf (Val := Elt Ideal) (fun j : S16x128x128.Idx => (bodyBlock c arg2 harg2 arg3 harg3 arg4 harg4 arg5 harg5 arg6 harg6 arg9 harg9 arg10 harg10 x0 x1 x2 x3 x4 x5 x6 x7 x8).recip (j 0) (j 1))
      (HS2_16 c arg2 harg2 arg3 harg3 arg5 harg5 arg7 harg7 arg8 harg8 arg9 harg9 arg10 harg10 arg12 x0 x1 x3 x5 x6 x7 x8) := by
  unfold HS2_16
  repeat' first
    | exact trivial
    | refine ⟨fun x => recip_piece (bodyBlock c arg2 harg2 arg3 harg3 arg4 harg4 arg5 harg5 arg6 harg6 arg9 harg9 arg10 harg10 x0 x1 x2 x3 x4 x5 x6 x7 x8) _ (by decide) _ (by decide) (score_read c arg2 harg2 arg3 harg3 arg4 harg4 arg5 harg5 arg6 harg6 arg7 harg7 arg8 harg8 arg9 harg9 arg10 harg10 x0 x1 x2 x3 x4 x5 x6 x7 x8 arg12 _ (by decide) (by decide)) x, ?_⟩

open kernelRun1_A.sl in
/-- Part of a row of numerators, read back. -/
theorem weight_read {w o : ℕ} (q : ℕ) (h : q < 16) (inb : ∀ i, ![q, 0, o] i + ![1, 128, w] i ≤ ![16, 128, 768] i)
    (x : (⟨3, ![1, 128, w]⟩ : Shape).Idx) :
    arg13.view.readCov (HS1_16 c arg2 harg2 arg3 harg3 arg5 harg5 arg7 harg7 arg8 harg8 arg9 harg9 arg10 harg10 arg12 x0 x1 x3 x5 x6 x7 x8) (Rect.unit (s := S16x128x768) ![q, 0, o] ![1, 128, w] inb).toLoadRect x
      = (bodyBlock c arg2 harg2 arg3 harg3 arg4 harg4 arg5 harg5 arg6 harg6 arg9 harg9 arg10 harg10 x0 x1 x2 x3 x4 x5 x6 x7 x8).weight ⟨q, h⟩ ⟨(x 1).val, (x 1).isLt⟩ ⟨o + (x 2).val, by have := inb 2; have := (x 2).isLt; simp at *; omega⟩ :=
  read_row (w := w) (o := o) arg13.view _ _ (weights_pieces c arg2 harg2 arg3 harg3 arg4 harg4 arg5 harg5 arg6 harg6 arg7 harg7 arg8 harg8 arg9 harg9 arg10 harg10 x0 x1 x2 x3 x4 x5 x6 x7 x8 arg12)
    (View.cover_of_tiledBy _ ![1, 128, 768] (by sl_kernel_rfl)) q h inb x

open kernelRun1_A.sl in
/-- A row of reciprocal denominators, read back. -/
theorem recip_read (q : ℕ) (h : q < 16) (inb : ∀ i, ![q, 0, 0] i + ![1, 128, 128] i ≤ ![16, 128, 128] i) (x : S1x128x128.Idx) :
    arg14.view.readCov (HS2_16 c arg2 harg2 arg3 harg3 arg5 harg5 arg7 harg7 arg8 harg8 arg9 harg9 arg10 harg10 arg12 x0 x1 x3 x5 x6 x7 x8) (Rect.unit (s := S16x128x128) ![q, 0, 0] ![1, 128, 128] inb).toLoadRect x
      = (bodyBlock c arg2 harg2 arg3 harg3 arg4 harg4 arg5 harg5 arg6 harg6 arg9 harg9 arg10 harg10 x0 x1 x2 x3 x4 x5 x6 x7 x8).recip ⟨q, h⟩ (x 1) :=
  read_row (w := 128) (o := 0) arg14.view _ _ (recips_pieces c arg2 harg2 arg3 harg3 arg4 harg4 arg5 harg5 arg6 harg6 arg7 harg7 arg8 harg8 arg9 harg9 arg10 harg10 x0 x1 x2 x3 x4 x5 x6 x7 x8 arg12)
    (View.cover_of_tiledBy _ ![1, 128, 128] (by sl_kernel_rfl)) q h inb x

/-- A stored piece of the output. -/
theorem out_piece (B : Block) (q : ℕ) (h : q < 16) (o s : ℕ) (p : FVec Ideal S1x128x512 .bf16) (p' : FVec Ideal S1x128x256 .bf16)
    (d : FVec Ideal S1x128x128 .f32) (hs : S1024x128.Slices ![s, 0] S512x128) (inb : ∀ i, ![o, 0] i + ![64, 128] i ≤ ![1024, 128] i)
    (ho : o = 64 * q) (hbs : s = 64 * bandStart q)
    (hp : ∀ x, p x = B.weight ⟨q, h⟩ (x 1) ⟨0 + (x 2).val, by have : (x 2).val < 512 := (x 2).isLt; omega⟩)
    (hp' : ∀ x, p' x = B.weight ⟨q, h⟩ (x 1) ⟨512 + (x 2).val, by have : (x 2).val < 256 := (x 2).isLt; omega⟩)
    (hd : ∀ x, d x = B.recip ⟨q, h⟩ (x 1)) (x : S64x128.Idx) :
    truncf .bf16
      (select (cmpi .slt (iota .tc S64x128 32 [1] iota_S64x128_d1_w32) (broadcast S64x128 64#32))
        (extractStridedSlice S64x128 ![0, 0] (Block.pairRow s B.val B.cval p p' d hs) slices_S128x128_o0_0_S64x128)
        (extractStridedSlice S64x128 ![64, 0] (Block.pairRow s B.val B.cval p p' d hs) slices_S128x128_o64_0_S64x128))
      bitsLt_bf16_f32 x
      = (fun y : S1024x128.Idx => B.out (y 0) (y 1)) ((Rect.unit (s := S1024x128) ![o, 0] ![64, 128] inb).emb x) := by
  rw [B.out_row ⟨q, h⟩ s p p' d hs hbs (fun x => by rw [hp]; congr 1; exact Fin.ext (Nat.zero_add _)) hp' hd]
  have e : (Rect.unit (s := S1024x128) ![o, 0] ![64, 128] inb).emb x
      = ix2 ⟨64 * q + (x 0).val, by have : (x 0).val < 64 := (x 0).isLt; omega⟩ (x 1) := by
    subst ho
    funext i
    apply Fin.ext
    rw [Rect.emb_apply]
    fin_cases i <;> simp [ix2]
  rw [e]
  have h0 : (x 0).val < 64 := (x 0).isLt
  show _ = B.attend ⟨(64 * q + (x 0).val) / 64, _⟩ ⟨if (x 1).val < 64 then (64 * q + (x 0).val) % 64 else 64 + (64 * q + (x 0).val) % 64, _⟩ (x 1)
  have e1 : (64 * q + (x 0).val) / 64 = q := by omega
  have e2 : (64 * q + (x 0).val) % 64 = (x 0).val := by omega
  simp only [e1, e2]

variable (arg11 : Memref sig .tc .vmem S1024x128 .bf16) (harg11 : arg11.IsWhole) (harg12 : arg12.IsWhole) (harg13 : arg13.IsWhole)
  (harg14 : arg14.IsWhole) (pt : grid1.Coords)

/-- What the body leaves in the output block. -/
theorem body_out :
    out1_A_9 (F := Ideal) c pt arg2 harg2 arg3 harg3 arg4 harg4 arg5 harg5 arg6 harg6 arg7 harg7 arg8 harg8 arg9 harg9 arg10 harg10
      arg11 harg11 arg12 harg12 arg13 harg13 arg14 harg14 x0 x1 x2 x3 x4 x5 x6 x7 x8
      = fun y => (blockOf x0 x1 x2 x3 x4 x5 x6 x7 x8).out (y 0) (y 1) := by
  rw [← bodyBlock_eq c arg2 harg2 arg3 harg3 arg4 harg4 arg5 harg5 arg6 harg6 arg9 harg9 arg10 harg10 x0 x1 x2 x3 x4 x5 x6 x7 x8]
  funext y
  have hc := cover1_A_9 (F := Ideal) c pt arg2 harg2 arg3 harg3 arg4 harg4 arg5 harg5 arg6 harg6 arg7 harg7 arg8 harg8 arg9 harg9 arg10 harg10
      arg11 harg11 arg12 harg12 arg13 harg13 arg14 harg14 x0 x1 x2 x3 x4 x5 x6 x7 x8
  unfold out1_A_9
  rw [View.read_writes_eq_canon _ _ _ hc]
  have hp : View.PiecesOf (Val := Elt Ideal) (fun y : S1024x128.Idx => (bodyBlock c arg2 harg2 arg3 harg3 arg4 harg4 arg5 harg5 arg6 harg6 arg9 harg9 arg10 harg10 x0 x1 x2 x3 x4 x5 x6 x7 x8).out (y 0) (y 1))
      (kernelRun1_A (F := Ideal) c pt arg2 harg2 arg3 harg3 arg4 harg4 arg5 harg5 arg6 harg6 arg7 harg7 arg8 harg8 arg9 harg9 arg10 harg10
      arg11 harg11 arg12 harg12 arg13 harg13 arg14 harg14 x0 x1 x2 x3 x4 x5 x6 x7 x8).1 := by
    unfold kernelRun1_A
    dsimp only
    repeat' first
      | exact trivial
      | refine ⟨fun x => out_piece (bodyBlock c arg2 harg2 arg3 harg3 arg4 harg4 arg5 harg5 arg6 harg6 arg9 harg9 arg10 harg10 x0 x1 x2 x3 x4 x5 x6 x7 x8) _ (by decide) _ _ _ _ _ _ (by decide) (by decide) (by decide)
          (weight_read c arg2 harg2 arg3 harg3 arg4 harg4 arg5 harg5 arg6 harg6 arg7 harg7 arg8 harg8 arg9 harg9 arg10 harg10 x0 x1 x2 x3 x4 x5 x6 x7 x8 arg12 arg13 _ (by decide) (by decide)) (weight_read c arg2 harg2 arg3 harg3 arg4 harg4 arg5 harg5 arg6 harg6 arg7 harg7 arg8 harg8 arg9 harg9 arg10 harg10 x0 x1 x2 x3 x4 x5 x6 x7 x8 arg12 arg13 _ (by decide) (by decide))
          (recip_read c arg2 harg2 arg3 harg3 arg4 harg4 arg5 harg5 arg6 harg6 arg7 harg7 arg8 harg8 arg9 harg9 arg10 harg10 x0 x1 x2 x3 x4 x5 x6 x7 x8 arg12 arg14 _ (by decide) (by decide)) x, ?_⟩
  have e := View.canon_append_of_piecesOf _ [] _ hp y (hc y)
  rw [List.append_nil] at e
  exact e

end Cert.Attention
-- ==== Proof.Attention.Arrays.lean ====
module

public import proofs.«01_k».proof.Proof.Gen.KernelIdeal.Frame
public import proofs.«01_k».proof.Proof.Attention.Bias
public import proofs.«01_k».proof.Proof.Attention.Body
public import Idealize.ShloMosaic.Lib.Pipeline.ValueKit

/-!
What the two calls leave in their result arrays, from the contents of their operand arrays: each block read at its coordinates, and
the array put together from the blocks.
-/

@[expose] public section

set_option maxRecDepth 65536

noncomputable section

namespace Cert.Attention

open Idealize.ShloMosaic Idealize.ShloMosaic.TcCoe Idealize.SL.Sem
open Idealize.ShloMosaic.Pipeline
open Cert.KernelIdeal Cert.KernelIdeal.Gen

variable (V : (c : Dev nD) → (b : Ref sig .tc) → Buf (Elt Ideal) ((c : Thread nD τ).loc b))

theorem index0_0 : ∀ t : Fin cfg0.N, win0_0.index t = ![(grid0.coords t 0).val, (grid0.coords t 1).val, 0, 0, 0] :=
  (by decide +kernel : ∀ t : Fin grid0.N, _)
theorem index0_1 : ∀ t : Fin cfg0.N, win0_1.index t = ![(grid0.coords t 0).val, (grid0.coords t 1).val, 0, 0] :=
  (by decide +kernel : ∀ t : Fin grid0.N, _)
theorem index0_2 : ∀ t : Fin cfg0.N, win0_2.index t = ![(grid0.coords t 0).val, (grid0.coords t 1).val, 0, 0] :=
  (by decide +kernel : ∀ t : Fin grid0.N, _)

/-- The two heads of a pair of a layer, their padded biases. -/
def pairRows (X : FVec Ideal S2x8x2x16x128 .f32) (l : Fin 2) (p : Fin 8) : Vec Ideal S1x1x2x16x128 .f32 :=
  fun y => X (ix5 l p (y 2) (y 3) (y 4))

theorem iblk0_eq (c : Dev nD) (t : Fin cfg0.N) (l : Fin 2) (p : Fin 8) (hl : (grid0.coords t 0).val = l.val)
    (hp : (grid0.coords t 1).val = p.val) :
    iblk0 V c 0 t = pairRows (V c main_v3) l p := by
  funext y
  blk_simp [iblk0]
  unfold pairRows
  congr 1
  blk_ext [index0_0 t, hl, hp]

theorem table_index (y : S1x1x128x896.Idx) : y = ix4 0 0 (y 2) (y 3) := by
  funext k
  match k with
  | ⟨0, _⟩ => exact Subsingleton.elim (α := Fin 1) _ _
  | ⟨1, _⟩ => exact Subsingleton.elim (α := Fin 1) _ _
  | ⟨2, _⟩ => rfl
  | ⟨3, _⟩ => rfl

/-- The first table array. -/
theorem biasArr_1 (c : Dev nD) : (dat0 V c).arrAt 1 cfg0.N
    = fun i : S2x8x128x896.Idx => tableAt (pairRows (V c main_v3) (i 0) (i 1)) 0 (i 2) (i 3) := by
  refine (dat0 V c).arrAt_eq_of_covers 1 _ (by decide +kernel) fun t hf y => ?_
  blk_simp
  rw [after0_1, iblk0_eq V c t ((win0_1.blk t).view.emb y 0) ((win0_1.blk t).view.emb y 1) (by blk_simp [index0_1 t])
    (by blk_simp [index0_1 t])]
  refine (congrArg _ (table_index y)).trans ((out0_1_at _ _ _).trans ?_)
  congr 1 <;> apply Fin.ext <;> blk_simp [index0_1 t] <;> omega

/-- The second table array. -/
theorem biasArr_2 (c : Dev nD) : (dat0 V c).arrAt 2 cfg0.N
    = fun i : S2x8x128x896.Idx => tableAt (pairRows (V c main_v3) (i 0) (i 1)) 1 (i 2) (i 3) := by
  refine (dat0 V c).arrAt_eq_of_covers 2 _ (by decide +kernel) fun t hf y => ?_
  blk_simp
  rw [after0_2, iblk0_eq V c t ((win0_2.blk t).view.emb y 0) ((win0_2.blk t).view.emb y 1) (by blk_simp [index0_2 t])
    (by blk_simp [index0_2 t])]
  refine (congrArg _ (table_index y)).trans ((out0_2_at _ _ _).trans ?_)
  congr 1 <;> apply Fin.ext <;> blk_simp [index0_2 t] <;> omega

/-! ## The attention -/

theorem index1_0 : ∀ t : Fin cfg1.N, win1_0.index t = ![4 + (grid1.coords t 1).val, (grid1.coords t 0).val] :=
  (by decide +kernel : ∀ t : Fin grid1.N, _)
theorem index1_1 : ∀ t : Fin cfg1.N, win1_1.index t = ![4 + (grid1.coords t 1).val, 8 + (grid1.coords t 0).val] :=
  (by decide +kernel : ∀ t : Fin grid1.N, _)
theorem index1_2 : ∀ t : Fin cfg1.N, win1_2.index t = ![4 + (grid1.coords t 1).val, 16 + (grid1.coords t 0).val] :=
  (by decide +kernel : ∀ t : Fin grid1.N, _)
theorem index1_3 : ∀ t : Fin cfg1.N, win1_3.index t = ![(grid1.coords t 1).val, 0, 0, (grid1.coords t 0).val] :=
  (by decide +kernel : ∀ t : Fin grid1.N, _)
theorem index1_4 : ∀ t : Fin cfg1.N, win1_4.index t = ![(grid1.coords t 1).val, 0, 0, (grid1.coords t 0).val] :=
  (by decide +kernel : ∀ t : Fin grid1.N, _)
theorem index1_5 : ∀ t : Fin cfg1.N, win1_5.index t = ![0, (grid1.coords t 0).val, 0, 0] :=
  (by decide +kernel : ∀ t : Fin grid1.N, _)
theorem index1_6 : ∀ t : Fin cfg1.N, win1_6.index t = ![0, (grid1.coords t 0).val, 0, 0] :=
  (by decide +kernel : ∀ t : Fin grid1.N, _)
theorem index1_7 : ∀ t : Fin cfg1.N, win1_7.index t = ![0, 0] :=
  (by decide +kernel : ∀ t : Fin grid1.N, _)
theorem index1_8 : ∀ t : Fin cfg1.N, win1_8.index t = ![0, 0] :=
  (by decide +kernel : ∀ t : Fin grid1.N, _)
theorem index1_9 : ∀ t : Fin cfg1.N, win1_9.index t = ![(grid1.coords t 1).val, (grid1.coords t 0).val] :=
  (by decide +kernel : ∀ t : Fin grid1.N, _)

/-- Pair `p` of batch `b` in the projections, the queries at `o = 0`, the keys at `o = 1`, the values at `o = 2`. -/
def pairOf (P : FVec Ideal S8192x4096 .f32) (o : Fin 3) (b : Fin 4) (p : Fin 8) : FVec Ideal S1024x128 .f32 :=
  fun y => P (ix2 ⟨4096 + 1024 * b.val + (y 0).val, by have : (y 0).val < 1024 := (y 0).isLt; omega⟩
    ⟨1024 * o.val + 128 * p.val + (y 1).val, by have : (y 1).val < 128 := (y 1).isLt; omega⟩)

/-- Pair `p` of batch `b` of layer 0 in a cache. -/
def ctxOf (C : FVec Ideal S4x2x256x1024 .f32) (b : Fin 4) (p : Fin 8) : FVec Ideal S1x1x256x128 .f32 :=
  fun y => C (ix4 b 0 (y 2) ⟨128 * p.val + (y 3).val, by have : (y 3).val < 128 := (y 3).isLt; omega⟩)

/-- Pair `p` of layer 0 in a bias array. -/
def tableOf (B : FVec Ideal S2x8x128x896 .f32) (p : Fin 8) : FVec Ideal S1x1x128x896 .f32 :=
  fun y => B (ix4 0 p (y 2) (y 3))

section
variable (c : Dev nD) (t : Fin cfg1.N) (b : Fin 4) (p : Fin 8) (hp : (grid1.coords t 0).val = p.val)
  (hb : (grid1.coords t 1).val = b.val)
include hp hb

theorem iblk1_0 : iblk1 V c 0 t = pairOf (V c main_arg0) 0 b p := by
  funext y
  blk_simp [iblk1]
  unfold pairOf
  congr 1
  blk_ext [index1_0 t, hp, hb]

theorem iblk1_1 : iblk1 V c 1 t = pairOf (V c main_arg0) 1 b p := by
  funext y
  blk_simp [iblk1]
  unfold pairOf
  congr 1
  blk_ext [index1_1 t, hp, hb]

theorem iblk1_2 : iblk1 V c 2 t = pairOf (V c main_arg0) 2 b p := by
  funext y
  blk_simp [iblk1]
  unfold pairOf
  congr 1
  blk_ext [index1_2 t, hp, hb]

theorem iblk1_3 : iblk1 V c 3 t = ctxOf (V c main_v0) b p := by
  funext y
  blk_simp [iblk1]
  unfold ctxOf
  congr 1
  blk_ext [index1_3 t, hp, hb]

theorem iblk1_4 : iblk1 V c 4 t = ctxOf (V c main_v1) b p := by
  funext y
  blk_simp [iblk1]
  unfold ctxOf
  congr 1
  blk_ext [index1_4 t, hp, hb]

omit hb in
theorem iblk1_5 : iblk1 V c 5 t = tableOf (V c main_v4_0) p := by
  funext y
  blk_simp [iblk1]
  unfold tableOf
  congr 1
  blk_ext [index1_5 t, hp]

omit hb in
theorem iblk1_6 : iblk1 V c 6 t = tableOf (V c main_v4_1) p := by
  funext y
  blk_simp [iblk1]
  unfold tableOf
  congr 1
  blk_ext [index1_6 t, hp]

omit hp hb in
theorem iblk1_7 : iblk1 V c 7 t = V c main_v10 := by
  funext y
  blk_simp [iblk1]
  congr 1
  blk_ext [index1_7 t]

omit hp hb in
theorem iblk1_8 : iblk1 V c 8 t = V c main_v16 := by
  funext y
  blk_simp [iblk1]
  congr 1
  blk_ext [index1_8 t]

end

/-- The block of batch `b` and pair `p`. -/
def pairBlock (c : Dev nD) (b : Fin 4) (p : Fin 8) : Block :=
  blockOf (pairOf (V c main_arg0) 0 b p) (pairOf (V c main_arg0) 1 b p) (pairOf (V c main_arg0) 2 b p) (ctxOf (V c main_v0) b p)
    (ctxOf (V c main_v1) b p) (tableOf (V c main_v4_0) p) (tableOf (V c main_v4_1) p) (V c main_v10) (V c main_v16)

/-- The attention's result array. -/
theorem attnArr (c : Dev nD) : (dat1 V c).arrAt 9 cfg1.N
    = fun i : S4096x1024.Idx => (pairBlock V c ⟨(i 0).val / 1024, by have : (i 0).val < 4096 := (i 0).isLt; omega⟩
        ⟨(i 1).val / 128, by have : (i 1).val < 1024 := (i 1).isLt; omega⟩).out
        ⟨(i 0).val % 1024, by omega⟩ ⟨(i 1).val % 128, by omega⟩ := by
  refine (dat1 V c).arrAt_eq_of_covers 9 _ (by decide +kernel) fun t hf y => ?_
  blk_simp
  rw [after1_9]
  unfold outsAt1
  have hp : (grid1.coords t 0).val < 8 := (grid1.coords t 0).isLt
  have hb : (grid1.coords t 1).val < 4 := (grid1.coords t 1).isLt
  have hp' : (grid1.coords t 0).val = (⟨(grid1.coords t 0).val, hp⟩ : Fin 8).val := rfl
  have hb' : (grid1.coords t 1).val = (⟨(grid1.coords t 1).val, hb⟩ : Fin 4).val := rfl
  rw [body_out, iblk1_0 V c t _ _ hp' hb', iblk1_1 V c t _ _ hp' hb', iblk1_2 V c t _ _ hp' hb', iblk1_3 V c t _ _ hp' hb',
    iblk1_4 V c t _ _ hp' hb', iblk1_5 V c t _ hp', iblk1_6 V c t _ hp', iblk1_7 V c t, iblk1_8 V c t]
  show (pairBlock V c _ _).out (y 0) (y 1) = _
  have h0 : (y 0).val < 1024 := (y 0).isLt
  have h1 : (y 1).val < 128 := (y 1).isLt
  have e0 : win1_9.index t 0 = (grid1.coords t 1).val := congrFun (index1_9 t) 0
  have e1 : win1_9.index t 1 = (grid1.coords t 0).val := congrFun (index1_9 t) 1
  refine congr (congr (congrArg Block.out (congr (congrArg (pairBlock V c) (Fin.ext ?_)) (Fin.ext ?_))) (Fin.ext ?_)) (Fin.ext ?_)
  · show _ = (win1_9.index t 0 * 1024 + (y 0).val) / 1024; rw [e0]; dsimp only; omega
  · show _ = (win1_9.index t 1 * 128 + (y 1).val) / 128; rw [e1]; dsimp only; omega
  · show _ = (win1_9.index t 0 * 1024 + (y 0).val) % 1024; rw [e0]; omega
  · show _ = (win1_9.index t 1 * 128 + (y 1).val) % 128; rw [e1]; omega

end Cert.Attention
-- ==== Proof.Attention.Normal.lean ====
/-
  The block's queries and keys are the normalised ones of its two heads: the sums over 128 lanes with one half masked are sums
  over a head's 64 lanes.
-/
module

public import proofs.«01_k».proof.Proof.Attention.Head
public import proofs.«01_k».proof.Proof.Attention.Body

@[expose] public section

set_option maxRecDepth 65536

noncomputable section

open Idealize.ShloMosaic Idealize.ShloMosaic.TcCoe Idealize.SL.Sem
open Cert.KernelIdeal Cert.KernelIdeal.Gen

namespace Cert.Attention

/-- Lane `e` of half `hh`. -/
def lane (hh : Fin 2) (e : Fin 64) : Fin 128 := ⟨64 * hh.val + e.val, by omega⟩

theorem lane_lt (l : Fin 128) : IntOp.cmpi CmpIPredicate.slt (BitVec.ofNat 32 l.val) 64#32 = if l.val < 64 then 1#1 else 0#1 := by
  revert l; decide

theorem select_lane {α : Type} (l : Fin 128) (a b : α) :
    Scalar.select (IntOp.cmpi CmpIPredicate.slt (BitVec.ofNat 32 l.val) 64#32) a b = if l.val < 64 then a else b := by
  rw [lane_lt]
  split <;> rfl

theorem sixtyFourth : Ideal.ofBits FTy.f32 0x3C800000#32 = ((1 / 64 : ℝ) : EReal) := by
  have h : Ideal.ofBits FTy.f32 0x3C800000#32 = ((8388608 * (2 : ℝ) ^ (-29 : ℤ) : ℝ) : EReal) := by
    simp [Ideal.ofBits, Ideal.ieee]
  rw [h]
  congr 1
  norm_num

theorem q_scale : (Named.named κ "q_scale" 0x3E38AA3B#32 : Ideal .f32) = queryScale :=
  (IdealRules.named_const.ideal_named_scalar _ _ _ _ rfl).trans rfl

theorem sum_lo (x : Fin 128 → EReal) : (∑ l : Fin 128, if l.val < 64 then x l else 0) = ∑ e, x (lane 0 e) :=
  sum_half 0 _ _ (fun e he => if_neg (by have : (0 : Fin 2).val = 0 := rfl; omega))
    (fun e => by rw [if_pos (by show 64 * 0 + e.val < 64; omega)]; rfl)

theorem sum_hi (x : Fin 128 → EReal) : (∑ l : Fin 128, if l.val < 64 then 0 else x l) = ∑ e, x (lane 1 e) :=
  sum_half 1 _ _ (fun e he => if_pos (by have : (1 : Fin 2).val = 1 := rfl; omega))
    (fun e => by rw [if_neg (by show ¬ 64 * 1 + e.val < 64; omega)]; rfl)

/-- The pair's normalisation of a row of 128 lanes is each head's. -/
theorem pair_rms (x g : Fin 128 → EReal) (hh : Fin 2) (e : Fin 64) :
    (if (lane hh e).val < 64 then
        x (lane hh e) * Ideal.rsqrt ((∑ l : Fin 128, if l.val < 64 then x l * x l else 0) * ((1 / 64 : ℝ) : EReal) + eps)
      else x (lane hh e) * Ideal.rsqrt ((∑ l : Fin 128, if l.val < 64 then 0 else x l * x l) * ((1 / 64 : ℝ) : EReal) + eps)) *
      g (lane hh e) = rms (fun d => x (lane hh d)) (fun d => g (lane hh d)) e := by
  rw [sum_lo (fun l => x l * x l), sum_hi (fun l => x l * x l)]
  have h : hh = 0 ∨ hh = 1 := by omega
  rcases h with rfl | rfl
  · rw [if_pos (by show 64 * 0 + e.val < 64; omega)]; rfl
  · rw [if_neg (by show ¬ 64 * 1 + e.val < 64; omega)]; rfl

theorem pay3_at (x : FVec Ideal S1024x128 .f32) (g : FVec Ideal S1x128 .f32) (i : Fin 1024) (hh : Fin 2) (e : Fin 64) :
    k1_pay3 (F := Ideal) x g (ix2 i (lane hh e)) =
      rms (fun d => x (ix2 i (lane hh d))) (fun d => g (ix2 0 (lane hh d))) e * queryScale := by
  generalize hR : rms (fun d => x (ix2 i (lane hh d))) (fun d => g (ix2 0 (lane hh d))) e * queryScale = R
  pointwise [k1_pay3, k1_pay2]
  simp only [select_lane]
  rw [← hR, ← pair_rms (fun l => x (ix2 i l)) (fun l => g (ix2 0 l)), ← sixtyFourth, ← q_scale]
  rfl

theorem key_at (x : FVec Ideal S1024x128 .f32) (g : FVec Ideal S1x128 .f32) (i : Fin 1024) (hh : Fin 2) (e : Fin 64) :
    k1_pay6 (F := Ideal) k1_pay2 x g (ix2 i (lane hh e)) =
      rms (fun d => x (ix2 i (lane hh d))) (fun d => g (ix2 0 (lane hh d))) e := by
  generalize hR : rms (fun d => x (ix2 i (lane hh d))) (fun d => g (ix2 0 (lane hh d))) e = R
  pointwise [k1_pay6, k1_pay2]
  simp only [select_lane]
  rw [← hR, ← pair_rms (fun l => x (ix2 i l)) (fun l => g (ix2 0 l)), ← sixtyFourth]
  rfl

theorem qlo_at (x : FVec Ideal S1024x128 .f32) (g : FVec Ideal S1x128 .f32) (i : Fin 1024) (l : Fin 128) :
    k1_pay4 (F := Ideal) x g (ix2 i l) = if l.val < 64 then k1_pay3 (F := Ideal) x g (ix2 i l) else 0 := by
  pointwise [k1_pay4, k1_pay2]
  rw [select_lane]

theorem qhi_at (x : FVec Ideal S1024x128 .f32) (g : FVec Ideal S1x128 .f32) (i : Fin 1024) (l : Fin 128) :
    k1_pay5 (F := Ideal) x g (ix2 i l) = if l.val < 64 then 0 else k1_pay3 (F := Ideal) x g (ix2 i l) := by
  pointwise [k1_pay5, k1_pay2]
  rw [select_lane]

/-- The loaded blocks are those of head `H`, in half `hh`. -/
structure Loads (H : Head) (hh : Fin 2) (q k v : FVec Ideal S1024x128 .f32) (ck cv : FVec Ideal S1x1x256x128 .f32)
    (b b' : FVec Ideal S1x1x128x896 .f32) (gq gk : FVec Ideal S1x128 .f32) : Prop where
  q : ∀ i e, q (ix2 i (lane hh e)) = H.q i e
  k : ∀ i e, k (ix2 i (lane hh e)) = H.k i e
  v : ∀ i e, v (ix2 i (lane hh e)) = H.v i e
  ck : ∀ l e, ck (ix4 0 0 l (lane hh e)) = H.ck l e
  cv : ∀ l e, cv (ix4 0 0 l (lane hh e)) = H.cv l e
  gq : ∀ e, gq (ix2 0 (lane hh e)) = H.gq e
  gk : ∀ e, gk (ix2 0 (lane hh e)) = H.gk e
  bias : ∀ (c kc : Fin 64) (d : Fin 14), b (ix4 0 0 (lane hh c) ⟨64 * d.val + kc.val, by omega⟩) =
    if h : InWin c kc then H.rpb ⟨d.val, by omega⟩ ⟨kc.val + 15 - c.val, by have := h.1; have := h.2; omega⟩ * log2e else ⊥
  bias' : ∀ (c kc : Fin 64) (d : Fin 14), b' (ix4 0 0 (lane hh c) ⟨64 * d.val + kc.val, by omega⟩) =
    if h : InWin c kc then H.rpb ⟨d.val + 1, by omega⟩ ⟨kc.val + 15 - c.val, by have := h.1; have := h.2; omega⟩ * log2e else ⊥

variable {H : Head} {hh : Fin 2} {q k v : FVec Ideal S1024x128 .f32} {ck cv : FVec Ideal S1x1x256x128 .f32}
  {b b' : FVec Ideal S1x1x128x896 .f32} {gq gk : FVec Ideal S1x128 .f32}

theorem Loads.pay3 (h : Loads H hh q k v ck cv b b' gq gk) (i : Fin 1024) (e : Fin 64) :
    k1_pay3 (F := Ideal) q gq (ix2 i (lane hh e)) = H.query i e * queryScale := by
  rw [pay3_at]
  simp only [h.q, h.gq]
  rfl

theorem Loads.query (h : Loads H hh q k v ck cv b b' gq gk) (r : Fin 16) (c : Fin 64) (l : Fin 128) :
    (blockOf q k v ck cv b b' gq gk).query r (lane hh c) l =
      if l.val / 64 = hh.val then H.query (Head.tok r c) ⟨l.val % 64, by omega⟩ * queryScale else 0 := by
  have hrow : (⟨64 * r.val + (lane hh c).val % 64, by omega⟩ : Fin 1024) = Head.tok r c := by
    apply Fin.ext
    show 64 * r.val + (64 * hh.val + c.val) % 64 = 64 * r.val + c.val
    omega
  have hl (hl : l.val / 64 = hh.val) : l = lane hh ⟨l.val % 64, by omega⟩ := by
    apply Fin.ext
    show l.val = 64 * hh.val + l.val % 64
    omega
  have hq (hl' : l.val / 64 = hh.val) :
      k1_pay3 (F := Ideal) q gq (ix2 (Head.tok r c) l) = H.query (Head.tok r c) ⟨l.val % 64, by omega⟩ * queryScale := by
    rw [← h.pay3, ← hl hl']
  rw [Block.query, hrow]
  have hcases : hh = 0 ∨ hh = 1 := by omega
  rcases hcases with rfl | rfl
  · rw [if_pos (by show 64 * 0 + c.val < 64; omega), show (blockOf q k v ck cv b b' gq gk).qlo = k1_pay4 q gq from rfl, qlo_at]
    by_cases hlt : l.val < 64
    · rw [if_pos hlt, if_pos (by show l.val / 64 = 0; omega), hq (by show l.val / 64 = 0; omega)]
    · rw [if_neg hlt, if_neg (by show ¬ l.val / 64 = 0; omega)]
  · rw [if_neg (by show ¬ 64 * 1 + c.val < 64; omega), show (blockOf q k v ck cv b b' gq gk).qhi = k1_pay5 q gq from rfl, qhi_at]
    by_cases hlt : l.val < 64
    · rw [if_pos hlt, if_neg (by show ¬ l.val / 64 = 1; omega)]
    · rw [if_neg hlt, if_pos (by show l.val / 64 = 1; omega), hq (by show l.val / 64 = 1; omega)]

theorem Loads.biasAt (h : Loads H hh q k v ck cv b b' gq gk) (r : Fin 16) (c : Fin 64) (d : Fin 8) (kc : Fin 64) :
    (blockOf q k v ck cv b b' gq gk).biasAt r (lane hh c) ⟨64 * d.val + kc.val, by omega⟩ = H.bias r c d kc * log2e := by
  have hs := biasStart_le r
  rw [Head.bias, Block.biasAt]
  by_cases he : biasStart r % 2 = 0
  · rw [dif_pos he]
    have := h.bias c kc ⟨biasStart r + d.val, by omega⟩
    refine (congrArg (fun j => b (ix4 0 0 (lane hh c) j)) (Fin.ext ?_)).trans (this.trans ?_)
    · show 64 * biasStart r + (64 * d.val + kc.val) = 64 * (biasStart r + d.val) + kc.val
      ring
    · split
      · rfl
      · rw [bot_mul_log2e]
  · rw [dif_neg he]
    have := h.bias' c kc ⟨biasStart r - 1 + d.val, by omega⟩
    refine (congrArg (fun j => b' (ix4 0 0 (lane hh c) j)) (Fin.ext ?_)).trans (this.trans ?_)
    · show 64 * (biasStart r - 1) + (64 * d.val + kc.val) = 64 * (biasStart r - 1 + d.val) + kc.val
      ring
    · split
      · refine congrArg (fun j => H.rpb j _ * log2e) (Fin.ext ?_)
        show biasStart r - 1 + d.val + 1 = biasStart r + d.val
        omega
      · rw [bot_mul_log2e]

/-- A block whose loads are a head's holds the head. -/
theorem Loads.holds (h : Loads H hh q k v ck cv b b' gq gk) : Holds (blockOf q k v ck cv b b' gq gk) H hh where
  query := h.query
  key i e := by
    show k1_pay6 (F := Ideal) k1_pay2 k gk (ix2 i (lane hh e)) = _
    rw [key_at]
    simp only [h.k, h.gk]
    rfl
  val i e := h.v i e
  ckey l e := by
    rw [← h.ck]
    show truncf (F := Ideal) .bf16 (shapeCast S256x128 ck shapeCasts_S1x1x256x128_S256x128) bitsLt_bf16_f32 (ix2 l (lane hh e)) = _
    pointwise
  cval l e := by
    rw [← h.cv]
    show truncf (F := Ideal) .bf16 (shapeCast S256x128 cv shapeCasts_S1x1x256x128_S256x128) bitsLt_bf16_f32 (ix2 l (lane hh e)) = _
    pointwise
  bias := h.biasAt

end Cert.Attention
-- ==== Proof.Attention.Host.lean ====
module

public import proofs.«01_k».proof.Proof.Attention.Arrays
public import proofs.«01_k».proof.Proof.Attention.Normal

/-!
The operand arrays of the two calls, read from the arguments: the caches with the heads side by side, the biases padded, the gains
repeated for the two heads of a pair.
-/

@[expose] public section

set_option maxRecDepth 65536

noncomputable section

namespace Cert.Attention

open Idealize.ShloMosaic Idealize.ShloMosaic.TcCoe Idealize.SL.Sem
open Cert.KernelIdeal Cert.KernelIdeal.Gen

/-- Head `h` of batch `b` of the arguments: the projections, the two caches, the biases and the two gains. -/
def headOf (P : FVec Ideal S8192x4096 .f32) (K C : FVec Ideal S4x2x256x16x64 .f32) (R : FVec Ideal S2x16x15x31 .f32)
    (Q G : FVec Ideal S2x64 .f32) (b : Fin 4) (h : Fin 16) : Head where
  q i e := P (ix2 ⟨4096 + 1024 * b.val + i.val, by omega⟩ ⟨64 * h.val + e.val, by omega⟩)
  k i e := P (ix2 ⟨4096 + 1024 * b.val + i.val, by omega⟩ ⟨1024 + (64 * h.val + e.val), by omega⟩)
  v i e := P (ix2 ⟨4096 + 1024 * b.val + i.val, by omega⟩ ⟨2048 + (64 * h.val + e.val), by omega⟩)
  ck l e := K (ix5 b 0 l h e)
  cv l e := C (ix5 b 0 l h e)
  rpb d k := R (ix4 0 h d k)
  gq e := Q (ix2 0 e)
  gk e := G (ix2 0 e)

variable (m : (ℓ : Loc nD τ sig) → Buf (Elt Ideal) ℓ) (ρ : Dev nD → PrngReg)

theorem V5_arg0 (c : Dev nD) : V5 m ρ c main_arg0 = m ((c : Thread nD τ).loc main_arg0) :=
  W5_args m ρ c _ (by decide)

theorem V5_v0 (c : Dev nD) : V5 m ρ c main_v0
    = shapeCast S4x2x256x1024 (m ((c : Thread nD τ).loc main_arg1)) shapeCasts_S4x2x256x16x64_S4x2x256x1024 := by
  refine (W5_of m ρ c main_v0 (by decide)).trans ((W4_of m ρ c main_v0 (by decide)).trans ((W3_of m ρ c main_v0 (by decide)).trans
    ((W2_of m ρ c main_v0 (by decide)).trans ?_)))
  after_results
  rfl

theorem V5_v1 (c : Dev nD) : V5 m ρ c main_v1
    = shapeCast S4x2x256x1024 (m ((c : Thread nD τ).loc main_arg2)) shapeCasts_S4x2x256x16x64_S4x2x256x1024 := by
  refine (W5_of m ρ c main_v1 (by decide)).trans ((W4_of m ρ c main_v1 (by decide)).trans ((W3_of m ρ c main_v1 (by decide)).trans
    ((W2_of m ρ c main_v1 (by decide)).trans ?_)))
  after_results
  rfl

theorem V5_table (c : Dev nD) : V5 m ρ c main_v4_0 = (dat0 (V3 m ρ) c).arrAt 1 cfg0.N :=
  (W5_of m ρ c main_v4_0 (by decide)).trans (W4_arr m ρ c 1)

theorem V5_table' (c : Dev nD) : V5 m ρ c main_v4_1 = (dat0 (V3 m ρ) c).arrAt 2 cfg0.N :=
  (W5_of m ρ c main_v4_1 (by decide)).trans (W4_arr m ρ c 2)

/-- A gain of layer 0, repeated for the two heads of a pair. -/
def twice (Q : FVec Ideal S2x64 .f32) : FVec Ideal S1x128 .f32 :=
  shapeCast S1x128 (shapeCast S128 (broadcastInDim S2x64 ![0, 1] bcast_S1x64_S2x64_0_1
    (shapeCast S1x64 (shapeCast S64 (extractStridedSlice S1x64 ![0, 0] Q slices_S2x64_S1x64_0_0) shapeCasts_S1x64_S64)
      shapeCasts_S64_S1x64)) shapeCasts_S2x64_S128) shapeCasts_S128_S1x128

theorem twice_at (Q : FVec Ideal S2x64 .f32) (hh : Fin 2) (e : Fin 64) : twice Q (ix2 0 (lane hh e)) = Q (ix2 0 e) := by
  unfold twice lane
  generalize hR : Q (ix2 0 e) = R
  pointwise
  exact hR

theorem V5_v10 (c : Dev nD) : V5 m ρ c main_v10 = twice (m ((c : Thread nD τ).loc main_arg4)) := by
  have h : W4 m ρ c (Proc.devRef .tc main_arg4) = m ((c : Thread nD τ).loc main_arg4) := W4_args m ρ c _ (by decide)
  rw [← h]
  show StableHlo.after hostOps1 (W4 m ρ c) (Proc.devRef .tc main_v10) = _
  generalize W4 m ρ c = W
  after_results
  rfl

theorem V5_v16 (c : Dev nD) : V5 m ρ c main_v16 = twice (m ((c : Thread nD τ).loc main_arg5)) := by
  have h : W4 m ρ c (Proc.devRef .tc main_arg5) = m ((c : Thread nD τ).loc main_arg5) := W4_args m ρ c _ (by decide)
  rw [← h]
  show StableHlo.after hostOps1 (W4 m ρ c) (Proc.devRef .tc main_v16) = _
  generalize W4 m ρ c = W
  after_results
  rfl

/-- The biases, padded and cut into pairs of heads. -/
def padded (R : FVec Ideal S2x16x15x31 .f32) (z : FVec Ideal S_ .f32) : FVec Ideal S2x8x2x16x128 .f32 :=
  shapeCast S2x8x2x16x128 (pad S2x16x16x128 ![0, 0, 0, 0] ![0, 0, 1, 97] ![0, 0, 0, 0] R z
    pads_S2x16x15x31_S2x16x16x128_000_000_010_0970 h_S_) shapeCasts_S2x16x16x128_S2x8x2x16x128

theorem padded_at (R : FVec Ideal S2x16x15x31 .f32) (z : FVec Ideal S_ .f32) (l : Fin 2) (p : Fin 8) (hh : Fin 2) (d : Fin 16)
    (k : Fin 128) (hd : d.val < 15) (hk : k.val < 31) :
    padded R z (ix5 l p hh d k) = R (ix4 l ⟨2 * p.val + hh.val, by omega⟩ ⟨d.val, hd⟩ ⟨k.val, hk⟩) := by
  unfold padded
  generalize hR : R (ix4 l ⟨2 * p.val + hh.val, by omega⟩ ⟨d.val, hd⟩ ⟨k.val, hk⟩) = X
  pointwise
  rw [← hR]
  rw [dif_pos ⟨by omega, hd, hk⟩]
  exact congrArg (fun h : Fin 16 => R (ix4 l h ⟨d.val, hd⟩ ⟨k.val, hk⟩)) (Fin.ext (by dsimp only; omega))

theorem V3_v3 (c : Dev nD) : ∃ z, V3 m ρ c main_v3 = padded (m ((c : Thread nD τ).loc main_arg3)) z := by
  have h : W1 m ρ c (Proc.devRef .tc main_arg3) = m ((c : Thread nD τ).loc main_arg3) := W1_args m ρ c _ (by decide)
  rw [← h]
  show ∃ z, StableHlo.after hostOps0_2 (StableHlo.after hostOps0_1 (W1 m ρ c)) (Proc.devRef .tc main_v3) = _
  generalize W1 m ρ c = W
  after_results
  exact ⟨_, rfl⟩

theorem projections_congr (P : FVec Ideal S8192x4096 .f32) {i i' : Fin 8192} {j j' : Fin 4096} (hi : i.val = i'.val) (hj : j.val = j'.val) :
    P (ix2 i j) = P (ix2 i' j') := by rw [Fin.ext hi, Fin.ext hj]

/-- A cache with its heads side by side. -/
theorem ctxOf_at (K : FVec Ideal S4x2x256x16x64 .f32) (b : Fin 4) (p : Fin 8) (hh : Fin 2) (l : Fin 256) (e : Fin 64) :
    ctxOf (shapeCast S4x2x256x1024 K shapeCasts_S4x2x256x16x64_S4x2x256x1024) b p (ix4 0 0 l (lane hh e))
      = K (ix5 b 0 l ⟨2 * p.val + hh.val, by omega⟩ e) := by
  show shapeCast S4x2x256x1024 K shapeCasts_S4x2x256x16x64_S4x2x256x1024
    (ix4 b 0 l ⟨128 * p.val + (64 * hh.val + e.val), by omega⟩) = _
  generalize hR : K (ix5 b 0 l ⟨2 * p.val + hh.val, by omega⟩ e) = X
  pointwise
  rw [← hR]
  exact congrArg (fun h : Fin 16 => K (ix5 b 0 l h e)) (Fin.ext (by dsimp only; omega))

/-- A table's entry in a head's own biases. -/
theorem table_at (R : FVec Ideal S2x16x15x31 .f32) (z : FVec Ideal S_ .f32) (p : Fin 8) (hh s : Fin 2) (q kc : Fin 64) (d : Fin 14) :
    tableAt (pairRows (padded R z) 0 p) s (lane hh q) ⟨64 * d.val + kc.val, by omega⟩
      = if h : InWin q kc then R (ix4 0 ⟨2 * p.val + hh.val, by omega⟩ ⟨d.val + s.val, by omega⟩
          ⟨kc.val + 15 - q.val, by have := h.1; have := h.2; omega⟩) * log2e else ⊥ := by
  have e1 : (lane hh q).val % 64 = q.val := by show (64 * hh.val + q.val) % 64 = _; omega
  have e2 : (64 * d.val + kc.val) % 64 = kc.val := by omega
  have e3 : (lane hh q).val / 64 = hh.val := by show (64 * hh.val + q.val) / 64 = _; omega
  have e4 : (64 * d.val + kc.val) / 64 = d.val := by omega
  unfold tableAt
  by_cases h : InWin q kc
  · have := h.1
    have := h.2
    rw [dif_pos h, dif_pos (by dsimp only; rw [e1, e2]; exact h)]
    congr 1
    refine (padded_at R z 0 p ⟨(lane hh q).val / 64, by omega⟩ ⟨(64 * d.val + kc.val) / 64 + s.val, by omega⟩
      ⟨(64 * d.val + kc.val) % 64 + 15 - (lane hh q).val % 64, by omega⟩ (by dsimp only; omega) (by dsimp only; omega)).trans ?_
    refine congrArg R ?_
    refine congr (congr (congrArg (ix4 0) (Fin.ext ?_)) (Fin.ext ?_)) (Fin.ext ?_)
    · dsimp only; omega
    · dsimp only; omega
    · dsimp only; omega
  · rw [dif_neg h, dif_neg (by dsimp only; rw [e1, e2]; exact h)]

/-- The blocks of batch `b` and pair `p` are those of the pair's two heads. -/
theorem loads (c : Dev nD) (b : Fin 4) (p : Fin 8) (hh : Fin 2) :
    Loads (headOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) b
        ⟨2 * p.val + hh.val, by omega⟩) hh
      (pairOf (V5 m ρ c main_arg0) 0 b p) (pairOf (V5 m ρ c main_arg0) 1 b p) (pairOf (V5 m ρ c main_arg0) 2 b p)
      (ctxOf (V5 m ρ c main_v0) b p) (ctxOf (V5 m ρ c main_v1) b p) (tableOf (V5 m ρ c main_v4_0) p) (tableOf (V5 m ρ c main_v4_1) p)
      (V5 m ρ c main_v10) (V5 m ρ c main_v16) := by
  obtain ⟨z, hz⟩ := V3_v3 m ρ c
  rw [V5_arg0, V5_v0, V5_v1, V5_table, V5_table', V5_v10, V5_v16, biasArr_1, biasArr_2, hz]
  generalize m ((c : Thread nD τ).loc main_arg0) = P
  generalize m ((c : Thread nD τ).loc main_arg1) = K
  generalize m ((c : Thread nD τ).loc main_arg2) = C
  generalize m ((c : Thread nD τ).loc main_arg3) = R
  generalize m ((c : Thread nD τ).loc main_arg4) = Q
  generalize m ((c : Thread nD τ).loc main_arg5) = G
  exact ⟨fun i e => projections_congr P rfl (by show 1024 * 0 + 128 * p.val + (64 * hh.val + e.val) = 64 * (2 * p.val + hh.val) + e.val; omega),
    fun i e => projections_congr P rfl
      (by show 1024 * 1 + 128 * p.val + (64 * hh.val + e.val) = 1024 + (64 * (2 * p.val + hh.val) + e.val); omega),
    fun i e => projections_congr P rfl
      (by show 1024 * 2 + 128 * p.val + (64 * hh.val + e.val) = 2048 + (64 * (2 * p.val + hh.val) + e.val); omega),
    ctxOf_at K b p hh, ctxOf_at C b p hh, twice_at Q hh, twice_at G hh, table_at R z p hh 0, table_at R z p hh 1⟩

/-- The heads of the launch's arguments. -/
def headAt (c : Dev nD) (b : Fin 4) (h : Fin 16) : Head :=
  headOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) b h

/-- The result array, where the context's keys, the biases and the gains are real: the attention of each head. -/
theorem result_at (c : Dev nD) (hR : ∀ b h, (headAt m c b h).Real) (b : Fin 4) (r : Fin 16) (q : Fin 64) (h : Fin 16) (e : Fin 64) :
    (W6 m ρ c (Proc.devRef .tc main_v17) : FVec Ideal S4096x1024 .bf16)
        (ix2 ⟨1024 * b.val + (64 * r.val + q.val), by omega⟩ ⟨64 * h.val + e.val, by omega⟩)
      = (headAt m c b h).attend r q e := by
  have e9 : W6 m ρ c (Proc.devRef .tc main_v17) = (dat1 (V5 m ρ) c).arrAt 9 cfg1.N := W6_arr m ρ c 9
  rw [e9, attnArr]
  have hp : h.val / 2 < 8 := by omega
  have hh : h.val % 2 < 2 := by omega
  have eh : (⟨2 * (h.val / 2) + h.val % 2, by omega⟩ : Fin 16) = h := Fin.ext (by dsimp only; omega)
  have hl := loads m ρ c b ⟨h.val / 2, hp⟩ ⟨h.val % 2, hh⟩
  have := Holds.out hl.holds (by have := hR b h; rw [← eh] at this; exact this) r q e
  dsimp only at this
  rw [eh] at this
  refine Eq.trans ?_ this
  refine congr (congr (congrArg Block.out (congr (congrArg (pairBlock (V5 m ρ) c) (Fin.ext ?_)) (Fin.ext ?_))) (Fin.ext ?_)) (Fin.ext ?_)
  · show (1024 * b.val + (64 * r.val + q.val)) / 1024 = b.val; omega
  · show (64 * h.val + e.val) / 128 = h.val / 2; omega
  · show (1024 * b.val + (64 * r.val + q.val)) % 1024 = 64 * r.val + q.val; omega
  · show (64 * h.val + e.val) % 128 = 64 * (h.val % 2) + e.val; omega

end Cert.Attention
-- ==== Proof.Attention.Tables.lean ====
module

public import proofs.«01_k».proof.Proof.Gen.ReferenceIdeal.Run
public import proofs.«01_k».proof.Proof.Attention.Head
public import Idealize.ShloMosaic.Lib.Pointwise

/-!
The reference's index tables: the image row and column each window entry reads, where it lies in the window, and which bias it
takes.
-/

@[expose] public section

set_option maxRecDepth 65536

noncomputable section

namespace Cert.Attention

open Idealize.ShloMosaic Idealize.ShloMosaic.TcCoe Idealize.SL.Sem
open Cert.ReferenceIdeal Cert.ReferenceIdeal.Gen Cert.ReferenceIdeal.Value

variable (V0 : Valuation τ sig (Elt Ideal))

/-- The image row of entry `d` of row `r`'s window. -/
theorem row_word (r : Fin 16) (d : Fin 8) : res_main_v54 V0 (ix2 r d) = BitVec.ofNat 32 (bandStart r + d.val) := by
  generalize hR : BitVec.ofNat 32 (bandStart r + d.val) = R
  unfold res_main_v54 res_main_v45
  pointwise
  rw [← hR]
  clear hR
  refine (?_ : @Eq (BitVec 32) _ _)
  revert r d
  decide +kernel

/-- The image column of entry `k` of column block `b`'s window. -/
theorem col_word (b : Fin 4) (k : Fin 32) : res_main_v66 V0 (ix2 b k) = BitVec.ofNat 32 (min (16 * b.val - 8) 32 + k.val) := by
  generalize hR : BitVec.ofNat 32 (min (16 * b.val - 8) 32 + k.val) = R
  unfold res_main_v66 res_main_v57
  pointwise
  rw [← hR]
  clear hR
  refine (?_ : @Eq (BitVec 32) _ _)
  revert b k
  decide +kernel

/-- The image column of query `q` of column block `b`. -/
theorem query_word (b : Fin 4) (q : Fin 16) : res_main_v72 V0 (ix2 b q) = BitVec.ofNat 32 (16 * b.val + q.val) := by
  generalize hR : BitVec.ofNat 32 (16 * b.val + q.val) = R
  unfold res_main_v72 res_main_v57
  pointwise
  rw [← hR]
  clear hR
  refine (?_ : @Eq (BitVec 32) _ _)
  revert b q
  decide +kernel

/-- The first column of its window. -/
theorem start_word (b : Fin 4) (q : Fin 16) (z : Fin 1) :
    res_main_v76 V0 (ix3 b q z) = BitVec.ofNat 32 (min (16 * b.val + q.val - 8) 48) := by
  generalize hR : BitVec.ofNat 32 (min (16 * b.val + q.val - 8) 48) = R
  have e := query_word V0 b q
  unfold res_main_v76
  revert e
  generalize res_main_v72 V0 = Q
  intro e
  pointwise
  rw [e, ← hR]
  clear hR e
  refine (?_ : @Eq (BitVec 32) _ _)
  revert b q
  decide +kernel

/-- The window contains the columns it should. -/
theorem window_bit (b : Fin 4) (q : Fin 16) (k : Fin 32) :
    res_main_v87 V0 (ix3 b q k) = if InWin (16 * b.val + q.val) (min (16 * b.val - 8) 32 + k.val) then 1#1 else 0#1 := by
  generalize hR : (if InWin (16 * b.val + q.val) (min (16 * b.val - 8) 32 + k.val) then 1#1 else 0#1) = R
  have e := start_word V0 b q
  have e' := col_word V0 b k
  unfold res_main_v87
  revert e e'
  generalize res_main_v76 V0 = Q
  generalize res_main_v66 V0 = K
  intro e e'
  pointwise
  rw [e, e', ← hR]
  clear hR e e'
  refine (?_ : @Eq (BitVec 1) _ _)
  revert b q k
  decide +kernel

/-- The row of the biases entry `d` of row `r`'s window takes. -/
theorem bias_row_word (r : Fin 16) (d : Fin 8) (z z' z'' : Fin 1) :
    res_main_v101 V0 (ix5 r z z' d z'') = BitVec.ofNat 32 (biasStart r + d.val) := by
  generalize hR : BitVec.ofNat 32 (biasStart r + d.val) = R
  have e := row_word V0 r d
  unfold res_main_v101 res_main_v45
  revert e
  generalize res_main_v54 V0 = Q
  intro e
  pointwise
  rw [e, ← hR]
  clear hR e
  refine (?_ : @Eq (BitVec 32) _ _)
  revert r d
  decide +kernel

/-- The column of the biases an entry takes, where it is in the window. -/
theorem bias_col_word (b : Fin 4) (q : Fin 16) (k : Fin 32) (z z' : Fin 1) :
    res_main_v102 V0 (ix5 z b q z' k) = if InWin (16 * b.val + q.val) (min (16 * b.val - 8) 32 + k.val)
      then BitVec.ofNat 32 (min (16 * b.val - 8) 32 + k.val + 15 - (16 * b.val + q.val)) else 0#32 := by
  generalize hR : (if InWin (16 * b.val + q.val) (min (16 * b.val - 8) 32 + k.val)
      then BitVec.ofNat 32 (min (16 * b.val - 8) 32 + k.val + 15 - (16 * b.val + q.val)) else 0#32) = R
  have e := query_word V0 b q
  have e' := col_word V0 b k
  have e'' := window_bit V0 b q k
  unfold res_main_v102
  revert e e' e''
  generalize res_main_v72 V0 = Q
  generalize res_main_v66 V0 = K
  generalize res_main_v87 V0 = W
  intro e e' e''
  pointwise
  rw [e, e', e'', ← hR]
  clear hR e e' e''
  refine (?_ : @Eq (BitVec 32) _ _)
  revert b q k
  decide +kernel

end Cert.Attention
-- ==== Proof.Attention.Gathers.lean ====
module

public import proofs.«01_k».proof.Proof.Attention.Tables
public import Idealize.ShloMosaic.Lib.StableHlo.Predicate

/-!
The reference's two gathers read at an index: the neighbourhood of an image, and the biases of a window.
-/

@[expose] public section

set_option maxRecDepth 65536

noncomputable section

namespace Cert.Attention

open Idealize.ShloMosaic Idealize.ShloMosaic.TcCoe Idealize.SL.Sem
open Cert.ReferenceIdeal Cert.ReferenceIdeal.Gen Cert.ReferenceIdeal.Value

/-- A gather with no batching axes, on an operand axis its start indices name: the coordinate is the index word. -/
theorem named_axis {s si t : Shape} (d : GatherDims s si t) (y : t.Idx) (idx : IVec si 32) (a : Fin s.rank) (i : si.Idx) (n : ℕ)
    (hb : d.operandBatchingDims = []) (hk : a ∉ d.sKept) (ha : a ∈ d.startIndexMap)
    (hi : d.siIdx y ⟨d.startIndexMap.idxOf a, List.idxOf_lt_length_iff.2 ha⟩ = i) (hw : idx i = BitVec.ofNat 32 n)
    (hn : n ≤ s.size a - d.sliceSizes a) (hs : n < 2 ^ 31) :
    d.start y idx a + d.batchCoord y a + d.offCoord y a = n := by
  have h0 : a ∉ d.operandBatchingDims := by rw [hb]; exact List.not_mem_nil
  rw [d.batchCoord_eq_zero _ _ h0, d.offCoord_eq_zero _ _ hk]
  unfold GatherDims.start
  rw [dif_pos ha, hi, hw, StableHlo.Predicate.toInt_ofNat_small _ hs]
  simpa using hn

/-- The same on an axis the start indices do not name: the coordinate is the result's offset coordinate. -/
theorem offset_axis {s si t : Shape} (d : GatherDims s si t) (y : t.Idx) (idx : IVec si 32) (a : Fin s.rank)
    (hb : d.operandBatchingDims = []) (ha : a ∉ d.startIndexMap) :
    d.start y idx a + d.batchCoord y a + d.offCoord y a = d.offCoord y a := by
  have h0 : a ∉ d.operandBatchingDims := by rw [hb]; exact List.not_mem_nil
  rw [d.batchCoord_eq_zero _ _ h0]
  unfold GatherDims.start
  rw [dif_neg ha, Nat.zero_add]

/-- An image at the rows and columns the index array names. -/
theorem gather_image (x : FVec Ideal S4x16x64x16x64 .f32) (idx : IVec S16x4x8x32x2 32) (b : Fin 4) (r : Fin 16) (cb : Fin 4) (d : Fin 8) (k : Fin 32)
    (h : Fin 16) (e : Fin 64) (row : Fin 16) (col : Fin 64)
    (hrow : idx (ix5 r cb d k 0) = BitVec.ofNat 32 row.val) (hcol : idx (ix5 r cb d k 1) = BitVec.ofNat 32 col.val) :
    Host.gather gather_S4x16x64x16x64_S16x4x8x32x2_S4x16x4x8x32x16x64_056_12_n_n_12_4_4111664 x idx (ix7 b r cb d k h e) = x (ix5 b row col h e) := by
  unfold Host.gather
  refine congrArg x (funext fun a => Fin.ext ?_)
  match a with
  | ⟨0, _⟩ => exact offset_axis gather_S4x16x64x16x64_S16x4x8x32x2_S4x16x4x8x32x16x64_056_12_n_n_12_4_4111664 _ idx 0 rfl (by decide)
  | ⟨1, _⟩ =>
    exact named_axis gather_S4x16x64x16x64_S16x4x8x32x2_S4x16x4x8x32x16x64_056_12_n_n_12_4_4111664 _ idx 1 (ix5 r cb d k 0) row.val rfl (by decide) (by decide)
      (funext fun b' => by fin_cases b' <;> rfl) hrow (Nat.le_of_lt_succ row.isLt) (by omega)
  | ⟨2, _⟩ =>
    exact named_axis gather_S4x16x64x16x64_S16x4x8x32x2_S4x16x4x8x32x16x64_056_12_n_n_12_4_4111664 _ idx 2 (ix5 r cb d k 1) col.val rfl (by decide) (by decide)
      (funext fun b' => by fin_cases b' <;> rfl) hcol (Nat.le_of_lt_succ col.isLt) (by omega)
  | ⟨3, _⟩ => exact offset_axis gather_S4x16x64x16x64_S16x4x8x32x2_S4x16x4x8x32x16x64_056_12_n_n_12_4_4111664 _ idx 3 rfl (by decide)
  | ⟨4, _⟩ => exact offset_axis gather_S4x16x64x16x64_S16x4x8x32x2_S4x16x4x8x32x16x64_056_12_n_n_12_4_4111664 _ idx 4 rfl (by decide)

/-- A table of biases at the rows and columns the index array names. -/
theorem gather_bias (x : FVec Ideal S16x15x31 .f32) (idx : IVec S16x4x16x8x32x2 32) (h : Fin 16) (r : Fin 16) (cb : Fin 4) (q : Fin 16) (d : Fin 8)
    (k : Fin 32) (row : Fin 15) (col : Fin 31)
    (hrow : idx (ix6 r cb q d k 0) = BitVec.ofNat 32 row.val) (hcol : idx (ix6 r cb q d k 1) = BitVec.ofNat 32 col.val) :
    Host.gather gather_S16x15x31_S16x4x16x8x32x2_S16x16x4x16x8x32_0_12_n_n_12_5_1611 x idx (ix6 h r cb q d k) = x (ix3 h row col) := by
  unfold Host.gather
  refine congrArg x (funext fun a => Fin.ext ?_)
  match a with
  | ⟨0, _⟩ => exact offset_axis gather_S16x15x31_S16x4x16x8x32x2_S16x16x4x16x8x32_0_12_n_n_12_5_1611 _ idx 0 rfl (by decide)
  | ⟨1, _⟩ =>
    exact named_axis gather_S16x15x31_S16x4x16x8x32x2_S16x16x4x16x8x32_0_12_n_n_12_5_1611 _ idx 1 (ix6 r cb q d k 0) row.val rfl (by decide) (by decide)
      (funext fun b' => by fin_cases b' <;> rfl) hrow (Nat.le_of_lt_succ row.isLt) (by omega)
  | ⟨2, _⟩ =>
    exact named_axis gather_S16x15x31_S16x4x16x8x32x2_S16x16x4x16x8x32_0_12_n_n_12_5_1611 _ idx 2 (ix6 r cb q d k 1) col.val rfl (by decide) (by decide)
      (funext fun b' => by fin_cases b' <;> rfl) hcol (Nat.le_of_lt_succ col.isLt) (by omega)

end Cert.Attention
-- ==== Proof.Attention.RefOps.lean ====
module

public import proofs.«01_k».proof.Proof.Attention.Tables

/-!
The reference's products, its greatest score and its sum of weights, read at an index.
-/

@[expose] public section

set_option maxRecDepth 65536

noncomputable section

namespace Cert.Attention

open Idealize.ShloMosaic Idealize.ShloMosaic.TcCoe Idealize.SL.Sem
open Cert.ReferenceIdeal Cert.ReferenceIdeal.Gen Cert.ReferenceIdeal.Value

/-- The entries that the last axis's reduction takes to one place are that place's 512. -/
theorem last_axis (h : S4x16x16x4x16x512.ReducesTo [5] S4x16x16x4x16) (b h' r : Fin _) (cb q : Fin _)
    (i : S4x16x16x4x16x512.Idx) :
    h.drop i = (ix5 b h' r cb q : S4x16x16x4x16.Idx) ↔ ∃ k : Fin 512, (ix6 b h' r cb q k : S4x16x16x4x16x512.Idx) = i := by
  constructor
  · intro e
    refine ⟨i 5, funext fun a => Fin.ext ?_⟩
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext a
    apply Fin.ext
    match a with
    | ⟨0, _⟩ => rfl
    | ⟨1, _⟩ => rfl
    | ⟨2, _⟩ => rfl
    | ⟨3, _⟩ => rfl
    | ⟨4, _⟩ => rfl

theorem max_last (x : FVec Ideal S4x16x16x4x16x512 .f32) (h : S4x16x16x4x16x512.ReducesTo [5] S4x16x16x4x16) (hu : 0 < S_.numel)
    (b : Fin 4) (h' : Fin 16) (r : Fin 16) (cb : Fin 4) (q : Fin 16) :
    (Host.reduce FloatOps.maximumf x (constant S_ .f32 0xFF800000#32 : FVec Ideal S_ .f32) h hu : FVec Ideal S4x16x16x4x16 .f32)
      (ix5 b h' r cb q) = peak (fun i => x (ix6 b h' r cb q i)) := by
  rw [Host.reduce_eq_fold, Finset.fold_filter_eq_fold_of_fiber FloatOps.maximumf _ _ (fun _ _ e => congrFun e 5)
    (last_axis h b h' r cb q)]
  have : (constant S_ .f32 0xFF800000#32 : FVec Ideal S_ .f32) (Shape.Idx.first hu) = (⊥ : EReal) := by
    show Ideal.ofBits .f32 0xFF800000#32 = ⊥
    simp [Ideal.ofBits, Ideal.ieee]
  rw [this]
  rfl

theorem sum_last (x : FVec Ideal S4x16x16x4x16x512 .f32) (h : S4x16x16x4x16x512.ReducesTo [5] S4x16x16x4x16) (hu : 0 < S_.numel)
    (b : Fin 4) (h' : Fin 16) (r : Fin 16) (cb : Fin 4) (q : Fin 16) :
    (Host.reduceAdd x (constant S_ .f32 0x00000000#32 : FVec Ideal S_ .f32) h hu : FVec Ideal S4x16x16x4x16 .f32)
      (ix5 b h' r cb q) = ∑ i, x (ix6 b h' r cb q i) := by
  have h0 : (constant S_ .f32 0x00000000#32 : FVec Ideal S_ .f32) (Shape.Idx.first hu) = (0 : EReal) := by
    show Ideal.ofBits .f32 0x00000000#32 = 0
    simp [Ideal.ofBits, Ideal.ieee]
  rw [Host.reduceAdd_apply, h0]
  show (0 : EReal) + ∑ i ∈ Finset.univ.filter (fun i => h.drop i = ix5 b h' r cb q), x i = _
  rw [zero_add, Finset.sum_filter_eq_sum_of_fiber _ _ (fun _ _ e => congrFun e 5) (last_axis h b h' r cb q)]

theorem dot_band (x : FVec Ideal S4x16x4x16x16x64 .f32) (y : FVec Ideal S4x16x4x256x16x64 .f32) (b : Fin 4) (h : Fin 16) (r : Fin 16)
    (cb : Fin 4) (q : Fin 16) (i : Fin 256) :
    Host.dotGeneral dot_S4x16x4x16x16x64_S4x16x4x256x16x64_S4x16x16x4x16x256_5_5_3_3_0412_0412 none x y (ix6 b h r cb q i)
      = ∑ e : Fin 64, x (ix6 b r cb q h e) * y (ix6 b r cb i h e) := by
  pointwise

theorem dot_ctx (x : FVec Ideal S4x16x4x16x16x64 .f32) (y : FVec Ideal S4x256x16x64 .f32) (b : Fin 4) (h : Fin 16) (r : Fin 16)
    (cb : Fin 4) (q : Fin 16) (i : Fin 256) :
    Host.dotGeneral dot_S4x16x4x16x16x64_S4x256x16x64_S4x16x16x4x16x256_5_3_123_1_04_02 none x y (ix6 b h r cb q i)
      = ∑ e : Fin 64, x (ix6 b r cb q h e) * y (ix4 b i h e) := by
  pointwise

theorem dot_band_values (x : FVec Ideal S4x16x4x256x16x64 .f32) (y : FVec Ideal S4x16x16x4x16x256 .f32) (b : Fin 4) (h : Fin 16)
    (r : Fin 16) (cb : Fin 4) (q : Fin 16) (e : Fin 64) :
    Host.dotGeneral dot_S4x16x4x256x16x64_S4x16x16x4x16x256_S4x16x4x16x64x16_3_5_5_4_0124_0231 none x y (ix6 b r cb h e q)
      = ∑ i : Fin 256, x (ix6 b r cb i h e) * y (ix6 b h r cb q i) := by
  pointwise

theorem dot_ctx_values (x : FVec Ideal S4x256x16x64 .f32) (y : FVec Ideal S4x16x16x4x16x256 .f32) (b : Fin 4) (h : Fin 16)
    (r : Fin 16) (cb : Fin 4) (q : Fin 16) (e : Fin 64) :
    Host.dotGeneral dot_S4x256x16x64_S4x16x16x4x16x256_S4x16x64x16x4x16_1_5_3_234_02_01 none x y (ix6 b h e r cb q)
      = ∑ i : Fin 256, x (ix4 b i h e) * y (ix6 b h r cb q i) := by
  pointwise

end Cert.Attention
-- ==== Proof.Attention.RefNorm.lean ====
module

public import proofs.«01_k».proof.Proof.Attention.RefOps

/-!
The reference's normalised queries and keys, its values and its context, as those of the arguments' heads.
-/

@[expose] public section

set_option maxRecDepth 65536

noncomputable section

namespace Cert.Attention

open Idealize.ShloMosaic Idealize.ShloMosaic.TcCoe Idealize.SL.Sem
open Cert.ReferenceIdeal Cert.ReferenceIdeal.Gen Cert.ReferenceIdeal.Value

/-- Head `h` of batch `b` of the reference's arguments. -/
def refHead (V0 : Valuation τ sig (Elt Ideal)) (b : Fin 4) (h : Fin 16) : Head where
  q i e := (V0 (Proc.devRef .tc main_arg0) : FVec Ideal S8192x4096 .f32) (ix2 ⟨4096 + 1024 * b.val + i.val, by omega⟩ ⟨64 * h.val + e.val, by omega⟩)
  k i e := (V0 (Proc.devRef .tc main_arg0) : FVec Ideal S8192x4096 .f32) (ix2 ⟨4096 + 1024 * b.val + i.val, by omega⟩ ⟨1024 + (64 * h.val + e.val), by omega⟩)
  v i e := (V0 (Proc.devRef .tc main_arg0) : FVec Ideal S8192x4096 .f32) (ix2 ⟨4096 + 1024 * b.val + i.val, by omega⟩ ⟨2048 + (64 * h.val + e.val), by omega⟩)
  ck l e := (V0 (Proc.devRef .tc main_arg1) : FVec Ideal S4x2x256x16x64 .f32) (ix5 b 0 l h e)
  cv l e := (V0 (Proc.devRef .tc main_arg2) : FVec Ideal S4x2x256x16x64 .f32) (ix5 b 0 l h e)
  rpb d k := (V0 (Proc.devRef .tc main_arg3) : FVec Ideal S2x16x15x31 .f32) (ix4 0 h d k)
  gq e := (V0 (Proc.devRef .tc main_arg4) : FVec Ideal S2x64 .f32) (ix2 0 e)
  gk e := (V0 (Proc.devRef .tc main_arg5) : FVec Ideal S2x64 .f32) (ix2 0 e)

theorem div64 (x : EReal) : Ideal.div x (Ideal.ofBits FTy.f32 0x42800000#32) = x * ((1 / 64 : ℝ) : EReal) := by
  have h : Ideal.ofBits FTy.f32 0x42800000#32 = ((64 : ℝ) : EReal) := by
    have : Ideal.ofBits FTy.f32 0x42800000#32 = ((8388608 * (2 : ℝ) ^ (-17 : ℤ) : ℝ) : EReal) := by
      simp [Ideal.ofBits, Ideal.ieee]
    rw [this]; congr 1; norm_num
  rw [h, Ideal.div_coe (by norm_num)]

/-- A normalisation over the last axis of a projection, as the reference writes it. -/
theorem norm_at (x : FVec Ideal S4x1024x16x64 .f32) (g : FVec Ideal S2x64 .f32) (b : Fin 4) (i : Fin 1024) (h : Fin 16) (e : Fin 64) :
    (mulf (mulf x (broadcastInDim S4x1024x16x64 ![0, 1, 2, 3] bcast_S4x1024x16x1_S4x1024x16x64_0_1_2_3
      (Host.rsqrt (addf (Host.divf (broadcastInDim S4x1024x16x1 ![0, 1, 2] bcast_S4x1024x16_S4x1024x16x1_0_1_2
        (Host.reduceAdd (mulf x x) (constant S_ .f32 0x00000000#32) reducesTo_S4x1024x16x64_S4x1024x16_d3 h_S_))
        (broadcastInDim S4x1024x16x1 ![] bcast_S_S4x1024x16x1 (constant S_ .f32 0x42800000#32)))
        (broadcastInDim S4x1024x16x1 ![] bcast_S_S4x1024x16x1 (constant S_ .f32 0x358637BD#32))))))
      (broadcastInDim S4x1024x16x64 ![0, 1, 2, 3] bcast_S1x1x1x64_S4x1024x16x64_0_1_2_3
        (broadcastInDim S1x1x1x64 ![3] bcast_S64_S1x1x1x64_3
          (shapeCast S64 (extractStridedSlice S1x64 ![0, 0] g slices_S2x64_S1x64_0_0) shapeCasts_S1x64_S64))) : FVec Ideal S4x1024x16x64 .f32)
      (ix4 b i h e) = rms (fun d => x (ix4 b i h d)) (fun d => g (ix2 0 d)) e := by
  generalize hR : rms (fun d => x (ix4 b i h d)) (fun d => g (ix2 0 d)) e = R
  pointwise
  rw [← hR, div64]
  rfl

theorem proj_congr (x : FVec Ideal S8192x4096 .f32) {i i' : Fin 8192} {j j' : Fin 4096} (hi : i.val = i'.val) (hj : j.val = j'.val) :
    x (ix2 i j) = x (ix2 i' j') := by rw [Fin.ext hi, Fin.ext hj]

variable (V0 : Valuation τ sig (Elt Ideal))

/-- The reference's cuts of the projection, by batch, token, head and lane. -/
theorem cut_q (b : Fin 4) (i : Fin 1024) (h : Fin 16) (e : Fin 64) : res_main_v6 V0 (ix4 b i h e) = (refHead V0 b h).q i e := by
  generalize hR : (refHead V0 b h).q i e = R
  unfold res_main_v6 res_main_v1
  pointwise
  rw [← hR]
  exact proj_congr _ (by dsimp only; omega) (by dsimp only; omega)

theorem cut_k (b : Fin 4) (i : Fin 1024) (h : Fin 16) (e : Fin 64) : res_main_v22 V0 (ix4 b i h e) = (refHead V0 b h).k i e := by
  generalize hR : (refHead V0 b h).k i e = R
  unfold res_main_v22 res_main_v1
  pointwise
  rw [← hR]
  exact proj_congr _ (by dsimp only; omega) (by dsimp only; omega)

theorem cut_v (b : Fin 4) (i : Fin 1024) (h : Fin 16) (e : Fin 64) :
    (shapeCast S4x1024x16x64 (extractStridedSlice S4x1024x1024 ![0, 0, 2048] (res_main_v1 V0) slices_S4x1024x4096_S4x1024x1024_0_0_2048)
      shapeCasts_S4x1024x1024_S4x1024x16x64 : FVec Ideal S4x1024x16x64 .f32) (ix4 b i h e) = (refHead V0 b h).v i e := by
  generalize hR : (refHead V0 b h).v i e = R
  unfold res_main_v1
  pointwise
  rw [← hR]
  exact proj_congr _ (by dsimp only; omega) (by dsimp only; omega)

/-- The context's keys and values: the first layer's cache. -/
theorem cut_ctx (C : FVec Ideal S4x2x256x16x64 .f32) (b : Fin 4) (l : Fin 256) (h : Fin 16) (e : Fin 64) :
    (shapeCast S4x256x16x64 (extractStridedSlice S4x1x256x16x64 ![0, 0, 0, 0, 0] C slices_S4x2x256x16x64_S4x1x256x16x64_0_0_0_0_0)
      shapeCasts_S4x1x256x16x64_S4x256x16x64 : FVec Ideal S4x256x16x64 .f32) (ix4 b l h e) = C (ix5 b 0 l h e) := by
  generalize hR : C (ix5 b 0 l h e) = R
  pointwise
  rw [← hR]

/-! ## The reshapes that split tokens into rows, column blocks and columns, and merge a window's rows and columns -/

theorem rowMajor_val_seven {d : Fin 7 → ℕ} (i : (⟨7, d⟩ : Shape).Idx) :
    ((⟨7, d⟩ : Shape).rowMajor i).val = ((((((i 0).val * d 1 + (i 1).val) * d 2 + (i 2).val) * d 3 + (i 3).val) * d 4 + (i 4).val) * d 5
      + (i 5).val) * d 6 + (i 6).val := by
  show (Shape.rowMajorPi d i).val = _
  simp only [Shape.rowMajorPi_succ_val]
  simp [Shape.rowMajorPi_zero, Fin.prod_univ_succ, Nat.add_mul, Nat.mul_assoc, Nat.add_assoc]

theorem split_image (x : FVec Ideal S4x1024x16x64 .f32) (b : Fin 4) (r : Fin 16) (c : Fin 64) (h : Fin 16) (e : Fin 64) :
    shapeCast S4x16x64x16x64 x shapeCasts_S4x1024x16x64_S4x16x64x16x64 (ix5 b r c h e) = x (ix4 b (Head.tok r c) h e) := by
  refine shapeCast_apply x _ _ _ ?_
  rw [Shape.rowMajor_val_four, Shape.rowMajor_val_five]
  show ((b.val * 1024 + (64 * r.val + c.val)) * 16 + h.val) * 64 + e.val = (((b.val * 16 + r.val) * 64 + c.val) * 16 + h.val) * 64 + e.val
  ring

/-- The column in block `cb` and place `q`. -/
def col (cb : Fin 4) (q : Fin 16) : Fin 64 := ⟨16 * cb.val + q.val, by omega⟩

theorem split_tokens (x : FVec Ideal S4x1024x16x64 .f32) (b : Fin 4) (r : Fin 16) (cb : Fin 4) (q : Fin 16) (h : Fin 16) (e : Fin 64) :
    shapeCast S4x16x4x16x16x64 x shapeCasts_S4x1024x16x64_S4x16x4x16x16x64 (ix6 b r cb q h e) = x (ix4 b (Head.tok r (col cb q)) h e) := by
  refine shapeCast_apply x _ _ _ ?_
  rw [Shape.rowMajor_val_four, Shape.rowMajor_val_six]
  show ((b.val * 1024 + (64 * r.val + (16 * cb.val + q.val))) * 16 + h.val) * 64 + e.val
    = ((((b.val * 16 + r.val) * 4 + cb.val) * 16 + q.val) * 16 + h.val) * 64 + e.val
  ring

theorem merge_band (x : FVec Ideal S4x16x4x8x32x16x64 .f32) (b : Fin 4) (r : Fin 16) (cb : Fin 4) (i : Fin 256) (h : Fin 16) (e : Fin 64) :
    shapeCast S4x16x4x256x16x64 x shapeCasts_S4x16x4x8x32x16x64_S4x16x4x256x16x64 (ix6 b r cb i h e)
      = x (ix7 b r cb ⟨i.val / 32, by omega⟩ ⟨i.val % 32, by omega⟩ h e) := by
  refine shapeCast_apply x _ _ _ ?_
  rw [rowMajor_val_seven, Shape.rowMajor_val_six]
  show (((((b.val * 16 + r.val) * 4 + cb.val) * 8 + i.val / 32) * 32 + i.val % 32) * 16 + h.val) * 64 + e.val
    = ((((b.val * 16 + r.val) * 4 + cb.val) * 256 + i.val) * 16 + h.val) * 64 + e.val
  omega

theorem merge_bias (x : FVec Ideal S16x16x4x16x8x32 .f32) (h : Fin 16) (r : Fin 16) (cb : Fin 4) (q : Fin 16) (i : Fin 256) :
    shapeCast S16x16x4x16x256 x shapeCasts_S16x16x4x16x8x32_S16x16x4x16x256 (ix5 h r cb q i)
      = x (ix6 h r cb q ⟨i.val / 32, by omega⟩ ⟨i.val % 32, by omega⟩) := by
  refine shapeCast_apply x _ _ _ ?_
  rw [Shape.rowMajor_val_six, Shape.rowMajor_val_five]
  show ((((h.val * 16 + r.val) * 4 + cb.val) * 16 + q.val) * 8 + i.val / 32) * 32 + i.val % 32
    = (((h.val * 16 + r.val) * 4 + cb.val) * 16 + q.val) * 256 + i.val
  omega

/-- The normalised queries, by row, column block and column. -/
theorem query_at (b : Fin 4) (r : Fin 16) (cb : Fin 4) (q : Fin 16) (h : Fin 16) (e : Fin 64) :
    res_main_v122 V0 (ix6 b r cb q h e) = (refHead V0 b h).query (Head.tok r (col cb q)) e := by
  refine (split_tokens _ b r cb q h e).trans ((norm_at _ _ b _ h e).trans ?_)
  simp only [cut_q]
  rfl

end Cert.Attention
-- ==== Proof.Attention.RefScore.lean ====
module

public import proofs.«01_k».proof.Proof.Attention.Gathers
public import proofs.«01_k».proof.Proof.Attention.RefNorm

/-!
The reference's scores are those of the heads.
-/

@[expose] public section

set_option maxRecDepth 65536

noncomputable section

namespace Cert.Attention

open Idealize.ShloMosaic Idealize.ShloMosaic.TcCoe Idealize.SL.Sem
open Cert.ReferenceIdeal Cert.ReferenceIdeal.Gen Cert.ReferenceIdeal.Value

/-- An index that is not negative is kept as it is. -/
theorem keep_small {n : ℕ} (hn : n < 2 ^ 31) (w : BitVec 32) :
    Scalar.select (IntOp.cmpi CmpIPredicate.slt (BitVec.ofNat 32 n) 0#32) w (BitVec.ofNat 32 n) = BitVec.ofNat 32 n := by
  have h : (BitVec.ofNat 32 n).slt 0#32 = false := by
    rw [BitVec.slt, StableHlo.Predicate.toInt_ofNat_small _ hn]
    simp
  show (if BitVec.ofBool ((BitVec.ofNat 32 n).slt 0#32) = 1#1 then w else _) = _
  rw [h]
  rfl

variable (V0 : Valuation τ sig (Elt Ideal))

/-- The image rows and columns that the neighbourhoods are read at. -/
def imageIdx : IVec S16x4x8x32x2 32 :=
  concatenate S16x4x8x32x2 4 [⟨S16x4x8x32x1, (broadcastInDim S16x4x8x32x1 ![0, 1, 2, 3] bcast_S16x4x8x32_S16x4x8x32x1_0_1_2_3 (broadcastInDim S16x4x8x32 ![0, 1, 2, 3] bcast_S16x1x8x1_S16x4x8x32_0_1_2_3 (select (cmpi .slt (res_main_v125 V0) (broadcastInDim S16x1x8x1 ![] bcast_S_S16x1x8x1 (constantI S_ 32 0#32))) (addi (res_main_v125 V0) (broadcastInDim S16x1x8x1 ![] bcast_S_S16x1x8x1 (constantI S_ 32 16#32))) (res_main_v125 V0))))⟩, ⟨S16x4x8x32x1, (broadcastInDim S16x4x8x32x1 ![0, 1, 2, 3] bcast_S16x4x8x32_S16x4x8x32x1_0_1_2_3 (broadcastInDim S16x4x8x32 ![0, 1, 2, 3] bcast_S1x4x1x32_S16x4x8x32_0_1_2_3 (select (cmpi .slt (res_main_v126 V0) (broadcastInDim S1x4x1x32 ![] bcast_S_S1x4x1x32 (constantI S_ 32 0#32))) (addi (res_main_v126 V0) (broadcastInDim S1x4x1x32 ![] bcast_S_S1x4x1x32 (constantI S_ 32 64#32))) (res_main_v126 V0))))⟩] concatenates_S16x4x8x32x1_S16x4x8x32x1_S16x4x8x32x2_d4

/-- The rows and columns of the bias table that the windows are read at. -/
def biasIdx : IVec S16x4x16x8x32x2 32 :=
  concatenate S16x4x16x8x32x2 5 [⟨S16x4x16x8x32x1, (broadcastInDim S16x4x16x8x32x1 ![0, 1, 2, 3, 4] bcast_S16x4x16x8x32_S16x4x16x8x32x1_0_1_2_3_4 (broadcastInDim S16x4x16x8x32 ![0, 1, 2, 3, 4] bcast_S16x1x1x8x1_S16x4x16x8x32_0_1_2_3_4 (select (cmpi .slt (res_main_v101 V0) (broadcastInDim S16x1x1x8x1 ![] bcast_S_S16x1x1x8x1 (constantI S_ 32 0#32))) (addi (res_main_v101 V0) (broadcastInDim S16x1x1x8x1 ![] bcast_S_S16x1x1x8x1 (constantI S_ 32 15#32))) (res_main_v101 V0))))⟩, ⟨S16x4x16x8x32x1, (broadcastInDim S16x4x16x8x32x1 ![0, 1, 2, 3, 4] bcast_S16x4x16x8x32_S16x4x16x8x32x1_0_1_2_3_4 (broadcastInDim S16x4x16x8x32 ![0, 1, 2, 3, 4] bcast_S1x4x16x1x32_S16x4x16x8x32_0_1_2_3_4 (select (cmpi .slt (res_main_v102 V0) (broadcastInDim S1x4x16x1x32 ![] bcast_S_S1x4x16x1x32 (constantI S_ 32 0#32))) (addi (res_main_v102 V0) (broadcastInDim S1x4x16x1x32 ![] bcast_S_S1x4x16x1x32 (constantI S_ 32 31#32))) (res_main_v102 V0))))⟩] concatenates_S16x4x16x8x32x1_S16x4x16x8x32x1_S16x4x16x8x32x2_d5

theorem image_row (r : Fin 16) (cb : Fin 4) (d : Fin 8) (k : Fin 32) :
    imageIdx V0 (ix5 r cb d k 0) = BitVec.ofNat 32 (bandStart r + d.val) := by
  have hb := bandStart_le r
  have e := row_word V0 r d
  have e' : ∀ z z', res_main_v125 V0 (ix4 r z d z') = BitVec.ofNat 32 (bandStart r + d.val) := by
    intro z z'
    unfold res_main_v125
    generalize hR : BitVec.ofNat 32 (bandStart r + d.val) = R at *
    pointwise
    exact e
  unfold imageIdx
  revert e'
  generalize res_main_v125 V0 = A
  generalize res_main_v126 V0 = B
  intro e'
  rw [← keep_small (n := bandStart r + d.val) (by omega) (IntOp.addi (BitVec.ofNat 32 (bandStart r + d.val)) 16#32)]
  generalize hR : BitVec.ofNat 32 (bandStart r + d.val) = R at *
  pointwise
  rw [e']

theorem image_col (r : Fin 16) (cb : Fin 4) (d : Fin 8) (k : Fin 32) :
    imageIdx V0 (ix5 r cb d k 1) = BitVec.ofNat 32 (min (16 * cb.val - 8) 32 + k.val) := by
  have e := col_word V0 cb k
  have e' : ∀ z z', res_main_v126 V0 (ix4 z cb z' k) = BitVec.ofNat 32 (min (16 * cb.val - 8) 32 + k.val) := by
    intro z z'
    unfold res_main_v126
    generalize hR : BitVec.ofNat 32 (min (16 * cb.val - 8) 32 + k.val) = R at *
    pointwise
    exact e
  unfold imageIdx
  revert e'
  generalize res_main_v125 V0 = A
  generalize res_main_v126 V0 = B
  intro e'
  rw [← keep_small (n := min (16 * cb.val - 8) 32 + k.val) (by omega)
    (IntOp.addi (BitVec.ofNat 32 (min (16 * cb.val - 8) 32 + k.val)) 64#32)]
  generalize hR : BitVec.ofNat 32 (min (16 * cb.val - 8) 32 + k.val) = R at *
  pointwise
  rw [e']

theorem bias_row (r : Fin 16) (cb : Fin 4) (q : Fin 16) (d : Fin 8) (k : Fin 32) :
    biasIdx V0 (ix6 r cb q d k 0) = BitVec.ofNat 32 (biasStart r + d.val) := by
  have hb := biasStart_le r
  have e := bias_row_word V0 r d
  unfold biasIdx
  revert e
  generalize res_main_v101 V0 = A
  generalize res_main_v102 V0 = B
  intro e
  rw [← keep_small (n := biasStart r + d.val) (by omega) (IntOp.addi (BitVec.ofNat 32 (biasStart r + d.val)) 15#32)]
  generalize hR : BitVec.ofNat 32 (biasStart r + d.val) = R at *
  pointwise
  rw [e]

/-- Which column of the bias table an entry takes: 0 outside the window. -/
def biasCol (cb : Fin 4) (q : Fin 16) (k : Fin 32) : ℕ :=
  if InWin (16 * cb.val + q.val) (min (16 * cb.val - 8) 32 + k.val) then min (16 * cb.val - 8) 32 + k.val + 15 - (16 * cb.val + q.val) else 0

theorem biasCol_lt (cb : Fin 4) (q : Fin 16) (k : Fin 32) : biasCol cb q k < 31 := by
  unfold biasCol
  split
  · rename_i h
    have := h.1
    have := h.2
    omega
  · omega

theorem bias_col (r : Fin 16) (cb : Fin 4) (q : Fin 16) (d : Fin 8) (k : Fin 32) :
    biasIdx V0 (ix6 r cb q d k 1) = BitVec.ofNat 32 (biasCol cb q k) := by
  have hb := biasCol_lt cb q k
  have e : ∀ z z', res_main_v102 V0 (ix5 z cb q z' k) = BitVec.ofNat 32 (biasCol cb q k) := by
    intro z z'
    rw [bias_col_word, biasCol]
    split <;> rfl
  unfold biasIdx
  revert e
  generalize res_main_v101 V0 = A
  generalize res_main_v102 V0 = B
  intro e
  rw [← keep_small (n := biasCol cb q k) (by omega) (IntOp.addi (BitVec.ofNat 32 (biasCol cb q k)) 31#32)]
  generalize hR : BitVec.ofNat 32 (biasCol cb q k) = R at *
  pointwise
  rw [e]

/-- The image column of place `k` of column block `cb`'s looked-at columns. -/
def lookCol (cb : Fin 4) (k : Fin 32) : Fin 64 := ⟨min (16 * cb.val - 8) 32 + k.val, by omega⟩

/-- The neighbourhoods of an image of tokens: for each row and column block, eight rows of 32 columns. -/
theorem band_at (x : FVec Ideal S4x1024x16x64 .f32) (b : Fin 4) (r : Fin 16) (cb : Fin 4) (i : Fin 256) (h : Fin 16) (e : Fin 64) :
    (shapeCast S4x16x4x256x16x64 (Host.gather gather_S4x16x64x16x64_S16x4x8x32x2_S4x16x4x8x32x16x64_056_12_n_n_12_4_4111664
      (shapeCast S4x16x64x16x64 x shapeCasts_S4x1024x16x64_S4x16x64x16x64) (imageIdx V0))
      shapeCasts_S4x16x4x8x32x16x64_S4x16x4x256x16x64 : FVec Ideal S4x16x4x256x16x64 .f32) (ix6 b r cb i h e)
      = x (ix4 b (Head.near r ⟨i.val / 32, by omega⟩ (lookCol cb ⟨i.val % 32, by omega⟩)) h e) := by
  have hb := bandStart_le r
  rw [merge_band, gather_image _ _ b r cb _ _ h e ⟨bandStart r + i.val / 32, by omega⟩ (lookCol cb ⟨i.val % 32, by omega⟩)
    (image_row V0 r cb _ _) (image_col V0 r cb _ _), split_image]
  rfl

/-- The biases of the windows, `⊥` outside them. -/
theorem biases_at (b : Fin 4) (h : Fin 16) (r : Fin 16) (cb : Fin 4) (q : Fin 16) (i : Fin 256) :
    (shapeCast S16x16x4x16x256 (select (broadcastInDim S16x16x4x16x8x32 ![0, 1, 2, 3, 4, 5] bcast_S1x1x4x16x1x32_S16x16x4x16x8x32_0_1_2_3_4_5
      (broadcastInDim S1x1x4x16x1x32 ![2, 3, 5] bcast_S4x16x32_S1x1x4x16x1x32_2_3_5 (res_main_v87 V0)))
      (Host.gather gather_S16x15x31_S16x4x16x8x32x2_S16x16x4x16x8x32_0_12_n_n_12_5_1611
        (shapeCast S16x15x31 (extractStridedSlice S1x16x15x31 ![0, 0, 0, 0] (V0 (Proc.devRef .tc main_arg3)) slices_S2x16x15x31_S1x16x15x31_0_0_0_0)
          shapeCasts_S1x16x15x31_S16x15x31) (biasIdx V0))
      (broadcastInDim S16x16x4x16x8x32 ![] bcast_S_S16x16x4x16x8x32 (id (constant S_ .f32 0xFF800000#32))))
      shapeCasts_S16x16x4x16x8x32_S16x16x4x16x256 : FVec Ideal S16x16x4x16x256 .f32) (ix5 h r cb q i)
      = (refHead V0 b h).bias r (col cb q) ⟨i.val / 32, by omega⟩ (lookCol cb ⟨i.val % 32, by omega⟩) := by
  have hb := biasStart_le r
  have hc := biasCol_lt cb q ⟨i.val % 32, by omega⟩
  have hw := window_bit V0 cb q ⟨i.val % 32, by omega⟩
  have hg := gather_bias (shapeCast S16x15x31 (extractStridedSlice S1x16x15x31 ![0, 0, 0, 0] (V0 (Proc.devRef .tc main_arg3))
    slices_S2x16x15x31_S1x16x15x31_0_0_0_0) shapeCasts_S1x16x15x31_S16x15x31) (biasIdx V0) h r cb q ⟨i.val / 32, by omega⟩
    ⟨i.val % 32, by omega⟩ ⟨biasStart r + i.val / 32, by omega⟩ ⟨_, hc⟩ (bias_row V0 r cb q _ _) (bias_col V0 r cb q _ _)
  rw [merge_bias]
  refine Eq.trans (show _ = Scalar.select (res_main_v87 V0 (ix3 cb q ⟨i.val % 32, by omega⟩))
    (Host.gather gather_S16x15x31_S16x4x16x8x32x2_S16x16x4x16x8x32_0_12_n_n_12_5_1611
        (shapeCast S16x15x31 (extractStridedSlice S1x16x15x31 ![0, 0, 0, 0] (V0 (Proc.devRef .tc main_arg3)) slices_S2x16x15x31_S1x16x15x31_0_0_0_0)
          shapeCasts_S1x16x15x31_S16x15x31) (biasIdx V0) (ix6 h r cb q ⟨i.val / 32, by omega⟩ ⟨i.val % 32, by omega⟩))
    (Ideal.ofBits .f32 0xFF800000#32) from ?_) ?_
  · generalize res_main_v87 V0 = W
    generalize Host.gather _ _ _ = G
    pointwise
    rfl
  · rw [hw, hg, Head.bias]
    show _ = if hin : InWin (16 * cb.val + q.val) (min (16 * cb.val - 8) 32 + i.val % 32) then _ else _
    by_cases hin : InWin (16 * cb.val + q.val) (min (16 * cb.val - 8) 32 + i.val % 32)
    · rw [if_pos hin, dif_pos hin]
      generalize hR : (refHead V0 b h).rpb _ _ = R
      pointwise
      rw [← hR]
      have hcol : biasCol cb q ⟨i.val % 32, by omega⟩ = min (16 * cb.val - 8) 32 + i.val % 32 + 15 - (16 * cb.val + q.val) := if_pos hin
      show _ = (V0 (Proc.devRef .tc main_arg3) : FVec Ideal S2x16x15x31 .f32) _
      refine congrArg _ ?_
      exact congr (congrArg (ix4 0 h) (Fin.ext rfl)) (Fin.ext hcol)
    · rw [if_neg hin, dif_neg hin]
      show Ideal.ofBits .f32 0xFF800000#32 = ⊥
      simp [Ideal.ofBits, Ideal.ieee]

theorem eighth_word : Ideal.ofBits .f32 0x3E000000#32 = eighth := by
  have : Ideal.ofBits FTy.f32 0x3E000000#32 = ((8388608 * (2 : ℝ) ^ (-26 : ℤ) : ℝ) : EReal) := by
    simp [Ideal.ofBits, Ideal.ieee]
  rw [this, eighth]; congr 1; norm_num

theorem colStart_col (cb : Fin 4) (q : Fin 16) : colStart (col cb q).val = min (16 * cb.val - 8) 32 := by
  show min (16 * ((16 * cb.val + q.val) / 16) - 8) 32 = _
  congr 2
  omega

/-- An entry that looks at the band looks at the token of its row and column. -/
theorem near_eq (r : Fin 16) (cb : Fin 4) (q : Fin 16) (i : Fin 512) (hi : i.val < 256) :
    Head.colOf (col cb q) i = lookCol cb ⟨i.val % 32, by omega⟩ :=
  Fin.ext (by show colStart (col cb q).val + i.val % 32 = min (16 * cb.val - 8) 32 + i.val % 32; rw [colStart_col])

theorem joined (x y : FVec Ideal S4x16x16x4x16x256 .f32) (b : Fin 4) (h : Fin 16) (r : Fin 16) (cb : Fin 4) (q : Fin 16) (i : Fin 512) :
    (concatenate S4x16x16x4x16x512 5 [⟨S4x16x16x4x16x256, x⟩, ⟨S4x16x16x4x16x256, y⟩]
      concatenates_S4x16x16x4x16x256_S4x16x16x4x16x256_S4x16x16x4x16x512_d5 : FVec Ideal S4x16x16x4x16x512 .f32) (ix6 b h r cb q i)
      = if hi : i.val < 256 then x (ix6 b h r cb q ⟨i.val, hi⟩) else y (ix6 b h r cb q ⟨i.val - 256, by omega⟩) := by
  pointwise

theorem scaled_biased (D : FVec Ideal S4x16x16x4x16x256 .f32) (B : FVec Ideal S16x16x4x16x256 .f32) (b : Fin 4) (h : Fin 16)
    (r : Fin 16) (cb : Fin 4) (q : Fin 16) (i : Fin 256) :
    (addf (mulf D (broadcastInDim S4x16x16x4x16x256 ![] bcast_S_S4x16x16x4x16x256 (constant S_ .f32 0x3E000000#32)))
      (broadcastInDim S4x16x16x4x16x256 ![0, 1, 2, 3, 4, 5] bcast_S1x16x16x4x16x256_S4x16x16x4x16x256_0_1_2_3_4_5
        (broadcastInDim S1x16x16x4x16x256 ![1, 2, 3, 4, 5] bcast_S16x16x4x16x256_S1x16x16x4x16x256_1_2_3_4_5 B)) :
        FVec Ideal S4x16x16x4x16x256 .f32) (ix6 b h r cb q i) = D (ix6 b h r cb q i) * eighth + B (ix5 h r cb q i) := by
  rw [← eighth_word]
  pointwise

theorem scaled (D : FVec Ideal S4x16x16x4x16x256 .f32) (b : Fin 4) (h : Fin 16)
    (r : Fin 16) (cb : Fin 4) (q : Fin 16) (i : Fin 256) :
    (mulf D (broadcastInDim S4x16x16x4x16x256 ![] bcast_S_S4x16x16x4x16x256 (constant S_ .f32 0x3E000000#32)) :
        FVec Ideal S4x16x16x4x16x256 .f32) (ix6 b h r cb q i) = D (ix6 b h r cb q i) * eighth := by
  rw [← eighth_word]
  pointwise

/-- The reference's scores, by row, column block and column, and the entry. -/
theorem score_at (b : Fin 4) (h : Fin 16) (r : Fin 16) (cb : Fin 4) (q : Fin 16) (i : Fin 512) :
    res_main_v170 V0 (ix6 b h r cb q i) = (refHead V0 b h).score r (col cb q) i := by
  unfold res_main_v170
  rw [joined, Head.score]
  split
  · rename_i hi
    refine (scaled_biased _ _ b h r cb q _).trans (congr (congrArg _ (congrArg (· * eighth) ?_)) ?_)
    · refine (dot_band _ _ b h r cb q _).trans (Finset.sum_congr rfl fun e _ => congr (congrArg _ (query_at V0 b r cb q h e)) ?_)
      refine (band_at V0 _ b r cb ⟨i.val, hi⟩ h e).trans ((norm_at _ _ b _ h e).trans ?_)
      simp only [cut_k]
      rw [near_eq r cb q i hi]
      rfl
    · refine (biases_at V0 b h r cb q ⟨i.val, hi⟩).trans ?_
      rw [near_eq r cb q i hi]
      rfl
  · rename_i hi
    refine (scaled _ b h r cb q _).trans (congrArg (· * eighth) ?_)
    refine (dot_ctx _ _ b h r cb q _).trans (Finset.sum_congr rfl fun e _ => congr (congrArg _ (query_at V0 b r cb q h e)) ?_)
    exact cut_ctx _ b _ h e

end Cert.Attention
-- ==== Proof.Attention.RefAttend.lean ====
module

public import proofs.«01_k».proof.Proof.Attention.RefScore

/-!
The reference's result is each head's attention.
-/

@[expose] public section

set_option maxRecDepth 65536

noncomputable section

namespace Cert.Attention

open Idealize.ShloMosaic Idealize.ShloMosaic.TcCoe Idealize.SL.Sem
open Cert.ReferenceIdeal Cert.ReferenceIdeal.Gen Cert.ReferenceIdeal.Value

/-- A value kept per query, spread over the query's 512 entries. -/
theorem spread (m : FVec Ideal S4x16x16x4x16 .f32) (b : Fin 4) (h : Fin 16) (r : Fin 16) (cb : Fin 4) (q : Fin 16) (i : Fin 512) :
    (broadcastInDim S4x16x16x4x16x512 ![0, 1, 2, 3, 4, 5] bcast_S4x16x16x4x16x1_S4x16x16x4x16x512_0_1_2_3_4_5
      (broadcastInDim S4x16x16x4x16x1 ![0, 1, 2, 3, 4] bcast_S4x16x16x4x16_S4x16x16x4x16x1_0_1_2_3_4 m) :
      FVec Ideal S4x16x16x4x16x512 .f32) (ix6 b h r cb q i) = m (ix5 b h r cb q) := by
  pointwise

theorem max_bot (m : FVec Ideal S4x16x16x4x16 .f32) (b : Fin 4) (h : Fin 16) (r : Fin 16) (cb : Fin 4) (q : Fin 16) :
    (maximumf (broadcastInDim S4x16x16x4x16 ![] bcast_S_S4x16x16x4x16 (constant S_ .f32 0xFF800000#32)) m :
      FVec Ideal S4x16x16x4x16 .f32) (ix5 b h r cb q) = m (ix5 b h r cb q) := by
  have h : Ideal.ofBits .f32 0xFF800000#32 = (⊥ : EReal) := by simp [Ideal.ofBits, Ideal.ieee]
  pointwise
  rw [h]
  exact max_eq_right bot_le

theorem exp_sub (s m : FVec Ideal S4x16x16x4x16x512 .f32) (j : S4x16x16x4x16x512.Idx) :
    (Host.exp (subf s m) : FVec Ideal S4x16x16x4x16x512 .f32) j = Ideal.exp (s j - m j : EReal) := rfl

theorem quotient (s m : FVec Ideal S4x16x16x4x16x512 .f32) (j : S4x16x16x4x16x512.Idx) :
    (Host.divf s m : FVec Ideal S4x16x16x4x16x512 .f32) j = Ideal.div (s j) (m j) := rfl

variable (V0 : Valuation τ sig (Elt Ideal))

theorem numer_at (b : Fin 4) (h : Fin 16) (r : Fin 16) (cb : Fin 4) (q : Fin 16) (i : Fin 512) :
    res_main_v177 V0 (ix6 b h r cb q i) = numer ((refHead V0 b h).score r (col cb q)) i := by
  unfold res_main_v177
  refine (exp_sub _ _ _).trans ?_
  rw [spread, max_bot, max_last, score_at]
  simp only [score_at]
  rfl

theorem weight_at (b : Fin 4) (h : Fin 16) (r : Fin 16) (cb : Fin 4) (q : Fin 16) (i : Fin 512) :
    res_main_v181 V0 (ix6 b h r cb q i) = Ideal.div (numer ((refHead V0 b h).score r (col cb q)) i)
      (∑ j, numer ((refHead V0 b h).score r (col cb q)) j) := by
  unfold res_main_v181
  refine (quotient _ _ _).trans ?_
  rw [spread, sum_last, numer_at]
  simp only [numer_at]

/-- Rows, column blocks and columns as tokens, and heads and lanes as columns of the result. -/
theorem result_entry (x : FVec Ideal S4x16x4x16x16x64 .f32) (b : Fin 4) (r : Fin 16) (cb : Fin 4) (q : Fin 16) (h : Fin 16) (e : Fin 64) :
    (truncf .bf16 (shapeCast S4096x1024 (shapeCast S4x1024x16x64 x shapeCasts_S4x16x4x16x16x64_S4x1024x16x64)
      shapeCasts_S4x1024x16x64_S4096x1024) bitsLt_bf16_f32 : FVec Ideal S4096x1024 .bf16)
      (ix2 ⟨1024 * b.val + (64 * r.val + (col cb q).val), by omega⟩ ⟨64 * h.val + e.val, by omega⟩) = x (ix6 b r cb q h e) := by
  have e1 := shapeCast_apply (shapeCast S4x1024x16x64 x shapeCasts_S4x16x4x16x16x64_S4x1024x16x64) shapeCasts_S4x1024x16x64_S4096x1024
    (ix2 ⟨1024 * b.val + (64 * r.val + (col cb q).val), by omega⟩ ⟨64 * h.val + e.val, by omega⟩) (ix4 b (Head.tok r (col cb q)) h e) (by
      rw [Shape.rowMajor_val_four, Shape.rowMajor_val_two]
      show ((b.val * 1024 + (64 * r.val + (16 * cb.val + q.val))) * 16 + h.val) * 64 + e.val
        = (1024 * b.val + (64 * r.val + (16 * cb.val + q.val))) * 1024 + (64 * h.val + e.val)
      ring)
  have e2 := shapeCast_apply x shapeCasts_S4x16x4x16x16x64_S4x1024x16x64 (ix4 b (Head.tok r (col cb q)) h e) (ix6 b r cb q h e) (by
      rw [Shape.rowMajor_val_four, Shape.rowMajor_val_six]
      show ((((b.val * 16 + r.val) * 4 + cb.val) * 16 + q.val) * 16 + h.val) * 64 + e.val
        = ((b.val * 1024 + (64 * r.val + (16 * cb.val + q.val))) * 16 + h.val) * 64 + e.val
      ring)
  exact e1.trans e2

theorem front_back (w : FVec Ideal S4x16x16x4x16x512 .f32) (b : Fin 4) (h : Fin 16) (r : Fin 16) (cb : Fin 4) (q : Fin 16) (i : Fin 256) :
    (extractStridedSlice S4x16x16x4x16x256 ![0, 0, 0, 0, 0, 0] w slices_S4x16x16x4x16x512_S4x16x16x4x16x256_0_0_0_0_0_0 :
      FVec Ideal S4x16x16x4x16x256 .f32) (ix6 b h r cb q i) = w (ix6 b h r cb q (Fin.castAdd 256 i)) ∧
    (extractStridedSlice S4x16x16x4x16x256 ![0, 0, 0, 0, 0, 256] w slices_S4x16x16x4x16x512_S4x16x16x4x16x256_0_0_0_0_0_256 :
      FVec Ideal S4x16x16x4x16x256 .f32) (ix6 b h r cb q i) = w (ix6 b h r cb q (Fin.natAdd 256 i)) := by
  constructor <;> pointwise
  all_goals rfl

/-- The two products with the values, put in the order of the result. -/
theorem sum_entry (x : FVec Ideal S4x16x4x16x64x16 .f32) (y : FVec Ideal S4x16x64x16x4x16 .f32) (b : Fin 4) (r : Fin 16) (cb : Fin 4)
    (q : Fin 16) (h : Fin 16) (e : Fin 64) :
    (addf (transpose S4x16x4x16x16x64 [0, 1, 2, 5, 3, 4] x transposes_S4x16x4x16x64x16_S4x16x4x16x16x64_0_1_2_5_3_4)
      (transpose S4x16x4x16x16x64 [0, 3, 4, 5, 1, 2] y transposes_S4x16x64x16x4x16_S4x16x4x16x16x64_0_3_4_5_1_2) :
      FVec Ideal S4x16x4x16x16x64 .f32) (ix6 b r cb q h e) = x (ix6 b r cb h e q) + y (ix6 b h e r cb q) := by
  pointwise

/-- The weighted values of the neighbourhood. -/
def bandPart : FVec Ideal S4x16x4x16x64x16 .f32 :=
  Host.dotGeneral dot_S4x16x4x256x16x64_S4x16x16x4x16x256_S4x16x4x16x64x16_3_5_5_4_0124_0231 none
    (shapeCast S4x16x4x256x16x64 (Host.gather gather_S4x16x64x16x64_S16x4x8x32x2_S4x16x4x8x32x16x64_056_12_n_n_12_4_4111664
      (shapeCast S4x16x64x16x64 (shapeCast S4x1024x16x64 (extractStridedSlice S4x1024x1024 ![0, 0, 2048] (res_main_v1 V0)
        slices_S4x1024x4096_S4x1024x1024_0_0_2048) shapeCasts_S4x1024x1024_S4x1024x16x64) shapeCasts_S4x1024x16x64_S4x16x64x16x64)
      (imageIdx V0)) shapeCasts_S4x16x4x8x32x16x64_S4x16x4x256x16x64 : FVec Ideal S4x16x4x256x16x64 .f32)
    (extractStridedSlice S4x16x16x4x16x256 ![0, 0, 0, 0, 0, 0] (res_main_v181 V0)
      slices_S4x16x16x4x16x512_S4x16x16x4x16x256_0_0_0_0_0_0 : FVec Ideal S4x16x16x4x16x256 .f32)

/-- The weighted values of the context. -/
def ctxPart : FVec Ideal S4x16x64x16x4x16 .f32 :=
  Host.dotGeneral dot_S4x256x16x64_S4x16x16x4x16x256_S4x16x64x16x4x16_1_5_3_234_02_01 none
    (shapeCast S4x256x16x64 (extractStridedSlice S4x1x256x16x64 ![0, 0, 0, 0, 0] (V0 (Proc.devRef .tc main_arg2))
      slices_S4x2x256x16x64_S4x1x256x16x64_0_0_0_0_0) shapeCasts_S4x1x256x16x64_S4x256x16x64 : FVec Ideal S4x256x16x64 .f32)
    (extractStridedSlice S4x16x16x4x16x256 ![0, 0, 0, 0, 0, 256] (res_main_v181 V0)
      slices_S4x16x16x4x16x512_S4x16x16x4x16x256_0_0_0_0_0_256 : FVec Ideal S4x16x16x4x16x256 .f32)

/-- What the reference returns. -/
def refResult : FVec Ideal S4096x1024 .bf16 :=
  truncf .bf16 (shapeCast S4096x1024 (shapeCast S4x1024x16x64
    (addf (transpose S4x16x4x16x16x64 [0, 1, 2, 5, 3, 4] (bandPart V0) transposes_S4x16x4x16x64x16_S4x16x4x16x16x64_0_1_2_5_3_4)
      (transpose S4x16x4x16x16x64 [0, 3, 4, 5, 1, 2] (ctxPart V0) transposes_S4x16x64x16x4x16_S4x16x4x16x16x64_0_3_4_5_1_2) :
      FVec Ideal S4x16x4x16x16x64 .f32)
    shapeCasts_S4x16x4x16x16x64_S4x1024x16x64) shapeCasts_S4x1024x16x64_S4096x1024 : FVec Ideal S4096x1024 .f32) bitsLt_bf16_f32

/-- The reference's result: the attention of each head. -/
theorem refResult_at (b : Fin 4) (r : Fin 16) (cb : Fin 4) (q : Fin 16) (h : Fin 16) (e : Fin 64) :
    refResult V0 (ix2 ⟨1024 * b.val + (64 * r.val + (col cb q).val), by omega⟩ ⟨64 * h.val + e.val, by omega⟩)
      = (refHead V0 b h).attend r (col cb q) e := by
  unfold refResult
  refine (result_entry _ b r cb q h e).trans ((sum_entry _ _ b r cb q h e).trans ?_)
  rw [Head.attend, softmaxDot]
  refine Eq.trans ?_ (Fin.sum_univ_add (a := 256) (b := 256) fun i : Fin (256 + 256) => Ideal.div (numer ((refHead V0 b h).score r (col cb q)) i)
    (∑ j, numer ((refHead V0 b h).score r (col cb q)) j) * (refHead V0 b h).value r (col cb q) i e).symm
  refine congr (congrArg _ ?_) ?_
  · refine (dot_band_values _ _ b h r cb q e).trans (Finset.sum_congr rfl fun i _ => ?_)
    refine (mul_comm _ _).trans (congr (congrArg _ ?_) ?_)
    · exact ((front_back _ b h r cb q i).1).trans (weight_at V0 b h r cb q _)
    · refine (band_at V0 _ b r cb i h e).trans ((cut_v V0 b _ h e).trans ?_)
      rw [Head.value, dif_pos (by show i.val < 256; omega), near_eq r cb q _ (by show i.val < 256; omega)]
      rfl
  · refine (dot_ctx_values _ _ b h r cb q e).trans (Finset.sum_congr rfl fun i _ => ?_)
    refine (mul_comm _ _).trans (congr (congrArg _ ?_) ?_)
    · exact ((front_back _ b h r cb q i).2).trans (weight_at V0 b h r cb q _)
    · refine (cut_ctx _ b i h e).trans ?_
      rw [Head.value, dif_neg (by show ¬ 256 + i.val < 256; omega)]
      refine congrArg (fun l => (refHead V0 b h).cv l e) (Fin.ext ?_)
      show i.val = 256 + i.val - 256
      omega

end Cert.Attention
-- ==== Proof.Attention.KernelRun.lean ====
module

public import proofs.«01_k».proof.Proof.Gen.KernelIdeal.Frame

/-!
The attention's run, with what its result array holds at the end.
-/

@[expose] public section

set_option maxRecDepth 65536

noncomputable section

namespace Cert.Attention

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the attention ends with its result array at the last boundary's contents and its arguments as they were. -/
theorem kernel_run : θ_run defs (onTc (τ := τ) (main (F := F))) ⟨m, fun _ => 0, ρ⟩ (fun r => ∀ c : Dev nD,
    r.2.mem ((c.tc : Thread nD τ).loc main_v17) = W6 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c => ⟨h c _ (mem_uc main_v17 (by decide)), (h c _ (mem_uc main_arg0 (by decide))).trans (W6_main_arg0 m ρ c),
      (h c _ (mem_uc main_arg1 (by decide))).trans (W6_main_arg1 m ρ c), (h c _ (mem_uc main_arg2 (by decide))).trans (W6_main_arg2 m ρ c),
      (h c _ (mem_uc main_arg3 (by decide))).trans (W6_main_arg3 m ρ c), (h c _ (mem_uc main_arg4 (by decide))).trans (W6_main_arg4 m ρ c),
      (h c _ (mem_uc main_arg5 (by decide))).trans (W6_main_arg5 m ρ c)⟩)

end Cert.Attention
-- ==== Proof.Attention.Equal.lean ====
module

public import proofs.«01_k».proof.Defs
public import proofs.«01_k».proof.Proof.Attention.Host
public import proofs.«01_k».proof.Proof.Attention.RefAttend
public import proofs.«01_k».proof.Proof.Attention.KernelRun
public import proofs.«01_k».proof.Proof.Gen.ReferenceIdeal.Run
public import proofs.«01_k».proof.Proof.Gen.Pre_finite_scores

/-!
The precondition makes the scores' operands real, and the two programs hold one and the same array.
-/

@[expose] public section

set_option maxRecDepth 65536

noncomputable section

namespace Cert.Attention

open Idealize.ShloMosaic Idealize.ShloMosaic.StableHlo Idealize.ShloMosaic.TcCoe Idealize.SL.Sem
open Cert.KernelIdeal Cert.KernelIdeal.Gen

/-- An entry whose absolute value compares below infinity is a real number. -/
theorem real_of_bit {S : Shape} (x : FVec Ideal S .f32) (hb : S_.BroadcastsInDim S ![])
    (h : (cmpf .olt (Host.absf x) (broadcastInDim S ![] hb (constant (F := Ideal) S_ .f32 0x7F800000#32)) : IVec S 1) = fun _ => 1#1)
    (i : S.Idx) : ∃ r : ℝ, x i = (r : EReal) := by
  have h1 : Ideal.cmp .olt (max (x i) (-(x i))) (Ideal.ofBits .f32 0x7F800000#32) = 1#1 := congrFun h i
  have top : Ideal.ofBits .f32 0x7F800000#32 = (⊤ : EReal) := by simp [Ideal.ofBits, Ideal.ieee]
  rw [top] at h1
  have lt : max (x i) (-(x i)) < ⊤ := by
    by_contra hn
    simp [Ideal.cmp, hn] at h1
  rw [max_lt_iff] at lt
  refine ⟨(x i).toReal, (EReal.coe_toReal lt.1.ne ?_).symm⟩
  intro hb
  rw [hb] at lt
  exact absurd lt.2 (by simp)

variable (m : (ℓ : Loc nD τ sig) → Buf (Elt Ideal) ℓ) (ρ : Dev nD → PrngReg)

/-- Under the precondition every head's cached keys, biases and gains are real. -/
theorem real_of_pre (h : Cert.Pre_KernelIdeal_finite_scores m) (c : Dev nD) (b : Fin 4) (n : Fin 16) : (headAt m c b n).Real := by
  obtain ⟨h1, h2, h3, h4⟩ := h c
  refine ⟨fun l e => ?_, fun d k => ?_, fun e => ?_, fun e => ?_⟩
  · obtain ⟨r, hr⟩ := real_of_bit _ _ h1 (ix4 b l n e)
    exact ⟨r, by rw [← hr]; symm; pointwise; rfl⟩
  · obtain ⟨r, hr⟩ := real_of_bit _ _ h2 (ix3 n d k)
    exact ⟨r, by rw [← hr]; symm; pointwise; rfl⟩
  · obtain ⟨r, hr⟩ := real_of_bit _ _ h3 (ix1 e)
    exact ⟨r, by rw [← hr]; symm; pointwise; rfl⟩
  · obtain ⟨r, hr⟩ := real_of_bit _ _ h4 (ix1 e)
    exact ⟨r, by rw [← hr]; symm; pointwise; rfl⟩

variable (m' : (ℓ : Loc Cert.ReferenceIdeal.nD Cert.ReferenceIdeal.τ Cert.ReferenceIdeal.sig) → Buf (Elt Ideal) ℓ)

/-- The attention's six arguments hold the same arrays in both programs. -/
def Agree : Prop := ∀ c : Dev nD,
  m' ((c.tc : Thread Cert.ReferenceIdeal.nD Cert.ReferenceIdeal.τ).loc Cert.ReferenceIdeal.main_arg0) = m ((c.tc : Thread nD τ).loc main_arg0)
  ∧ m' ((c.tc : Thread Cert.ReferenceIdeal.nD Cert.ReferenceIdeal.τ).loc Cert.ReferenceIdeal.main_arg1) = m ((c.tc : Thread nD τ).loc main_arg1)
  ∧ m' ((c.tc : Thread Cert.ReferenceIdeal.nD Cert.ReferenceIdeal.τ).loc Cert.ReferenceIdeal.main_arg2) = m ((c.tc : Thread nD τ).loc main_arg2)
  ∧ m' ((c.tc : Thread Cert.ReferenceIdeal.nD Cert.ReferenceIdeal.τ).loc Cert.ReferenceIdeal.main_arg3) = m ((c.tc : Thread nD τ).loc main_arg3)
  ∧ m' ((c.tc : Thread Cert.ReferenceIdeal.nD Cert.ReferenceIdeal.τ).loc Cert.ReferenceIdeal.main_arg4) = m ((c.tc : Thread nD τ).loc main_arg4)
  ∧ m' ((c.tc : Thread Cert.ReferenceIdeal.nD Cert.ReferenceIdeal.τ).loc Cert.ReferenceIdeal.main_arg5) = m ((c.tc : Thread nD τ).loc main_arg5)

/-- The reference's heads are the attention's. -/
theorem refHead_eq (h : Agree m m') (c : Dev nD) (b : Fin 4) (n : Fin 16) : refHead (launchContents m' c) b n = headAt m c b n := by
  obtain ⟨h0, h1, h2, h3, h4, h5⟩ := h c
  show headOf (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5)) b n = _
  rw [h0, h1, h2, h3, h4, h5]
  rfl

/-- The reference's array is the attention's: entry by entry both are the head's attention at the token and channel. -/
theorem refResult_eq (hp : Cert.Pre_KernelIdeal_finite_scores m) (h : Agree m m') (c : Dev nD) :
    refResult (launchContents m' c) = W6 m ρ c (Proc.devRef .tc main_v17) := by
  funext j
  have hi := (j 0).isLt
  have hl := (j 1).isLt
  change (j 0).val < 4096 at hi
  change (j 1).val < 1024 at hl
  have e : j = ix2 (⟨1024 * ((j 0).val / 1024) + (64 * ((j 0).val % 1024 / 64) + (16 * ((j 0).val % 64 / 16) + (j 0).val % 16)), by omega⟩)
      (⟨64 * ((j 1).val / 64) + (j 1).val % 64, by omega⟩) := by
    refine funext fun a => ?_
    fin_cases a
    · refine Fin.ext ?_
      show (j 0).val = 1024 * ((j 0).val / 1024) + (64 * ((j 0).val % 1024 / 64) + (16 * ((j 0).val % 64 / 16) + (j 0).val % 16))
      omega
    · refine Fin.ext ?_
      show (j 1).val = 64 * ((j 1).val / 64) + (j 1).val % 64
      omega
  rw [e]
  refine (refResult_at (launchContents m' c) ⟨(j 0).val / 1024, by omega⟩ ⟨(j 0).val % 1024 / 64, by omega⟩ ⟨(j 0).val % 64 / 16, by omega⟩
    ⟨(j 0).val % 16, by omega⟩ ⟨(j 1).val / 64, by omega⟩ ⟨(j 1).val % 64, by omega⟩).trans ?_
  rw [refHead_eq m m' h]
  exact (result_at m ρ c (real_of_pre m hp c) ⟨(j 0).val / 1024, by omega⟩ ⟨(j 0).val % 1024 / 64, by omega⟩ _
    ⟨(j 1).val / 64, by omega⟩ ⟨(j 1).val % 64, by omega⟩).symm

end Cert.Attention
-- ==== Proof.Dense.KvRows.lean ====
/-
  The context tokens' keys in one block: 256 rows of a projection's keys, each of sixteen heads normalised over its 64 lanes.
  The kernel normalises them two heads at a time, 128 lanes each, into a scratch that it then reads back whole.
-/
module

public import proofs.«01_k».proof.Proof.Attention.Normal
public import proofs.«01_k».proof.Proof.Gen.KernelKvIdeal.Frame
public import Idealize.ShloMosaic.Lib.Pipeline.ValueKit
public import Idealize.ShloMosaic.Lib.Pipeline.ReadBack
public import Idealize.ShloMosaic.Lib.Pointwise

@[expose] public section

set_option maxRecDepth 65536

noncomputable section

namespace Cert.Dense.Kv

open Idealize.ShloMosaic Idealize.ShloMosaic.TcCoe Idealize.SL.Sem
open Idealize.ShloMosaic.Pipeline
open Cert.Attention (rms lane select_lane pair_rms sixtyFourth)
open Cert.KernelKvIdeal Cert.KernelKvIdeal.Gen

/-- Column `64 h + e` of sixteen heads of 64. -/
def col (h : Fin 16) (e : Fin 64) : Fin 1024 := ⟨64 * h.val + e.val, by omega⟩

/-- A head is the first or the second of its pair. -/
def side (h : Fin 16) : Fin 2 := ⟨h.val % 2, by omega⟩

/-- The normalised key of row `t` and head `h` at lane `e`; the gain is laid out over a pair's lanes. -/
def keys (x : FVec Ideal S256x1024 .f32) (g : FVec Ideal S1x128 .f32) (t : Fin 256) (h : Fin 16) (e : Fin 64) : EReal :=
  rms (fun d => x (ix2 t (col h d))) (fun d => g (ix2 0 (lane (side h) d))) e

/-- The keys of a block as its scratch holds them. -/
def keyRows (x : FVec Ideal S256x1024 .f32) (g : FVec Ideal S1x128 .f32) : FVec Ideal S256x1024 .f32 :=
  fun j => keys x g (j 0) ⟨(j 1).val / 64, by have : (j 1).val < 1024 := (j 1).isLt; omega⟩ ⟨(j 1).val % 64, by omega⟩

theorem keyRows_at (x : FVec Ideal S256x1024 .f32) (g : FVec Ideal S1x128 .f32) (t : Fin 256) (h : Fin 16) (e : Fin 64) :
    keyRows x g (ix2 t (col h e)) = keys x g t h e := by
  show keys x g t _ _ = _
  congr 1
  · exact Fin.ext (by show (64 * h.val + e.val) / 64 = h.val; omega)
  · exact Fin.ext (by show (64 * h.val + e.val) % 64 = e.val; omega)

/-- The normalisation of a pair of heads, as the kernel's body writes it. -/
theorem pair_at (x : FVec Ideal S256x128 .f32) (g : FVec Ideal S1x128 .f32) (t : Fin 256) (hh : Fin 2) (e : Fin 64) :
    k0_pay40 (F := Ideal) k0_pay5 x g (ix2 t (lane hh e)) =
      rms (fun d => x (ix2 t (lane hh d))) (fun d => g (ix2 0 (lane hh d))) e := by
  generalize hR : rms (fun d => x (ix2 t (lane hh d))) (fun d => g (ix2 0 (lane hh d))) e = R
  pointwise [k0_pay40, k0_pay39, k0_pay5]
  simp only [select_lane]
  rw [← hR, ← pair_rms (fun l => x (ix2 t l)) (fun l => g (ix2 0 l)), ← sixtyFourth]
  rfl

theorem emb_pair (o : ℕ) (p : Fin 8) (ho : o = 128 * p.val) (inb : ∀ i, ![0, o] i + ![256, 128] i ≤ ![256, 1024] i)
    (x : S256x128.Idx) :
    (Rect.unit (s := S256x1024) ![0, o] ![256, 128] inb).emb x
      = ix2 (x 0) ⟨128 * p.val + (x 1).val, by have : (x 1).val < 128 := (x 1).isLt; omega⟩ := by
  subst ho
  funext i
  apply Fin.ext
  rw [Rect.emb_apply]
  fin_cases i <;> simp [ix2]

/-- A stored pair is its part of the keys. -/
theorem pair_piece (x : FVec Ideal S256x1024 .f32) (g : FVec Ideal S1x128 .f32) (o : ℕ) (p : Fin 8) (ho : o = 128 * p.val)
    (inb : ∀ i, ![0, o] i + ![256, 128] i ≤ ![256, 1024] i) (y : S256x128.Idx) :
    k0_pay40 (F := Ideal) k0_pay5 (View.ld x (Rect.unit (s := S256x1024) ![0, o] ![256, 128] inb)) g y
      = keyRows x g ((Rect.unit (s := S256x1024) ![0, o] ![256, 128] inb).emb y) := by
  have hy : (y 1).val < 128 := (y 1).isLt
  have e : y = ix2 (y 0) (lane ⟨(y 1).val / 64, by omega⟩ ⟨(y 1).val % 64, by omega⟩) := by
    refine (ValueIdx.eq_ix2 y).trans ?_
    congr 1
    exact Fin.ext (by show (y 1).val = 64 * ((y 1).val / 64) + (y 1).val % 64; omega)
  have ec : (Rect.unit (s := S256x1024) ![0, o] ![256, 128] inb).emb y
      = ix2 (y 0) (col ⟨2 * p.val + (y 1).val / 64, by omega⟩ ⟨(y 1).val % 64, by omega⟩) := by
    rw [emb_pair o p ho inb y]
    congr 1
    exact Fin.ext (by show 128 * p.val + (y 1).val = 64 * (2 * p.val + (y 1).val / 64) + (y 1).val % 64; omega)
  refine (congrArg _ e).trans ((pair_at _ _ _ _ _).trans (Eq.trans ?_ ((congrArg (keyRows x g) ec).trans (keyRows_at ..)).symm))
  unfold keys
  have hs : side ⟨2 * p.val + (y 1).val / 64, by omega⟩ = ⟨(y 1).val / 64, by omega⟩ :=
    Fin.ext (by show (2 * p.val + (y 1).val / 64) % 2 = (y 1).val / 64; omega)
  rw [hs]
  refine congrArg (fun f => rms f _ _) (funext fun d => ?_)
  refine congrArg x ((emb_pair o p ho inb _).trans ?_)
  refine congrArg (ix2 (y 0)) (Fin.ext ?_)
  show 128 * p.val + (64 * ((y 1).val / 64) + d.val) = 64 * (2 * p.val + (y 1).val / 64) + d.val
  omega

/-- Pieces that are parts of one array and cover the scratch: reading the scratch back whole reads that array. -/
theorem read_all (v : View sig .tc .vmem S256x1024 .f32) (G : FVec Ideal S256x1024 .f32)
    (L : List (View.Piece (Elt Ideal) S256x1024 .f32)) (hL : View.PiecesOf G L) (hc : ∀ y, ∃ p ∈ L, y ∈ p.1.set)
    (inb : ∀ i, ![0, 0] i + ![256, 1024] i ≤ ![256, 1024] i) :
    v.readCov L (Rect.unit (s := S256x1024) ![0, 0] ![256, 1024] inb).toLoadRect = G := by
  rw [View.readCov_eq_canon']
  funext x
  have e := View.canon_append_of_piecesOf G [] L hL ((Rect.unit (s := S256x1024) ![0, 0] ![256, 1024] inb).emb x) (hc _)
  rw [List.append_nil] at e
  refine e.trans (congrArg G ?_)
  funext i
  apply Fin.ext
  rw [Rect.emb_apply]
  fin_cases i <;> simp

/-- The layout of the caches: heads, then lanes, then rows. -/
theorem pay80_at (x : FVec Ideal S256x1024 .f32) (h : Fin 16) (e : Fin 64) (t : Fin 256) :
    k0_pay80 (F := Ideal) x (ix4 0 h e t) = x (ix2 t (col h e)) := by
  generalize hR : x (ix2 t (col h e)) = R
  pointwise [k0_pay80]
  rw [← hR]
  exact congrArg (fun j => x (ix2 t j)) (Fin.ext (by show h.val * 64 + e.val = 64 * h.val + e.val; omega))

theorem pay6_at (x : FVec Ideal S256x1024 .f32) (h : Fin 16) (e : Fin 64) (t : Fin 256) :
    k0_pay6 (F := Ideal) x (ix4 0 h e t) = x (ix2 t (col h e)) := pay80_at x h e t

end Cert.Dense.Kv
-- ==== Proof.Dense.KvBlock.lean ====
/-
  The blocks that the two calls of the context tokens' attention leave in the caches: the keys of Proof/Dense/KvRows.lean and the
  values, heads first, lanes next, rows last. The first call's block holds both layers and has zeros for the second.
-/
module

public import proofs.«01_k».proof.Proof.Dense.KvRows

@[expose] public section

set_option maxRecDepth 65536

noncomputable section

namespace Cert.Dense.Kv

open Idealize.ShloMosaic Idealize.ShloMosaic.TcCoe Idealize.SL.Sem
open Idealize.ShloMosaic.Pipeline
open Cert.KernelKvIdeal Cert.KernelKvIdeal.Gen

section layer

variable {n : ℕ} (hn : 0 < n)
  (i0 : ∀ a, ![0, 0, 0, 0, 0] a + ![1, n, 16, 64, 256] a ≤ ![1, n, 16, 64, 256] a)
  (i4 : ∀ a, ![0, 0, 0, 0] a + ![1, 16, 64, 256] a ≤ ![n, 16, 64, 256] a)
  (h0 : (![1, n, 16, 64, 256] : Fin 5 → ℕ) 0 = 1)
  (hs : ∀ i : Fin 4, (![1, n, 16, 64, 256] : Fin 5 → ℕ) i.succ = ![n, 16, 64, 256] i)
  (h1 : ∀ a, (Rect.unit (s := ⟨5, ![1, n, 16, 64, 256]⟩) ![0, 0, 0, 0, 0] ![1, n, 16, 64, 256] i0).stride a = 1)

/-- The first layer's part of a block, as the kernel's store names it. -/
abbrev firstLayer : Rect ⟨5, ![1, n, 16, 64, 256]⟩ :=
  (Rect.unit (s := ⟨5, ![1, n, 16, 64, 256]⟩) ![0, 0, 0, 0, 0] ![1, n, 16, 64, 256] i0).within
    ((Rect.unit (s := ⟨4, ![n, 16, 64, 256]⟩) ![0, 0, 0, 0] ![1, 16, 64, 256] i4).consLift ![1, n, 16, 64, 256] h0 hs) h1

/-- It starts at the block's first entry. -/
theorem firstLayer_emb (x : (firstLayer i0 i4 h0 hs h1).shape.Idx) (a : Fin 5) :
    ((firstLayer i0 i4 h0 hs h1).emb x a).val = (x a).val := by
  have ho (j : (Rect.unit (s := ⟨5, ![1, n, 16, 64, 256]⟩) ![0, 0, 0, 0, 0] ![1, n, 16, 64, 256] i0).shape.Idx) :
      ((Rect.unit (s := ⟨5, ![1, n, 16, 64, 256]⟩) ![0, 0, 0, 0, 0] ![1, n, 16, 64, 256] i0).emb j a).val = (j a).val := by
    rw [Rect.emb_apply]
    fin_cases a <;> simp
  have hi (j : ((Rect.unit (s := ⟨4, ![n, 16, 64, 256]⟩) ![0, 0, 0, 0] ![1, 16, 64, 256] i4).consLift ![1, n, 16, 64, 256] h0 hs).shape.Idx) :
      (((Rect.unit (s := ⟨4, ![n, 16, 64, 256]⟩) ![0, 0, 0, 0] ![1, 16, 64, 256] i4).consLift ![1, n, 16, 64, 256] h0 hs).emb j a).val = (j a).val := by
    rw [Rect.emb_apply, Rect.off_consLift, Rect.stride_consLift]
    fin_cases a <;> exact (Nat.zero_add _).trans (Nat.one_mul _)
  exact (congrArg (fun j => (j a).val) (Rect.emb_within _
    ((Rect.unit (s := ⟨4, ![n, 16, 64, 256]⟩) ![0, 0, 0, 0] ![1, 16, 64, 256] i4).consLift ![1, n, 16, 64, 256] h0 hs) h1 x)).trans ((ho _).trans (hi x))

/-- A stored first layer, read at an index. -/
theorem canon_first (P : (Rect.unit (s := ⟨4, ![n, 16, 64, 256]⟩) ![0, 0, 0, 0] ![1, 16, 64, 256] i4).shape.Idx → Elt Ideal .f32)
    (hR : (firstLayer i0 i4 h0 hs h1).shape.numel = (Rect.unit (s := ⟨4, ![n, 16, 64, 256]⟩) ![0, 0, 0, 0] ![1, 16, 64, 256] i4).shape.numel)
    (L : List (View.Piece (Elt Ideal) ⟨5, ![1, n, 16, 64, 256]⟩ .f32)) (h : Fin 16) (e : Fin 64) (t : Fin 256) :
    View.canon (⟨firstLayer i0 i4 h0 hs h1, Rect.payAlong hR P⟩ :: L) (ix5 (0 : Fin 1) ⟨0, hn⟩ h e t) = P (ix4 0 h e t) := by
  obtain ⟨x, hx⟩ : ∃ x : (firstLayer i0 i4 h0 hs h1).shape.Idx, ∀ a : Fin 5, (x a).val = (ix5 (0 : Fin 1) (⟨0, hn⟩ : Fin n) h e t a).val :=
    ⟨ix5 (0 : Fin 1) (0 : Fin 1) h e t, fun a => by fin_cases a <;> rfl⟩
  have he : (firstLayer i0 i4 h0 hs h1).emb x = ix5 (0 : Fin 1) ⟨0, hn⟩ h e t :=
    funext fun a => Fin.ext ((firstLayer_emb i0 i4 h0 hs h1 x a).trans (hx a))
  rw [← he]
  refine (View.canon_cons_emb _ _ L x).trans ?_
  refine Rect.payAlong_consLift (Rect.unit (s := ⟨4, ![n, 16, 64, 256]⟩) ![0, 0, 0, 0] ![1, 16, 64, 256] i4) _ h0 hs P hR x _ fun i => ?_
  have := hx i.succ
  fin_cases i <;> exact this.symm

/-- Off the first layer, a block is what was stored there before. -/
theorem canon_later (w : (firstLayer i0 i4 h0 hs h1).shape.Idx → Elt Ideal .f32)
    (L : List (View.Piece (Elt Ideal) ⟨5, ![1, n, 16, 64, 256]⟩ .f32)) (l : Fin n) (hl : 0 < l.val) (h : Fin 16) (e : Fin 64) (t : Fin 256) :
    View.canon (⟨firstLayer i0 i4 h0 hs h1, w⟩ :: L) (ix5 (0 : Fin 1) l h e t) = View.canon L (ix5 (0 : Fin 1) l h e t) := by
  refine View.canon_cons_of_not_mem _ L fun hm => ?_
  obtain ⟨x, hx⟩ := (firstLayer i0 i4 h0 hs h1).exists_idx_of_mem hm
  have h2 := firstLayer_emb i0 i4 h0 hs h1 x 1
  have h3 : (x 1).val < 1 := (x 1).isLt
  have h4 : l.val = (x 1).val := (congrArg (fun j => (j 1).val) hx).symm.trans h2
  omega

end layer

/-- The zeros stored in the second layer. -/
theorem canon_zeros (i : ∀ a, ![0, 1, 0, 0, 0] a + ![1, 1, 16, 64, 256] a ≤ ![1, 2, 16, 64, 256] a) (Z : FVec Ideal S1x1x16x64x256 .f32)
    (hZ : ∀ y, Z y = 0) (h : Fin 16) (e : Fin 64) (t : Fin 256) :
    View.canon (Val := Elt Ideal) (e := .f32) [⟨Rect.unit (s := S1x2x16x64x256) ![0, 1, 0, 0, 0] ![1, 1, 16, 64, 256] i, Z⟩] (ix5 0 1 h e t) = 0 := by
  have he : (Rect.unit (s := S1x2x16x64x256) ![0, 1, 0, 0, 0] ![1, 1, 16, 64, 256] i).emb (ix5 (0 : Fin 1) (0 : Fin 1) h e t) = ix5 0 1 h e t := by
    funext a
    apply Fin.ext
    rw [Rect.emb_apply]
    fin_cases a <;> simp [ix5]
  have hc := View.canon_cons_emb (Val := Elt Ideal) (e := .f32) (Rect.unit (s := S1x2x16x64x256) ![0, 1, 0, 0, 0] ![1, 1, 16, 64, 256] i) Z []
    (ix5 (0 : Fin 1) (0 : Fin 1) h e t)
  rw [hZ, he] at hc
  exact hc

theorem zero_at (y : S1x1x16x64x256.Idx) : k0_pay3 (F := Ideal) y = 0 := by
  pointwise [k0_pay3]

section first

variable (c : Dev nD) (i : grid0.Coords)
  (arg1 : Memref sig .tc .vmem S256x1024 .f32) (harg1 : arg1.IsWhole) (arg2 : Memref sig .tc .vmem S256x1024 .f32) (harg2 : arg2.IsWhole)
  (arg3 : Memref sig .tc .vmem S256x1024 .f32) (harg3 : arg3.IsWhole) (arg4 : Memref sig .tc .vmem S1x128 .f32) (harg4 : arg4.IsWhole)
  (arg5 : Memref sig .tc .vmem S1x128 .f32) (harg5 : arg5.IsWhole) (arg6 : Memref sig .tc .vmem S256x1024 .bf16) (harg6 : arg6.IsWhole)
  (arg7 : Memref sig .tc .vmem S1x2x16x64x256 .f32) (harg7 : arg7.IsWhole) (arg8 : Memref sig .tc .vmem S1x2x16x64x256 .f32) (harg8 : arg8.IsWhole)
  (arg9 : Memref sig .tc .vmem S8x512x256 .f32) (harg9 : arg9.IsWhole) (arg10 : Memref sig .tc .vmem S8x512x256 .bf16) (harg10 : arg10.IsWhole)
  (arg11 : Memref sig .tc .vmem S8x512x128 .f32) (harg11 : arg11.IsWhole) (arg12 : Memref sig .tc .vmem S256x1024 .f32) (harg12 : arg12.IsWhole)
  (x0 x1 x2 : Vec Ideal S256x1024 .f32) (x3 x4 : Vec Ideal S1x128 .f32) (h : Fin 16) (e : Fin 64) (t : Fin 256)

theorem keys0 : out0_A_6 c i arg1 harg1 arg2 harg2 arg3 harg3 arg4 harg4 arg5 harg5 arg6 harg6 arg7 harg7 arg8 harg8 arg9 harg9 arg10 harg10 arg11 harg11 arg12 harg12 x0 x1 x2 x3 x4
    (ix5 0 0 h e t) = keys x1 x4 t h e := by
  frame_out
  refine (canon_first (n := 2) (by decide) _ _ _ _ _ _ _ _ h e t).trans ((pay80_at _ h e t).trans ?_)
  refine (congrFun (read_all _ (keyRows x1 x4) _ ?_ (View.cover_of_tiledBy _ ![256, 128] (by sl_kernel_rfl)) _) _).trans (keyRows_at ..)
  exact ⟨pair_piece x1 x4 _ 7 rfl _, pair_piece x1 x4 _ 6 rfl _, pair_piece x1 x4 _ 5 rfl _, pair_piece x1 x4 _ 4 rfl _,
    pair_piece x1 x4 _ 3 rfl _, pair_piece x1 x4 _ 2 rfl _, pair_piece x1 x4 _ 1 rfl _, pair_piece x1 x4 _ 0 rfl _, trivial⟩

theorem values0 : out0_A_7 c i arg1 harg1 arg2 harg2 arg3 harg3 arg4 harg4 arg5 harg5 arg6 harg6 arg7 harg7 arg8 harg8 arg9 harg9 arg10 harg10 arg11 harg11 arg12 harg12 x0 x1 x2 x3 x4
    (ix5 0 0 h e t) = x2 (ix2 t (col h e)) := by
  frame_out
  exact (canon_first (n := 2) (by decide) _ _ _ _ _ _ _ _ h e t).trans (pay6_at _ h e t)

theorem zeros0 :
    out0_A_6 c i arg1 harg1 arg2 harg2 arg3 harg3 arg4 harg4 arg5 harg5 arg6 harg6 arg7 harg7 arg8 harg8 arg9 harg9 arg10 harg10 arg11 harg11 arg12 harg12 x0 x1 x2 x3 x4
      (ix5 0 1 h e t) = 0 ∧
    out0_A_7 c i arg1 harg1 arg2 harg2 arg3 harg3 arg4 harg4 arg5 harg5 arg6 harg6 arg7 harg7 arg8 harg8 arg9 harg9 arg10 harg10 arg11 harg11 arg12 harg12 x0 x1 x2 x3 x4
      (ix5 0 1 h e t) = 0 := by
  constructor
  · frame_out
    refine (canon_later (n := 2) _ _ _ _ _ _ _ 1 (by decide) h e t).trans ?_
    exact canon_zeros _ _ zero_at h e t
  · frame_out
    refine (canon_later (n := 2) _ _ _ _ _ _ _ 1 (by decide) h e t).trans ?_
    exact canon_zeros _ _ zero_at h e t

end first

section second

variable (c : Dev nD) (i : grid1.Coords)
  (arg1 : Memref sig .tc .vmem S256x1024 .f32) (harg1 : arg1.IsWhole) (arg2 : Memref sig .tc .vmem S256x1024 .f32) (harg2 : arg2.IsWhole)
  (arg3 : Memref sig .tc .vmem S256x1024 .f32) (harg3 : arg3.IsWhole) (arg4 : Memref sig .tc .vmem S1x128 .f32) (harg4 : arg4.IsWhole)
  (arg5 : Memref sig .tc .vmem S1x128 .f32) (harg5 : arg5.IsWhole) (arg8 : Memref sig .tc .vmem S256x1024 .bf16) (harg8 : arg8.IsWhole)
  (arg9 : Memref sig .tc .vmem S1x1x16x64x256 .f32) (harg9 : arg9.IsWhole) (arg10 : Memref sig .tc .vmem S1x1x16x64x256 .f32) (harg10 : arg10.IsWhole)
  (arg11 : Memref sig .tc .vmem S8x512x256 .f32) (harg11 : arg11.IsWhole) (arg12 : Memref sig .tc .vmem S8x512x256 .bf16) (harg12 : arg12.IsWhole)
  (arg13 : Memref sig .tc .vmem S8x512x128 .f32) (harg13 : arg13.IsWhole) (arg14 : Memref sig .tc .vmem S256x1024 .f32) (harg14 : arg14.IsWhole)
  (x0 x1 x2 : Vec Ideal S256x1024 .f32) (x3 x4 : Vec Ideal S1x128 .f32) (h : Fin 16) (e : Fin 64) (t : Fin 256)

theorem keys1 : out1_A_6 c i arg1 harg1 arg2 harg2 arg3 harg3 arg4 harg4 arg5 harg5 arg8 harg8 arg9 harg9 arg10 harg10 arg11 harg11 arg12 harg12 arg13 harg13 arg14 harg14 x0 x1 x2 x3 x4
    (ix5 0 0 h e t) = keys x1 x4 t h e := by
  frame_out
  refine (canon_first (n := 1) (by decide) _ _ _ _ _ _ _ _ h e t).trans ((pay80_at _ h e t).trans ?_)
  refine (congrFun (read_all _ (keyRows x1 x4) _ ?_ (View.cover_of_tiledBy _ ![256, 128] (by sl_kernel_rfl)) _) _).trans (keyRows_at ..)
  exact ⟨pair_piece x1 x4 _ 7 rfl _, pair_piece x1 x4 _ 6 rfl _, pair_piece x1 x4 _ 5 rfl _, pair_piece x1 x4 _ 4 rfl _,
    pair_piece x1 x4 _ 3 rfl _, pair_piece x1 x4 _ 2 rfl _, pair_piece x1 x4 _ 1 rfl _, pair_piece x1 x4 _ 0 rfl _, trivial⟩

theorem values1 : out1_A_7 c i arg1 harg1 arg2 harg2 arg3 harg3 arg4 harg4 arg5 harg5 arg8 harg8 arg9 harg9 arg10 harg10 arg11 harg11 arg12 harg12 arg13 harg13 arg14 harg14 x0 x1 x2 x3 x4
    (ix5 0 0 h e t) = x2 (ix2 t (col h e)) := by
  frame_out
  exact (canon_first (n := 1) (by decide) _ _ _ _ _ _ _ _ h e t).trans (pay6_at _ h e t)

end second

end Cert.Dense.Kv
-- ==== Proof.Dense.KvArrays.lean ====
/-
  The caches after each of the two calls of the context tokens' attention: the first call fills both layers, its own and zeros; the
  second writes its layer into what the first left.
-/
module

public import proofs.«01_k».proof.Proof.Dense.KvBlock

@[expose] public section

set_option maxRecDepth 65536

noncomputable section

namespace Cert.Dense.Kv

open Idealize.ShloMosaic Idealize.ShloMosaic.TcCoe Idealize.SL.Sem
open Idealize.ShloMosaic.Pipeline
open Cert.Attention (rms lane)
open Cert.KernelKvIdeal Cert.KernelKvIdeal.Gen

/-- The normalised key of a projection `X` at sequence `b`, head `h`, lane `e` and token `t`. -/
def key (X : FVec Ideal S8192x4096 .f32) (g : Fin 64 → EReal) (b : Fin 16) (h : Fin 16) (e : Fin 64) (t : Fin 256) : EReal :=
  rms (fun d => X (ix2 ⟨256 * b.val + t.val, by omega⟩ ⟨1024 + (64 * h.val + d.val), by omega⟩)) g e

/-- The value there. -/
def value (X : FVec Ideal S8192x4096 .f32) (b : Fin 16) (h : Fin 16) (e : Fin 64) (t : Fin 256) : EReal :=
  X (ix2 ⟨256 * b.val + t.val, by omega⟩ ⟨2048 + (64 * h.val + e.val), by omega⟩)

theorem index0_1 : ∀ t : Fin cfg0.N, win0_1.index t = ![t.val, 1] := (by decide +kernel : ∀ t : Fin grid0.N, _)
theorem index0_2 : ∀ t : Fin cfg0.N, win0_2.index t = ![t.val, 2] := (by decide +kernel : ∀ t : Fin grid0.N, _)
theorem index0_4 : ∀ t : Fin cfg0.N, win0_4.index t = ![0, 0] := (by decide +kernel : ∀ t : Fin grid0.N, _)
theorem index0_6 : ∀ t : Fin cfg0.N, win0_6.index t = ![t.val, 0, 0, 0, 0] := (by decide +kernel : ∀ t : Fin grid0.N, _)
theorem index0_7 : ∀ t : Fin cfg0.N, win0_7.index t = ![t.val, 0, 0, 0, 0] := (by decide +kernel : ∀ t : Fin grid0.N, _)
theorem index1_1 : ∀ t : Fin cfg1.N, win1_1.index t = ![t.val, 1] := (by decide +kernel : ∀ t : Fin grid1.N, _)
theorem index1_2 : ∀ t : Fin cfg1.N, win1_2.index t = ![t.val, 2] := (by decide +kernel : ∀ t : Fin grid1.N, _)
theorem index1_4 : ∀ t : Fin cfg1.N, win1_4.index t = ![0, 0] := (by decide +kernel : ∀ t : Fin grid1.N, _)
theorem index1_6 : ∀ t : Fin cfg1.N, win1_6.index t = ![t.val, 1, 0, 0, 0] := (by decide +kernel : ∀ t : Fin grid1.N, _)
theorem index1_7 : ∀ t : Fin cfg1.N, win1_7.index t = ![t.val, 1, 0, 0, 0] := (by decide +kernel : ∀ t : Fin grid1.N, _)

/-- A block's keys are the projection's, when its rows are the projection's of sequence `b` and its gain is `g` for both heads of a pair. -/
theorem keys_eq (X : FVec Ideal S8192x4096 .f32) (g : Fin 64 → EReal) (x : FVec Ideal S256x1024 .f32) (k : FVec Ideal S1x128 .f32) (b : Fin 16)
    (hx : ∀ (t : Fin 256) (j : Fin 1024), x (ix2 t j) = X (ix2 ⟨256 * b.val + t.val, by omega⟩ ⟨1024 + j.val, by omega⟩))
    (hk : ∀ hh e, k (ix2 0 (lane hh e)) = g e) (t : Fin 256) (h : Fin 16) (e : Fin 64) : keys x k t h e = key X g b h e t := by
  unfold keys key
  simp only [hx, hk]
  rfl

/-- An index of a block's shape. -/
theorem block_index {n : ℕ} (y : (⟨5, ![1, n, 16, 64, 256]⟩ : Shape).Idx) (l : Fin n) (hl : (y 1).val = l.val) :
    y = ix5 (0 : Fin 1) l (y 2) (y 3) (y 4) := by
  have h0 : (y 0).val < 1 := (y 0).isLt
  funext a
  apply Fin.ext
  fin_cases a
  · show (y 0).val = 0
    omega
  · exact hl
  · rfl
  · rfl
  · rfl

variable (V : (c : Dev nD) → (b : Ref sig .tc) → Buf (Elt Ideal) ((c : Thread nD τ).loc b)) (c : Dev nD)

/-! ## What a point of each call leaves -/

section
variable (t : Fin cfg0.N) (h : Fin 16) (e : Fin 64) (u : Fin 256)

theorem point0_keys : (outsAt0 V c t).2.1 (ix5 0 0 h e u) = keys (iblk0 V c 1 t) (iblk0 V c 4 t) u h e := by
  dsimp only [outsAt0]
  exact keys0 _ _ _ _ _ _ _ _ _ _ _ _ _ _ _ _ _ _ _ _ _ _ _ _ _ _ _ _ _ _ _ _ _ _

theorem point0_values : (outsAt0 V c t).2.2 (ix5 0 0 h e u) = (iblk0 V c 2 t : FVec Ideal S256x1024 .f32) (ix2 u (col h e)) := by
  dsimp only [outsAt0]
  exact values0 _ _ _ _ _ _ _ _ _ _ _ _ _ _ _ _ _ _ _ _ _ _ _ _ _ _ _ _ _ _ _ _ _ _

theorem point0_zeros : (outsAt0 V c t).2.1 (ix5 0 1 h e u) = 0 ∧ (outsAt0 V c t).2.2 (ix5 0 1 h e u) = 0 := by
  dsimp only [outsAt0]
  exact zeros0 _ _ _ _ _ _ _ _ _ _ _ _ _ _ _ _ _ _ _ _ _ _ _ _ _ _ _ _ _ _ _ _ _ _

end

section
variable (t : Fin cfg1.N) (h : Fin 16) (e : Fin 64) (u : Fin 256)

theorem point1_keys : (outsAt1 V c t).2.1 (ix5 0 0 h e u) = keys (iblk1 V c 1 t) (iblk1 V c 4 t) u h e := by
  dsimp only [outsAt1]
  exact keys1 _ _ _ _ _ _ _ _ _ _ _ _ _ _ _ _ _ _ _ _ _ _ _ _ _ _ _ _ _ _ _ _ _ _

theorem point1_values : (outsAt1 V c t).2.2 (ix5 0 0 h e u) = (iblk1 V c 2 t : FVec Ideal S256x1024 .f32) (ix2 u (col h e)) := by
  dsimp only [outsAt1]
  exact values1 _ _ _ _ _ _ _ _ _ _ _ _ _ _ _ _ _ _ _ _ _ _ _ _ _ _ _ _ _ _ _ _ _ _

end

/-! ## The arrays -/

theorem first_keys (g : Fin 64 → EReal) (hg : ∀ hh e, (V c main_v11 : FVec Ideal S1x128 .f32) (ix2 0 (lane hh e)) = g e) :
    (dat0 V c).arrAt 6 cfg0.N = fun i : S16x2x16x64x256.Idx =>
      if (i 1).val = 0 then key (V c main_arg0) g (i 0) (i 2) (i 3) (i 4) else 0 := by
  refine (dat0 V c).arrAt_eq_of_covers 6 _ (by decide +kernel) fun t hf y => ?_
  have ht : t.val < 16 := t.isLt
  have h0 : (y 0).val < 1 := (y 0).isLt
  have h1 : (y 1).val < 2 := (y 1).isLt
  have he : (win0_6.blk t).view.emb y = ix5 (n0 := 16) (n1 := 2) (n2 := 16) (n3 := 64) (n4 := 256) ⟨t.val, ht⟩ (y 1) (y 2) (y 3) (y 4) := by
    blk_ext [index0_6 t]
  have hl : win0_6.index t 1 * 2 + (y 1).val = (y 1).val := by
    rw [index0_6 t]
    exact Nat.zero_add _
  blk_simp
  rw [after0_6, he, hl]
  by_cases hy : (y 1).val = 0
  · refine (congrArg _ (block_index y (0 : Fin 2) hy)).trans ((point0_keys ..).trans (Eq.trans ?_ (if_pos hy).symm))
    refine keys_eq (V c main_arg0) g _ _ ⟨t.val, ht⟩ (fun u j => ?_) (fun hh e => Eq.trans ?_ (hg hh e)) _ _ _
    · blk_simp [iblk0]
      congr 1
      blk_ext [index0_1 t]
    · blk_simp [iblk0]
      congr 1
      blk_ext [index0_4 t]
  · refine (congrArg _ (block_index y (1 : Fin 2) (by show (y 1).val = 1; omega))).trans ((point0_zeros ..).1.trans (if_neg hy).symm)

theorem first_values :
    (dat0 V c).arrAt 7 cfg0.N = fun i : S16x2x16x64x256.Idx =>
      if (i 1).val = 0 then value (V c main_arg0) (i 0) (i 2) (i 3) (i 4) else 0 := by
  refine (dat0 V c).arrAt_eq_of_covers 7 _ (by decide +kernel) fun t hf y => ?_
  have ht : t.val < 16 := t.isLt
  have h0 : (y 0).val < 1 := (y 0).isLt
  have h1 : (y 1).val < 2 := (y 1).isLt
  have he : (win0_7.blk t).view.emb y = ix5 (n0 := 16) (n1 := 2) (n2 := 16) (n3 := 64) (n4 := 256) ⟨t.val, ht⟩ (y 1) (y 2) (y 3) (y 4) := by
    blk_ext [index0_7 t]
  have hl : win0_7.index t 1 * 2 + (y 1).val = (y 1).val := by
    rw [index0_7 t]
    exact Nat.zero_add _
  blk_simp
  rw [after0_7, he, hl]
  by_cases hy : (y 1).val = 0
  · refine (congrArg _ (block_index y (0 : Fin 2) hy)).trans ((point0_values ..).trans (Eq.trans ?_ (if_pos hy).symm))
    unfold value col
    blk_simp [iblk0]
    congr 1
    blk_ext [index0_2 t]
  · refine (congrArg _ (block_index y (1 : Fin 2) (by show (y 1).val = 1; omega))).trans ((point0_zeros ..).2.trans (if_neg hy).symm)

theorem second_keys (g : Fin 64 → EReal) (hg : ∀ hh e, (V c main_v24 : FVec Ideal S1x128 .f32) (ix2 0 (lane hh e)) = g e) :
    (dat1 V c).arrAt 6 cfg1.N = fun i : S16x2x16x64x256.Idx =>
      if (i 1 : ℕ) / 1 = 1 then key (V c main_arg1) g (i 0) (i 2) (i 3) (i 4) else (V c main_v25_1 : FVec Ideal S16x2x16x64x256 .f32) i := by
  refine (dat1 V c).arrAt_eq_of_coversWhere 6 _ (fun β => β (1 : Fin 5) = 1) (by decide +kernel) (fun t hf y => ?_) (fun j => Iff.rfl)
  have ht : t.val < 16 := t.isLt
  have h0 : (y 0).val < 1 := (y 0).isLt
  have h1 : (y 1).val < 1 := (y 1).isLt
  have he : (win1_6.blk t).view.emb y = ix5 (n0 := 16) (n1 := 2) (n2 := 16) (n3 := 64) (n4 := 256) ⟨t.val, ht⟩ 1 (y 2) (y 3) (y 4) := by
    blk_ext [index1_6 t]
  blk_simp
  rw [after1_6, he]
  refine (congrArg _ (block_index y (0 : Fin 1) (by show (y 1).val = 0; omega))).trans ((point1_keys ..).trans ?_)
  refine keys_eq (V c main_arg1) g _ _ ⟨t.val, ht⟩ (fun u j => ?_) (fun hh e => Eq.trans ?_ (hg hh e)) _ _ _
  · blk_simp [iblk1]
    congr 1
    blk_ext [index1_1 t]
  · blk_simp [iblk1]
    congr 1
    blk_ext [index1_4 t]

theorem second_values :
    (dat1 V c).arrAt 7 cfg1.N = fun i : S16x2x16x64x256.Idx =>
      if (i 1 : ℕ) / 1 = 1 then value (V c main_arg1) (i 0) (i 2) (i 3) (i 4) else (V c main_v25_2 : FVec Ideal S16x2x16x64x256 .f32) i := by
  refine (dat1 V c).arrAt_eq_of_coversWhere 7 _ (fun β => β (1 : Fin 5) = 1) (by decide +kernel) (fun t hf y => ?_) (fun j => Iff.rfl)
  have ht : t.val < 16 := t.isLt
  have h0 : (y 0).val < 1 := (y 0).isLt
  have h1 : (y 1).val < 1 := (y 1).isLt
  have he : (win1_7.blk t).view.emb y = ix5 (n0 := 16) (n1 := 2) (n2 := 16) (n3 := 64) (n4 := 256) ⟨t.val, ht⟩ 1 (y 2) (y 3) (y 4) := by
    blk_ext [index1_7 t]
  blk_simp
  rw [after1_7, he]
  refine (congrArg _ (block_index y (0 : Fin 1) (by show (y 1).val = 0; omega))).trans ((point1_values ..).trans ?_)
  unfold value col
  blk_simp [iblk1]
  congr 1
  blk_ext [index1_2 t]

end Cert.Dense.Kv
-- ==== Proof.Dense.KvRun.lean ====
module

public import proofs.«01_k».proof.Proof.Gen.KernelKvIdeal.Frame

/-!
The run of the context tokens' attention for both layers, with what its caches hold at the end.
-/

@[expose] public section

set_option maxRecDepth 65536

noncomputable section

namespace Cert.Dense.Kv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelKvIdeal Cert.KernelKvIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with the two caches at the last boundary's contents and its arguments as they were. -/
theorem kernel_run : θ_run defs (onTc (τ := τ) (main (F := F))) ⟨m, fun _ => 0, ρ⟩ (fun r => ∀ c : Dev nD,
    r.2.mem ((c.tc : Thread nD τ).loc main_v26) = W5 m ρ c (Proc.devRef .tc main_v26)
      ∧ r.2.mem ((c.tc : Thread nD τ).loc main_v27) = W5 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c => ⟨h c _ (mem_uc main_v26 (by decide)), h c _ (mem_uc main_v27 (by decide)),
      (h c _ (mem_uc main_arg0 (by decide))).trans (W5_main_arg0 m ρ c), (h c _ (mem_uc main_arg1 (by decide))).trans (W5_main_arg1 m ρ c),
      (h c _ (mem_uc main_arg2 (by decide))).trans (W5_main_arg2 m ρ c), (h c _ (mem_uc main_arg3 (by decide))).trans (W5_main_arg3 m ρ c)⟩)

end Cert.Dense.Kv
-- ==== Proof.Dense.Kv.lean ====
/-
  The context tokens' keys and values of both layers, in the layout of the caches.
-/
module

public import proofs.«01_k».proof.Proof.Dense.KvArrays
public import proofs.«01_k».proof.Proof.Dense.KvRun
public import proofs.«01_k».proof.Proof.Attention.RefNorm
public import proofs.«01_k».proof.Proof.Gen.ReferenceKvIdeal.Run
public import proofs.«01_k».proof.Defs

@[expose] public section

set_option maxRecDepth 65536

noncomputable section

namespace Cert.Dense.Kv

open Idealize.ShloMosaic Idealize.ShloMosaic.TcCoe Idealize.SL.Sem
open Idealize.ShloMosaic.Pipeline
open Cert.Attention (rms lane div64)
open Cert.KernelKvIdeal Cert.KernelKvIdeal.Gen

/-! ## The kernel's caches -/

/-- The gain of the layer cut out at row `o`, repeated for the two heads of a pair. -/
def twice (o : ℕ) (ho : S2x64.Slices ![o, 0] S1x64) (G : FVec Ideal S2x64 .f32) : FVec Ideal S1x128 .f32 :=
  shapeCast S1x128 (shapeCast S128 (broadcastInDim S2x64 ![0, 1] bcast_S1x64_S2x64_0_1
    (shapeCast S1x64 (shapeCast S64 (extractStridedSlice S1x64 ![o, 0] G ho) shapeCasts_S1x64_S64)
      shapeCasts_S64_S1x64)) shapeCasts_S2x64_S128) shapeCasts_S128_S1x128

theorem twice_at (o : ℕ) (ho : S2x64.Slices ![o, 0] S1x64) (l : Fin 2) (hl : o = l.val) (G : FVec Ideal S2x64 .f32) (hh : Fin 2) (e : Fin 64) :
    twice o ho G (ix2 0 (lane hh e)) = G (ix2 l e) := by
  subst hl
  unfold twice lane
  generalize hR : G (ix2 l e) = R
  pointwise
  exact hR

/-- A new cache from its two layers: sequence, layer, token, head, lane. -/
def layers (K L : Fin 16 → Fin 16 → Fin 64 → Fin 256 → EReal) : FVec Ideal S16x2x256x16x64 .f32 :=
  fun i => (if (i 1).val = 0 then K else L) (i 0) (i 3) (i 4) (i 2)

/-- The first call's layer `K`, then the second's `L` in place, then the layout of the caches. -/
theorem kernel_layers (K L : Fin 16 → Fin 16 → Fin 64 → Fin 256 → EReal) (x y : FVec Ideal S16x2x16x64x256 .f32)
    (hx : x = fun i => if (i 1 : ℕ) / 1 = 1 then L (i 0) (i 2) (i 3) (i 4) else y i)
    (hy : y = fun i => if (i 1).val = 0 then K (i 0) (i 2) (i 3) (i 4) else 0) :
    transpose S16x2x256x16x64 [0, 1, 4, 2, 3] x transposes_S16x2x16x64x256_S16x2x256x16x64_0_1_4_2_3 = layers K L := by
  funext i
  refine (congrArg _ (ValueIdx.eq_ix5 i)).trans ?_
  have h1 : (i 1).val < 2 := (i 1).isLt
  have e : (transpose S16x2x256x16x64 [0, 1, 4, 2, 3] x transposes_S16x2x16x64x256_S16x2x256x16x64_0_1_4_2_3 : FVec Ideal S16x2x256x16x64 .f32)
      (ix5 (i 0) (i 1) (i 2) (i 3) (i 4)) = x (ix5 (i 0) (i 1) (i 3) (i 4) (i 2)) := by
    generalize hR : x (ix5 (i 0) (i 1) (i 3) (i 4) (i 2)) = R
    pointwise
    exact hR
  refine e.trans ((congrFun hx _).trans ?_)
  unfold layers
  by_cases h : (i 1).val = 0
  · exact (if_neg (by show ¬(i 1).val / 1 = 1; omega)).trans ((congrFun hy _).trans ((if_pos h).trans (by rw [if_pos h]; rfl)))
  · exact (if_pos (by show (i 1).val / 1 = 1; omega)).trans (by rw [if_neg h]; rfl)

/-- The new key cache, from the two layers' projections and gains. -/
def keyCache (P Q : FVec Ideal S8192x4096 .f32) (G : FVec Ideal S2x64 .f32) : FVec Ideal S16x2x256x16x64 .f32 :=
  layers (key P fun e => G (ix2 0 e)) (key Q fun e => G (ix2 1 e))

/-- The new value cache. -/
def valueCache (P Q : FVec Ideal S8192x4096 .f32) : FVec Ideal S16x2x256x16x64 .f32 := layers (value P) (value Q)

section
variable (m : (ℓ : Loc nD τ sig) → Buf (Elt Ideal) ℓ) (ρ : Dev nD → PrngReg) (c : Dev nD)

theorem gain0 : V1 m ρ c main_v11 = twice 0 slices_S2x64_S1x64_0_0 (m ((c : Thread nD τ).loc main_arg3)) := by
  have h : W0 m ρ c (Proc.devRef .tc main_arg3) = m ((c : Thread nD τ).loc main_arg3) := W0_args m ρ c _ (by decide)
  rw [← h]
  show StableHlo.after hostOps0 (W0 m ρ c) (Proc.devRef .tc main_v11) = _
  generalize W0 m ρ c = W
  after_results
  rfl

theorem gain1 : V3 m ρ c main_v24 = twice 1 slices_S2x64_S1x64_1_0 (m ((c : Thread nD τ).loc main_arg3)) := by
  have h : W2 m ρ c (Proc.devRef .tc main_arg3) = m ((c : Thread nD τ).loc main_arg3) := W2_args m ρ c _ (by decide)
  rw [← h]
  show StableHlo.after hostOps1 (W2 m ρ c) (Proc.devRef .tc main_v24) = _
  generalize W2 m ρ c = W
  after_results
  rfl

theorem copied : V3 m ρ c main_v25_1 = W2 m ρ c (Proc.devRef .tc main_v12_1) ∧ V3 m ρ c main_v25_2 = W2 m ρ c (Proc.devRef .tc main_v12_2) := by
  show StableHlo.after hostOps1 (W2 m ρ c) (Proc.devRef .tc main_v25_1) = _ ∧ StableHlo.after hostOps1 (W2 m ρ c) (Proc.devRef .tc main_v25_2) = _
  generalize W2 m ρ c = W
  constructor <;> after_results <;> rfl

theorem kernel_keys : W5 m ρ c (Proc.devRef .tc main_v26)
    = keyCache (m ((c : Thread nD τ).loc main_arg0)) (m ((c : Thread nD τ).loc main_arg1)) (m ((c : Thread nD τ).loc main_arg3)) := by
  have h0 := (W2_arr m ρ c 6).trans (first_keys (V1 m ρ) c (fun e => (m ((c : Thread nD τ).loc main_arg3) : FVec Ideal S2x64 .f32) (ix2 0 e))
    fun hh e => (congrFun (gain0 m ρ c) _).trans (twice_at 0 _ 0 rfl _ hh e))
  have h1 := (W4_arr m ρ c 6).trans (second_keys (V3 m ρ) c (fun e => (m ((c : Thread nD τ).loc main_arg3) : FVec Ideal S2x64 .f32) (ix2 1 e))
    fun hh e => (congrFun (gain1 m ρ c) _).trans (twice_at 1 _ 1 rfl _ hh e))
  rw [show V1 m ρ c main_arg0 = m ((c : Thread nD τ).loc main_arg0) from W1_args m ρ c _ (by decide)] at h0
  rw [show V3 m ρ c main_arg1 = m ((c : Thread nD τ).loc main_arg1) from W3_args m ρ c _ (by decide)] at h1
  refine Eq.trans ?_ (kernel_layers _ _ _ _ h1 ((copied m ρ c).1.trans h0))
  show StableHlo.after hostOps2 (W4 m ρ c) (Proc.devRef .tc main_v26) = _
  generalize W4 m ρ c = W
  after_results

theorem kernel_values : W5 m ρ c (Proc.devRef .tc main_v27)
    = valueCache (m ((c : Thread nD τ).loc main_arg0)) (m ((c : Thread nD τ).loc main_arg1)) := by
  have h0 := (W2_arr m ρ c 7).trans (first_values (V1 m ρ) c)
  have h1 := (W4_arr m ρ c 7).trans (second_values (V3 m ρ) c)
  rw [show V1 m ρ c main_arg0 = m ((c : Thread nD τ).loc main_arg0) from W1_args m ρ c _ (by decide)] at h0
  rw [show V3 m ρ c main_arg1 = m ((c : Thread nD τ).loc main_arg1) from W3_args m ρ c _ (by decide)] at h1
  refine Eq.trans ?_ (kernel_layers _ _ _ _ h1 ((copied m ρ c).2.trans h0))
  show StableHlo.after hostOps2 (W4 m ρ c) (Proc.devRef .tc main_v27) = _
  generalize W4 m ρ c = W
  after_results

end

/-! ## The reference's -/

section
open Cert.ReferenceKvIdeal (S16x256x16x64 S16x256x16x1 S16x256x4096 S16x256x1024 S16x1x256x16x64 S4096x4096 S1x1x1x64 S_)
open Cert.ReferenceKvIdeal.Gen (slices_S8192x4096_S4096x4096_0_0 shapeCasts_S4096x4096_S16x256x4096 shapeCasts_S16x256x1024_S16x256x16x64
  bcast_S16x256x16x1_S16x256x16x64_0_1_2_3 bcast_S16x256x16_S16x256x16x1_0_1_2 reducesTo_S16x256x16x64_S16x256x16_d3 h_S_
  bcast_S_S16x256x16x1 bcast_S1x1x1x64_S16x256x16x64_0_1_2_3 bcast_S64_S1x1x1x64_3 bcast_S16x256x16x64_S16x1x256x16x64_0_2_3_4
  concatenates_S16x1x256x16x64_S16x1x256x16x64_S16x2x256x16x64_d1)

/-- The part of a projection that starts at column `o`, by sequence, token, head and lane. -/
theorem cut_at (P : FVec Ideal S8192x4096 .f32) (o : ℕ) (ho : S16x256x4096.Slices ![0, 0, o] S16x256x1024) (ho' : o ≤ 3072)
    (b : Fin 16) (t : Fin 256) (h : Fin 16) (e : Fin 64) :
    (shapeCast S16x256x16x64 (extractStridedSlice S16x256x1024 ![0, 0, o]
      (shapeCast S16x256x4096 (extractStridedSlice S4096x4096 ![0, 0] P slices_S8192x4096_S4096x4096_0_0) shapeCasts_S4096x4096_S16x256x4096) ho)
      shapeCasts_S16x256x1024_S16x256x16x64 : FVec Ideal S16x256x16x64 .f32) (ix4 b t h e)
      = P (ix2 ⟨256 * b.val + t.val, by omega⟩ ⟨o + (64 * h.val + e.val), by omega⟩) := by
  generalize hR : P (ix2 ⟨256 * b.val + t.val, by omega⟩ ⟨o + (64 * h.val + e.val), by omega⟩) = R
  pointwise
  rw [← hR]
  exact Cert.Attention.proj_congr P (by dsimp only; omega) (by dsimp only; omega)

/-- The normalisation of the keys by row `o` of the gains. -/
theorem normal_at (x : FVec Ideal S16x256x16x64 .f32) (G : FVec Ideal S2x64 .f32) (o : ℕ) (ho : S2x64.Slices ![o, 0] S1x64) (l : Fin 2)
    (hl : o = l.val) (b : Fin 16) (t : Fin 256) (h : Fin 16) (e : Fin 64) :
    (mulf (mulf x (broadcastInDim S16x256x16x64 ![0, 1, 2, 3] bcast_S16x256x16x1_S16x256x16x64_0_1_2_3
      (Host.rsqrt (addf (Host.divf (broadcastInDim S16x256x16x1 ![0, 1, 2] bcast_S16x256x16_S16x256x16x1_0_1_2
        (Host.reduceAdd (mulf x x) (constant S_ .f32 0x00000000#32) reducesTo_S16x256x16x64_S16x256x16_d3 h_S_))
        (broadcastInDim S16x256x16x1 ![] bcast_S_S16x256x16x1 (constant S_ .f32 0x42800000#32)))
        (broadcastInDim S16x256x16x1 ![] bcast_S_S16x256x16x1 (constant S_ .f32 0x358637BD#32))))))
      (broadcastInDim S16x256x16x64 ![0, 1, 2, 3] bcast_S1x1x1x64_S16x256x16x64_0_1_2_3
        (broadcastInDim S1x1x1x64 ![3] bcast_S64_S1x1x1x64_3
          (shapeCast S64 (extractStridedSlice S1x64 ![o, 0] G ho) shapeCasts_S1x64_S64))) : FVec Ideal S16x256x16x64 .f32)
      (ix4 b t h e) = rms (fun d => x (ix4 b t h d)) (fun d => G (ix2 l d)) e := by
  subst hl
  generalize hR : rms (fun d => x (ix4 b t h d)) (fun d => G (ix2 l d)) e = R
  pointwise
  rw [← hR, div64]
  rfl

/-- The two layers stacked. -/
theorem reference_layers (K L : Fin 16 → Fin 16 → Fin 64 → Fin 256 → EReal) (x y : FVec Ideal S16x256x16x64 .f32)
    (hx : ∀ b t h e, x (ix4 b t h e) = K b h e t) (hy : ∀ b t h e, y (ix4 b t h e) = L b h e t) :
    concatenate S16x2x256x16x64 1
      [⟨S16x1x256x16x64, broadcastInDim S16x1x256x16x64 ![0, 2, 3, 4] bcast_S16x256x16x64_S16x1x256x16x64_0_2_3_4 x⟩,
        ⟨S16x1x256x16x64, broadcastInDim S16x1x256x16x64 ![0, 2, 3, 4] bcast_S16x256x16x64_S16x1x256x16x64_0_2_3_4 y⟩]
      concatenates_S16x1x256x16x64_S16x1x256x16x64_S16x2x256x16x64_d1 = layers K L := by
  funext i
  refine (congrArg _ (ValueIdx.eq_ix5 i)).trans ?_
  have e : layers K L i = if (i 1).val = 0 then x (ix4 (i 0) (i 2) (i 3) (i 4)) else y (ix4 (i 0) (i 2) (i 3) (i 4)) := by
    unfold layers
    split
    · exact (hx _ _ _ _).symm
    · exact (hy _ _ _ _).symm
  rw [e]
  generalize hR : (if (i 1).val = 0 then x (ix4 (i 0) (i 2) (i 3) (i 4)) else y (ix4 (i 0) (i 2) (i 3) (i 4))) = R
  pointwise
  rw [← hR]
  by_cases h : (i 1).val = 0
  · exact (dif_pos (by show (i 1).val < 1; omega)).trans (if_pos h).symm
  · exact (dif_neg (by show ¬(i 1).val < 1; omega)).trans (if_neg h).symm

end

/-- The kernel and its reference end with the same caches. -/
theorem algebraic : Cert.algebraic_KernelKvIdeal_ReferenceKvIdeal := fun m ρ m' ρ' _ h =>
  ⟨fun c => W5 m ρ c (Proc.devRef .tc main_v26), fun c => W5 m ρ c (Proc.devRef .tc main_v27), kernel_run m ρ,
    (θ_run Cert.ReferenceKvIdeal.defs _ _).mono
      (fun _ hr c => ⟨(hr c).1.trans (by
          obtain ⟨h0, h1, h2, h3⟩ := h c
          rw [h0, h1, h3]
          refine Eq.trans ?_ (kernel_keys m ρ c).symm
          refine reference_layers _ _ _ _ (fun b t h e => ?_) fun b t h e => ?_
          · refine (normal_at _ _ 0 _ 0 rfl b t h e).trans ?_
            exact congrArg (fun f => rms f _ e) (funext fun d => cut_at _ 1024 _ (by decide) b t h d)
          · refine (normal_at _ _ 1 _ 1 rfl b t h e).trans ?_
            exact congrArg (fun f => rms f _ e) (funext fun d => cut_at _ 1024 _ (by decide) b t h d)),
        (hr c).2.1.trans (by
          obtain ⟨h0, h1, h2, h3⟩ := h c
          rw [h0, h1]
          refine Eq.trans ?_ (kernel_values m ρ c).symm
          exact reference_layers _ _ _ _ (fun b t h e => cut_at _ 2048 _ (by decide) b t h e) fun b t h e => cut_at _ 2048 _ (by decide) b t h e),
        (hr c).2.2⟩)
      (Cert.ReferenceKvIdeal.Value.run (F := Ideal) m' ρ')⟩

end Cert.Dense.Kv
-- ==== Proof.Dense.Rows.lean ====
module

public import proofs.«01_k».proof.Proof.Gen.ReferenceDownIdeal
public import Idealize.ShloMosaic.Lib.Pointwise

/-!
What the residual calls share: the modulation row of a token, the norm over the channels, and the reference's terms for both.
-/

@[expose] public section

set_option maxRecDepth 65536

noncomputable section

namespace Cert.Dense

open Idealize.ShloMosaic Idealize.ShloMosaic.TcCoe Idealize.SL.Sem
open Cert.ReferenceDownIdeal Cert.ReferenceDownIdeal.Gen

/-- The modulation row of a token: row 0 for the context tokens, a row per sample after them. -/
def tokenRow (a : Fin 8192) : Fin 8 := ⟨if a.val < 4096 then 0 else 1 + (a.val - 4096) / 1024, by split <;> omega⟩

/-- Part `p` of the modulation, spread over the tokens as the reference does it. -/
def spread (M : FVec Ideal S8x6x2048 .f32) (p : ℕ) (h : S8x6x2048.Slices ![0, p, 0] S1x1x2048) (h' : S8x6x2048.Slices ![1, p, 0] S4x1x2048) :
    FVec Ideal S8192x2048 .f32 :=
  concatenate S8192x2048 0 [⟨S4096x2048, (broadcastInDim S4096x2048 ![1] bcast_S2048_S4096x2048_1 (shapeCast _ (extractStridedSlice S1x1x2048 ![0, p, 0] M h) shapeCasts_S1x1x2048_S2048))⟩, ⟨S4096x2048, (shapeCast _ (broadcastInDim S4x1024x2048 ![0, 2] bcast_S4x2048_S4x1024x2048_0_2 (shapeCast _ (extractStridedSlice S4x1x2048 ![1, p, 0] M h') shapeCasts_S4x1x2048_S4x2048)) shapeCasts_S4x1024x2048_S4096x2048)⟩] concatenates_S4096x2048_S4096x2048_S8192x2048_d0

theorem spread_at (M : FVec Ideal S8x6x2048 .f32) (p : ℕ) (h h') (hp : p < 6) (a : Fin 8192) (b : Fin 2048) :
    spread M p h h' (ix2 a b) = M (ix3 (tokenRow a) ⟨p, hp⟩ b) := by
  generalize hR : M (ix3 (tokenRow a) ⟨p, hp⟩ b) = R
  pointwise [spread]
  rw [← hR]
  unfold tokenRow
  by_cases h0 : a.val < 4096
  · simp only [h0, dite_true, if_true]
    rfl
  · simp only [h0, dite_false, if_false]

/-- The reference's norm over the channels of `X`, its gain `g`, with the modulation `1 + S` and `B`. -/
def normTerm (X : FVec Ideal S8192x2048 .f32) (g : FVec Ideal S2048 .f32) (S B : FVec Ideal S8192x2048 .f32) : FVec Ideal S8192x2048 .bf16 :=
  truncf .bf16 (addf (mulf (mulf (mulf X (broadcastInDim S8192x2048 ![0, 1] bcast_S8192x1_S8192x2048_0_1 (Host.rsqrt (addf (Host.divf (broadcastInDim S8192x1 ![0] bcast_S8192_S8192x1_0 (Host.reduceAdd (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g)))
    (addf (broadcastInDim S8192x2048 ![] bcast_S_S8192x2048 (constant S_ .f32 0x3F800000#32)) S)) B) bitsLt_bf16_f32

/-- A channel of a row of the residual stream: the row `x`, plus `g` times the projection of `h` by `w`. -/
def residual {n : ℕ} (x g : Fin 2048 → EReal) (h : Fin n → EReal) (w : Fin n → Fin 2048 → EReal) (j : Fin 2048) : EReal :=
  x j + g j * ∑ k, h k * w k j

/-- A channel of the modulated norm of a row `x`, with gain `g`, scale `s` and shift `b`. -/
def normed (x g s b : Fin 2048 → EReal) (j : Fin 2048) : EReal :=
  x j * Idealize.ShloMosaic.Ideal.rsqrt (Idealize.ShloMosaic.Ideal.div (∑ k, x k * x k) (Idealize.ShloMosaic.Ideal.ofBits .f32 0x45000000#32) + Idealize.ShloMosaic.Ideal.ofBits .f32 0x358637BD#32) * g j * (1 + s j) + b j

theorem normTerm_at (X : FVec Ideal S8192x2048 .f32) (g : FVec Ideal S2048 .f32) (S B : FVec Ideal S8192x2048 .f32) (a : Fin 8192) (b : Fin 2048) :
    normTerm X g S B (ix2 a b) = normed (fun k => X (ix2 a k)) (fun k => g (ix1 k)) (fun k => S (ix2 a k)) (fun k => B (ix2 a k)) b := by
  generalize hR : normed _ _ _ _ b = R
  pointwise [normTerm]
  rw [← hR]
  rfl

end Cert.Dense
-- ==== Proof.Dense.Down.lean ====
module

public import proofs.«01_k».proof.Proof.Gen.KernelDownIdeal.Value
public import proofs.«01_k».proof.Proof.Gen.ReferenceDownIdeal.Run
public import proofs.«01_k».proof.Proof.Dense.Rows
public import Idealize.ShloMosaic.Lib.Pipeline.ValueKit
public import proofs.«01_k».proof.Defs

/-!
`ffn_down_norm` at layer 0: the projection down, the gated residual, and the norm of the next layer.
-/

@[expose] public section

set_option maxRecDepth 65536

noncomputable section

namespace Cert.Dense.Down

open Idealize.ShloMosaic Idealize.ShloMosaic.TcCoe Idealize.SL.Sem
open Idealize.ShloMosaic.Pipeline Idealize.ShloMosaic.StableHlo
open Cert.KernelDownIdeal Cert.KernelDownIdeal.Gen

theorem index_0 : ∀ t : Fin cfg0.N, win0_0.index t = ![t.val, 0] := (by decide +kernel : ∀ t : Fin grid0.N, _)
theorem index_1 : ∀ t : Fin cfg0.N, win0_1.index t = ![0, 0, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![if t.val < 16 then 0 else 1 + (t.val - 16) / 4, 0, 0] := (by decide +kernel : ∀ t : Fin grid0.N, _)
theorem index_4 : ∀ t : Fin cfg0.N, win0_4.index t = ![if t.val < 16 then 0 else 1 + (t.val - 16) / 4, 0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![t.val, 0] := (by decide +kernel : ∀ t : Fin grid0.N, _)
theorem index_7 : ∀ t : Fin cfg0.N, win0_7.index t = ![t.val, 0] := (by decide +kernel : ∀ t : Fin grid0.N, _)

/-- What a point leaves in its block of the stream. -/
theorem stream_at (h : FVec Ideal S256x5632 .bf16) (w : FVec Ideal S1x5632x2048 .bf16) (x : FVec Ideal S256x2048 .f32)
    (u v : FVec Ideal S1x6x2048 .f32) (g : FVec Ideal S1x2048 .f32) (a : Fin 256) (b : Fin 2048) :
    out0_6 (F := Ideal) h w x u v g (ix2 a b)
      = residual (fun k => x (ix2 a k)) (fun k => u (ix3 0 5 k)) (fun k => h (ix2 a k)) (fun k j => w (ix3 0 k j)) b := by
  generalize hR : residual _ _ _ _ b = R
  unfold out0_6
  frame_out
  pointwise [k0_pay2]
  rw [← hR]
  rfl

/-- What a point leaves in its block of the normed stream. -/
theorem norm_at (h : FVec Ideal S256x5632 .bf16) (w : FVec Ideal S1x5632x2048 .bf16) (x : FVec Ideal S256x2048 .f32)
    (u v : FVec Ideal S1x6x2048 .f32) (g : FVec Ideal S1x2048 .f32) (a : Fin 256) (b : Fin 2048) :
    out0_7 (F := Ideal) h w x u v g (ix2 a b)
      = normed (residual (fun k => x (ix2 a k)) (fun k => u (ix3 0 5 k)) (fun k => h (ix2 a k)) (fun k j => w (ix3 0 k j)))
        (fun k => g (ix2 0 k)) (fun k => v (ix3 0 1 k)) (fun k => v (ix3 0 0 k)) b := by
  generalize hR : normed _ _ _ _ b = R
  unfold out0_7
  frame_out
  pointwise [k0_pay1, k0_pay3, k0_pay2]
  rw [← hR]
  rfl

variable (m : (ℓ : Loc nD τ sig) → Buf (Elt Ideal) ℓ) (c : Dev nD)

/-- The residual stream the layer leaves. -/
def stream (H : FVec Ideal S8192x5632 .bf16) (X : FVec Ideal S8192x2048 .f32) (U : FVec Ideal S8x6x2048 .f32) (W : FVec Ideal S2x5632x2048 .f32)
    (a : Fin 8192) : Fin 2048 → EReal :=
  residual (fun k => X (ix2 a k)) (fun k => U (ix3 (tokenRow a) 5 k)) (fun k => H (ix2 a k)) (fun k j => W (ix3 0 k j))

/-- The next layer's normed activations. -/
def next (H : FVec Ideal S8192x5632 .bf16) (X : FVec Ideal S8192x2048 .f32) (U V : FVec Ideal S8x6x2048 .f32) (g : FVec Ideal S2048 .f32) (W : FVec Ideal S2x5632x2048 .f32)
    (a : Fin 8192) : Fin 2048 → EReal :=
  normed (stream H X U W a) (fun k => g (ix1 k)) (fun k => V (ix3 (tokenRow a) 1 k)) (fun k => V (ix3 (tokenRow a) 0 k))

section
variable (t : Fin cfg0.N) (a : Fin 256) (r : Fin 8192) (hr : r.val = 256 * t.val + a.val)
include hr

/-- The modulation row of a point is that of its tokens. -/
theorem row_eq : (if t.val < 16 then 0 else 1 + (t.val - 16) / 4) = (tokenRow r).val := by
  dsimp only [tokenRow]
  split <;> split <;> omega

/-- A row of a point's activations … -/
theorem acts (k : Fin 5632) : iblk m c 0 t (ix2 a k) = m ((c : Thread nD τ).loc main_arg0) (ix2 r k) := by
  blk_simp [iblk]
  congr 1
  blk_ext [index_0 t]

/-- … of its residual rows … -/
theorem rows (k : Fin 2048) : iblk m c 2 t (ix2 a k) = m ((c : Thread nD τ).loc main_arg1) (ix2 r k) := by
  blk_simp [iblk]
  congr 1
  blk_ext [index_2 t]

/-- … its modulation … -/
theorem mods (p : Fin 6) (k : Fin 2048) : iblk m c 3 t (ix3 0 p k) = m ((c : Thread nD τ).loc main_arg2) (ix3 (tokenRow r) p k) := by
  have e := row_eq t a r hr
  blk_simp [iblk]
  congr 1
  blk_ext [index_3 t, e]

/-- … and the next layer's. -/
theorem nextMods (p : Fin 6) (k : Fin 2048) : iblk m c 4 t (ix3 0 p k) = m ((c : Thread nD τ).loc main_arg3) (ix3 (tokenRow r) p k) := by
  have e := row_eq t a r hr
  blk_simp [iblk]
  congr 1
  blk_ext [index_4 t, e]

end

/-- Every point reads the first layer's weights … -/
theorem weights (t : Fin cfg0.N) (k : Fin 5632) (j : Fin 2048) : iblk m c 1 t (ix3 0 k j) = m ((c : Thread nD τ).loc main_arg5) (ix3 0 k j) := by
  have e : @Eq (FVec Ideal S1x5632x2048 .bf16) (V m c main_v1)
      (truncf (F := Ideal) .bf16 (extractStridedSlice (s := S2x5632x2048) (α := Elt Ideal .f32) S1x5632x2048 ![0, 0, 0] (m ((c : Thread nD τ).loc main_arg5)) slices_S2x5632x2048_S1x5632x2048_0_0_0) bitsLt_bf16_f32) := by
    unfold V
    after_results
    all_goals rfl
  have i : (win0_1.blk t).view.emb (ix3 0 k j) = ix3 0 k j := by blk_ext [index_1 t]
  blk_simp [iblk]
  rw [e, i]
  generalize hR : m ((c : Thread nD τ).loc main_arg5) (ix3 0 k j) = R
  pointwise []
  exact hR

/-- … and the next layer's gain. -/
theorem gain (t : Fin cfg0.N) (k : Fin 2048) : iblk m c 5 t (ix2 0 k) = m ((c : Thread nD τ).loc main_arg4) (ix1 k) := by
  have e : @Eq (FVec Ideal S1x2048 .f32) (V m c main_v2) (shapeCast S1x2048 (m ((c : Thread nD τ).loc main_arg4)) shapeCasts_S2048_S1x2048) := by
    unfold V
    after_results
    all_goals rfl
  have i : (win0_5.blk t).view.emb (ix2 0 k) = ix2 0 k := by blk_ext [index_5 t]
  blk_simp [iblk]
  rw [e, i]
  generalize hR : m ((c : Thread nD τ).loc main_arg4) (ix1 k) = R
  pointwise []
  exact hR

/-- The residual stream in the arguments. -/
abbrev streamOf : Fin 8192 → Fin 2048 → EReal :=
  stream (m ((c : Thread nD τ).loc main_arg0)) (m ((c : Thread nD τ).loc main_arg1)) (m ((c : Thread nD τ).loc main_arg2)) (m ((c : Thread nD τ).loc main_arg5))

/-- The next activations in the arguments. -/
abbrev nextOf : Fin 8192 → Fin 2048 → EReal :=
  next (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))

/-- A point's row of the stream. -/
theorem stream_block (t : Fin cfg0.N) (a : Fin 256) (r : Fin 8192) (hr : r.val = 256 * t.val + a.val) :
    residual (fun k => iblk m c 2 t (ix2 a k)) (fun k => iblk m c 3 t (ix3 0 5 k)) (fun k => iblk m c 0 t (ix2 a k)) (fun k j => iblk m c 1 t (ix3 0 k j))
      = streamOf m c r := by
  simp only [rows m c t a r hr, mods m c t a r hr, acts m c t a r hr, weights m c t, streamOf, stream]

/-- The stream after the run. -/
theorem array_6 : (dats m 0 c).arrAt 6 cfg0.N = fun i : S8192x2048.Idx => streamOf m c (i 0) (i 1) := by
  refine (dats m 0 c).arrAt_eq_of_covers 6 _ (by decide +kernel) fun t hf y => ?_
  blk_simp
  rw [after0_6]
  refine (congrArg _ (ValueIdx.eq_ix2 y)).trans ((stream_at _ _ _ _ _ _ _ _).trans ?_)
  have ht : t.val < 32 := t.isLt
  have hy : (y 0).val < 256 := (y 0).isLt
  have he : (win0_6.blk t).view.emb y = ix2 ⟨256 * t.val + (y 0).val, by omega⟩ (y 1) := by
    blk_ext [index_6 t]
  rw [he]
  rw [stream_block m c t (y 0) ⟨256 * t.val + (y 0).val, by omega⟩ rfl]
  rfl

/-- The normed stream after the run. -/
theorem array_7 : (dats m 0 c).arrAt 7 cfg0.N = fun i : S8192x2048.Idx => nextOf m c (i 0) (i 1) := by
  refine (dats m 0 c).arrAt_eq_of_covers 7 _ (by decide +kernel) fun t hf y => ?_
  blk_simp
  rw [after0_7]
  refine (congrArg _ (ValueIdx.eq_ix2 y)).trans ((norm_at _ _ _ _ _ _ _ _).trans ?_)
  have ht : t.val < 32 := t.isLt
  have hy : (y 0).val < 256 := (y 0).isLt
  have he : (win0_7.blk t).view.emb y = ix2 ⟨256 * t.val + (y 0).val, by omega⟩ (y 1) := by
    blk_ext [index_7 t]
  rw [he]
  rw [stream_block m c t (y 0) ⟨256 * t.val + (y 0).val, by omega⟩ rfl]
  simp only [nextMods m c t (y 0) ⟨256 * t.val + (y 0).val, by omega⟩ rfl, gain m c t]
  rfl

/-- The reference's stream. -/
def streamTerm (H : FVec Ideal S8192x5632 .bf16) (X : FVec Ideal S8192x2048 .f32) (U : FVec Ideal S8x6x2048 .f32) (W : FVec Ideal S2x5632x2048 .f32) :
    FVec Ideal S8192x2048 .f32 :=
  addf X (mulf (spread U 5 Cert.ReferenceDownIdeal.Gen.slices_S8x6x2048_S1x1x2048_0_5_0 Cert.ReferenceDownIdeal.Gen.slices_S8x6x2048_S4x1x2048_1_5_0)
    (Host.dotGeneral Cert.ReferenceDownIdeal.dot_S8192x5632_S5632x2048_S8192x2048_1_0_0_1_n_n none
      (extf .f32 H Cert.ReferenceDownIdeal.Gen.bitsLt_bf16_f32)
      (shapeCast _ (extractStridedSlice Cert.ReferenceDownIdeal.S1x5632x2048 ![0, 0, 0] W
        Cert.ReferenceDownIdeal.Gen.slices_S2x5632x2048_S1x5632x2048_0_0_0) Cert.ReferenceDownIdeal.Gen.shapeCasts_S1x5632x2048_S5632x2048)))

theorem streamTerm_at (H : FVec Ideal S8192x5632 .bf16) (X : FVec Ideal S8192x2048 .f32) (U : FVec Ideal S8x6x2048 .f32) (W : FVec Ideal S2x5632x2048 .f32)
    (a : Fin 8192) (b : Fin 2048) : streamTerm H X U W (ix2 a b) = stream H X U W a b := by
  generalize hR : stream H X U W a b = R
  pointwise [streamTerm]
  rw [spread_at _ _ _ _ (by decide), ← hR]
  rfl

/-- The reference's next activations. -/
theorem nextTerm_at (H : FVec Ideal S8192x5632 .bf16) (X : FVec Ideal S8192x2048 .f32) (U V : FVec Ideal S8x6x2048 .f32) (g : FVec Ideal S2048 .f32) (W : FVec Ideal S2x5632x2048 .f32)
    (a : Fin 8192) (b : Fin 2048) :
    normTerm (streamTerm H X U W) g
      (spread V 1 Cert.ReferenceDownIdeal.Gen.slices_S8x6x2048_S1x1x2048_0_1_0 Cert.ReferenceDownIdeal.Gen.slices_S8x6x2048_S4x1x2048_1_1_0)
      (spread V 0 Cert.ReferenceDownIdeal.Gen.slices_S8x6x2048_S1x1x2048_0_0_0 Cert.ReferenceDownIdeal.Gen.slices_S8x6x2048_S4x1x2048_1_0_0) (ix2 a b)
      = next H X U V g W a b := by
  rw [normTerm_at, next]
  simp only [streamTerm_at, spread_at _ _ _ _ (by decide : 1 < 6), spread_at _ _ _ _ (by decide : 0 < 6)]
  rfl

/-- The kernel and its reference end with the same arrays. -/
theorem algebraic : Cert.algebraic_KernelDownIdeal_ReferenceDownIdeal := fun m g m' g' _ h =>
  ⟨fun c => (dats m 0 c).arrAt 6 cfg0.N, fun c => (dats m 0 c).arrAt 7 cfg0.N, Value.run_blocks m g,
    (θ_run Cert.ReferenceDownIdeal.defs _ _).mono
      (fun _ hr c => by
        obtain ⟨h0, h1, h2, h3, h4, h5⟩ := h c
        refine ⟨(hr c).1.trans ?_, (hr c).2.1.trans ?_, (hr c).2.2⟩
        · rw [h0, h1, h2, h5]
          refine Eq.trans ?_ (array_6 m c).symm
          exact funext fun i => (congrArg _ (ValueIdx.eq_ix2 i)).trans (streamTerm_at _ _ _ _ _ _)
        · unfold Cert.ReferenceDownIdeal.Value.res_main_v47
          rw [h0, h1, h2, h3, h4, h5]
          refine Eq.trans ?_ (array_7 m c).symm
          exact funext fun i => (congrArg _ (ValueIdx.eq_ix2 i)).trans (nextTerm_at _ _ _ _ _ _ _ _))
      (Cert.ReferenceDownIdeal.Value.run (F := Ideal) m' g')⟩

end Cert.Dense.Down
-- ==== Proof.Dense.Out.lean ====
module

public import proofs.«01_k».proof.Proof.Gen.KernelOutIdeal.Value
public import proofs.«01_k».proof.Proof.Gen.ReferenceOutIdeal.Run
public import proofs.«01_k».proof.Proof.Dense.Rows
public import Idealize.ShloMosaic.Lib.Pipeline.ValueKit
public import proofs.«01_k».proof.Defs

/-!
`out_projection` at layer 0: the output projection, the gated residual, and the norm of the feed-forward part.
-/

@[expose] public section

set_option maxRecDepth 65536

noncomputable section

namespace Cert.Dense.Out

open Idealize.ShloMosaic Idealize.ShloMosaic.TcCoe Idealize.SL.Sem
open Idealize.ShloMosaic.Pipeline Idealize.ShloMosaic.StableHlo
open Cert.KernelOutIdeal Cert.KernelOutIdeal.Gen

theorem index_0 : ∀ t : Fin cfg0.N, win0_0.index t = ![t.val, 0] := (by decide +kernel : ∀ t : Fin grid0.N, _)
theorem index_1 : ∀ t : Fin cfg0.N, win0_1.index t = ![0, 0, 0] := (by decide +kernel : ∀ t : Fin grid0.N, _)
theorem index_2 : ∀ t : Fin cfg0.N, win0_2.index t = ![if t.val < 8 then 0 else 1 + (t.val - 8) / 2, 0, 0] := (by decide +kernel : ∀ t : Fin grid0.N, _)
theorem index_3 : ∀ t : Fin cfg0.N, win0_3.index t = ![0, 0] := (by decide +kernel : ∀ t : Fin grid0.N, _)
theorem index_4 : ∀ t : Fin cfg0.N, t.val < 8 → win0_4.index t = ![t.val, 0] := (by decide +kernel : ∀ t : Fin grid0.N, _)
theorem index_5 : ∀ t : Fin cfg0.N, ¬ t.val < 8 → win0_5.index t = ![t.val - 8, 0] := (by decide +kernel : ∀ t : Fin grid0.N, _)
theorem index_6 : ∀ t : Fin cfg0.N, win0_6.index t = ![t.val, 0] := (by decide +kernel : ∀ t : Fin grid0.N, _)
theorem index_7 : ∀ t : Fin cfg0.N, win0_7.index t = ![t.val, 0] := (by decide +kernel : ∀ t : Fin grid0.N, _)

theorem coord : ∀ t : Fin cfg0.N, (grid0.coords t 0).val = t.val := (by decide +kernel : ∀ t : Fin grid0.N, _)

/-- The first eight points take the prompt's rows. -/
theorem select_eq {α : Type} (i : grid0.Coords) (x y : α) :
    Scalar.select (Scalar.cmpi .slt (BitVec.ofNat 32 (i 0).val) 8#32) x y = if (i 0).val < 8 then x else y := by
  have e : ∀ t : Fin 16, Scalar.cmpi .slt (BitVec.ofNat 32 t.val) 8#32 = if t.val < 8 then 1#1 else 0#1 := by decide +kernel
  rw [e (i 0)]
  by_cases h : (i 0).val < 8 <;> simp [h, Scalar.select]

/-- What a point leaves in its block of the stream. -/
theorem stream_at (i : grid0.Coords) (h : FVec Ideal S512x2048 .bf16) (w : FVec Ideal S1x2048x2048 .bf16) (u : FVec Ideal S1x6x2048 .f32)
    (g : FVec Ideal S1x2048 .f32) (p s : FVec Ideal S512x2048 .f32) (a : Fin 512) (b : Fin 2048) :
    out0_6 (F := Ideal) i h w u g p s (ix2 a b)
      = residual (fun k => (if (i 0).val < 8 then p else s) (ix2 a k)) (fun k => u (ix3 0 2 k)) (fun k => h (ix2 a k)) (fun k j => w (ix3 0 k j)) b := by
  unfold out0_6
  frame_out
  unfold k0_pay3
  simp only [select_eq]
  generalize (if (i 0).val < 8 then p else s) = x
  generalize hR : residual _ _ _ _ b = R
  pointwise [k0_pay2]
  rw [← hR]
  rfl

/-- What a point leaves in its block of the normed stream. -/
theorem norm_at (i : grid0.Coords) (h : FVec Ideal S512x2048 .bf16) (w : FVec Ideal S1x2048x2048 .bf16) (u : FVec Ideal S1x6x2048 .f32)
    (g : FVec Ideal S1x2048 .f32) (p s : FVec Ideal S512x2048 .f32) (a : Fin 512) (b : Fin 2048) :
    out0_7 (F := Ideal) i h w u g p s (ix2 a b)
      = normed (residual (fun k => (if (i 0).val < 8 then p else s) (ix2 a k)) (fun k => u (ix3 0 2 k)) (fun k => h (ix2 a k)) (fun k j => w (ix3 0 k j)))
        (fun k => g (ix2 0 k)) (fun k => u (ix3 0 4 k)) (fun k => u (ix3 0 3 k)) b := by
  unfold out0_7
  frame_out
  unfold k0_pay4 k0_pay3
  simp only [select_eq]
  generalize (if (i 0).val < 8 then p else s) = x
  generalize hR : normed _ _ _ _ b = R
  pointwise [k0_pay1, k0_pay2, k0_pay5]
  rw [← hR]
  rfl

variable (m : (ℓ : Loc nD τ sig) → Buf (Elt Ideal) ℓ) (c : Dev nD)

/-- A token's row before the layer: the prompt's rows, then the samples'. -/
def before (P S : FVec Ideal S4096x2048 .f32) (a : Fin 8192) (k : Fin 2048) : EReal :=
  if h : a.val < 4096 then P (ix2 ⟨a.val, h⟩ k) else S (ix2 ⟨a.val - 4096, by omega⟩ k)

/-- The residual stream the call leaves. -/
def stream (H : FVec Ideal S8192x2048 .bf16) (P S : FVec Ideal S4096x2048 .f32) (U : FVec Ideal S8x6x2048 .f32) (W : FVec Ideal S2x2048x2048 .f32)
    (a : Fin 8192) : Fin 2048 → EReal :=
  residual (before P S a) (fun k => U (ix3 (tokenRow a) 2 k)) (fun k => H (ix2 a k)) (fun k j => W (ix3 0 k j))

/-- The feed-forward part's normed activations. -/
def next (H : FVec Ideal S8192x2048 .bf16) (P S : FVec Ideal S4096x2048 .f32) (U : FVec Ideal S8x6x2048 .f32) (g : FVec Ideal S2048 .f32) (W : FVec Ideal S2x2048x2048 .f32)
    (a : Fin 8192) : Fin 2048 → EReal :=
  normed (stream H P S U W a) (fun k => g (ix1 k)) (fun k => U (ix3 (tokenRow a) 4 k)) (fun k => U (ix3 (tokenRow a) 3 k))

section
variable (t : Fin cfg0.N) (a : Fin 512) (r : Fin 8192) (hr : r.val = 512 * t.val + a.val)
include hr

/-- A row of a point's activations … -/
theorem acts (k : Fin 2048) : iblk m c 0 t (ix2 a k) = m ((c : Thread nD τ).loc main_arg0) (ix2 r k) := by
  blk_simp [iblk]
  congr 1
  blk_ext [index_0 t]

/-- … of its rows of the stream … -/
theorem rows (k : Fin 2048) : (if (grid0.coords t 0).val < 8 then iblk m c 4 t else iblk m c 5 t : FVec Ideal S512x2048 .f32) (ix2 a k)
    = before (m ((c : Thread nD τ).loc main_arg1)) (m ((c : Thread nD τ).loc main_arg2)) r k := by
  rw [coord]
  unfold before
  by_cases h : t.val < 8
  · rw [if_pos h, dif_pos (by omega)]
    blk_simp [iblk]
    congr 1
    blk_ext [index_4 t h]
  · rw [if_neg h, dif_neg (by omega)]
    blk_simp [iblk]
    congr 1
    blk_ext [index_5 t h]

/-- … and of its modulation. -/
theorem mods (p : Fin 6) (k : Fin 2048) : iblk m c 2 t (ix3 0 p k) = m ((c : Thread nD τ).loc main_arg3) (ix3 (tokenRow r) p k) := by
  have e : (if t.val < 8 then 0 else 1 + (t.val - 8) / 2) = (tokenRow r).val := by
    dsimp only [tokenRow]
    split <;> split <;> omega
  blk_simp [iblk]
  congr 1
  blk_ext [index_2 t, e]

end

/-- Every point reads the first layer's weights … -/
theorem weights (t : Fin cfg0.N) (k : Fin 2048) (j : Fin 2048) : iblk m c 1 t (ix3 0 k j) = m ((c : Thread nD τ).loc main_arg5) (ix3 0 k j) := by
  have e : @Eq (FVec Ideal S2x2048x2048 .bf16) (V m c main_v0) (truncf (F := Ideal) .bf16 (m ((c : Thread nD τ).loc main_arg5)) bitsLt_bf16_f32) := by
    unfold V
    after_results
    all_goals rfl
  have i : (win0_1.blk t).view.emb (ix3 0 k j) = ix3 0 k j := by blk_ext [index_1 t]
  blk_simp [iblk]
  rw [e, i]
  rfl

/-- … and the norm's gain. -/
theorem gain (t : Fin cfg0.N) (k : Fin 2048) : iblk m c 3 t (ix2 0 k) = m ((c : Thread nD τ).loc main_arg4) (ix1 k) := by
  have e : @Eq (FVec Ideal S1x2048 .f32) (V m c main_v1) (shapeCast S1x2048 (m ((c : Thread nD τ).loc main_arg4)) shapeCasts_S2048_S1x2048) := by
    unfold V
    after_results
    all_goals rfl
  have i : (win0_3.blk t).view.emb (ix2 0 k) = ix2 0 k := by blk_ext [index_3 t]
  blk_simp [iblk]
  rw [e, i]
  generalize hR : m ((c : Thread nD τ).loc main_arg4) (ix1 k) = R
  pointwise []
  exact hR

/-- The residual stream in the arguments. -/
abbrev streamOf : Fin 8192 → Fin 2048 → EReal :=
  stream (m ((c : Thread nD τ).loc main_arg0)) (m ((c : Thread nD τ).loc main_arg1)) (m ((c : Thread nD τ).loc main_arg2)) (m ((c : Thread nD τ).loc main_arg3))
    (m ((c : Thread nD τ).loc main_arg5))

/-- The normed activations in the arguments. -/
abbrev nextOf : Fin 8192 → Fin 2048 → EReal :=
  next (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))

/-- A point's row of the stream. -/
theorem stream_block (t : Fin cfg0.N) (a : Fin 512) (r : Fin 8192) (hr : r.val = 512 * t.val + a.val) :
    residual (fun k => (if (grid0.coords t 0).val < 8 then iblk m c 4 t else iblk m c 5 t : FVec Ideal S512x2048 .f32) (ix2 a k)) (fun k => iblk m c 2 t (ix3 0 2 k))
        (fun k => iblk m c 0 t (ix2 a k)) (fun k j => iblk m c 1 t (ix3 0 k j))
      = streamOf m c r := by
  simp only [rows m c t a r hr, mods m c t a r hr, acts m c t a r hr, weights m c t, streamOf, stream]

/-- The stream after the run. -/
theorem array_6 : (dats m 0 c).arrAt 6 cfg0.N = fun i : S8192x2048.Idx => streamOf m c (i 0) (i 1) := by
  refine (dats m 0 c).arrAt_eq_of_covers 6 _ (by decide +kernel) fun t hf y => ?_
  blk_simp
  rw [after0_6]
  refine (congrArg _ (ValueIdx.eq_ix2 y)).trans ((stream_at _ _ _ _ _ _ _ _ _).trans ?_)
  have ht : t.val < 16 := t.isLt
  have hy : (y 0).val < 512 := (y 0).isLt
  have he : (win0_6.blk t).view.emb y = ix2 ⟨512 * t.val + (y 0).val, by omega⟩ (y 1) := by
    blk_ext [index_6 t]
  rw [he]
  rw [stream_block m c t (y 0) ⟨512 * t.val + (y 0).val, by omega⟩ rfl]
  rfl

/-- The normed stream after the run. -/
theorem array_7 : (dats m 0 c).arrAt 7 cfg0.N = fun i : S8192x2048.Idx => nextOf m c (i 0) (i 1) := by
  refine (dats m 0 c).arrAt_eq_of_covers 7 _ (by decide +kernel) fun t hf y => ?_
  blk_simp
  rw [after0_7]
  refine (congrArg _ (ValueIdx.eq_ix2 y)).trans ((norm_at _ _ _ _ _ _ _ _ _).trans ?_)
  have ht : t.val < 16 := t.isLt
  have hy : (y 0).val < 512 := (y 0).isLt
  have he : (win0_7.blk t).view.emb y = ix2 ⟨512 * t.val + (y 0).val, by omega⟩ (y 1) := by
    blk_ext [index_7 t]
  rw [he]
  rw [stream_block m c t (y 0) ⟨512 * t.val + (y 0).val, by omega⟩ rfl]
  simp only [mods m c t (y 0) ⟨512 * t.val + (y 0).val, by omega⟩ rfl, gain m c t]
  rfl

/-- The reference's stream. -/
def streamTerm (H : FVec Ideal S8192x2048 .bf16) (P S : FVec Ideal S4096x2048 .f32) (U : FVec Ideal S8x6x2048 .f32) (W : FVec Ideal S2x2048x2048 .f32) :
    FVec Ideal S8192x2048 .f32 :=
  addf (concatenate S8192x2048 0 [⟨S4096x2048, P⟩, ⟨S4096x2048, S⟩] Cert.ReferenceOutIdeal.Gen.concatenates_S4096x2048_S4096x2048_S8192x2048_d0)
    (mulf (spread U 2 Cert.ReferenceOutIdeal.Gen.slices_S8x6x2048_S1x1x2048_0_2_0 Cert.ReferenceOutIdeal.Gen.slices_S8x6x2048_S4x1x2048_1_2_0)
      (Host.dotGeneral Cert.ReferenceOutIdeal.dot_S8192x2048_S2048x2048_S8192x2048_1_0_0_1_n_n none
        (extf .f32 H Cert.ReferenceOutIdeal.Gen.bitsLt_bf16_f32)
        (shapeCast _ (extractStridedSlice Cert.ReferenceOutIdeal.S1x2048x2048 ![0, 0, 0] W
          Cert.ReferenceOutIdeal.Gen.slices_S2x2048x2048_S1x2048x2048_0_0_0) Cert.ReferenceOutIdeal.Gen.shapeCasts_S1x2048x2048_S2048x2048)))

theorem streamTerm_at (H : FVec Ideal S8192x2048 .bf16) (P S : FVec Ideal S4096x2048 .f32) (U : FVec Ideal S8x6x2048 .f32) (W : FVec Ideal S2x2048x2048 .f32)
    (a : Fin 8192) (b : Fin 2048) : streamTerm H P S U W (ix2 a b) = stream H P S U W a b := by
  generalize hR : stream H P S U W a b = R
  pointwise [streamTerm]
  rw [spread_at _ _ _ _ (by decide), ← hR]
  rfl

/-- The reference's normed activations. -/
theorem nextTerm_at (H : FVec Ideal S8192x2048 .bf16) (P S : FVec Ideal S4096x2048 .f32) (U : FVec Ideal S8x6x2048 .f32) (g : FVec Ideal S2048 .f32) (W : FVec Ideal S2x2048x2048 .f32)
    (a : Fin 8192) (b : Fin 2048) :
    normTerm (streamTerm H P S U W) g
      (spread U 4 Cert.ReferenceOutIdeal.Gen.slices_S8x6x2048_S1x1x2048_0_4_0 Cert.ReferenceOutIdeal.Gen.slices_S8x6x2048_S4x1x2048_1_4_0)
      (spread U 3 Cert.ReferenceOutIdeal.Gen.slices_S8x6x2048_S1x1x2048_0_3_0 Cert.ReferenceOutIdeal.Gen.slices_S8x6x2048_S4x1x2048_1_3_0) (ix2 a b)
      = next H P S U g W a b := by
  rw [normTerm_at, next]
  simp only [streamTerm_at, spread_at _ _ _ _ (by decide : 4 < 6), spread_at _ _ _ _ (by decide : 3 < 6)]
  rfl

/-- The kernel and its reference end with the same arrays. -/
theorem algebraic : Cert.algebraic_KernelOutIdeal_ReferenceOutIdeal := fun m g m' g' _ h =>
  ⟨fun c => (dats m 0 c).arrAt 6 cfg0.N, fun c => (dats m 0 c).arrAt 7 cfg0.N, Value.run_blocks m g,
    (θ_run Cert.ReferenceOutIdeal.defs _ _).mono
      (fun _ hr c => by
        obtain ⟨h0, h1, h2, h3, h4, h5⟩ := h c
        refine ⟨(hr c).1.trans ?_, (hr c).2.1.trans ?_, (hr c).2.2⟩
        · rw [h0, h1, h2, h3, h5]
          refine Eq.trans ?_ (array_6 m c).symm
          exact funext fun i => (congrArg _ (ValueIdx.eq_ix2 i)).trans (streamTerm_at _ _ _ _ _ _ _)
        · unfold Cert.ReferenceOutIdeal.Value.res_main_v48
          rw [h0, h1, h2, h3, h4, h5]
          refine Eq.trans ?_ (array_7 m c).symm
          exact funext fun i => (congrArg _ (ValueIdx.eq_ix2 i)).trans (nextTerm_at _ _ _ _ _ _ _ _))
      (Cert.ReferenceOutIdeal.Value.run (F := Ideal) m' g')⟩

end Cert.Dense.Out
-- ==== Proof.Dense.In.lean ====
module

public import proofs.«01_k».proof.Proof.Gen.KernelInIdeal.Value
public import proofs.«01_k».proof.Proof.Gen.ReferenceInIdeal.Run
public import Idealize.ShloMosaic.Lib.Pipeline.ValueKit
public import Idealize.ShloMosaic.Lib.Pointwise
public import proofs.«01_k».proof.Defs

/-!
The input projection: the scratch carries a column block of the weights through the row blocks, every block of the result is a product,
and the array is the product of the whole activations and the first layer's weights.
-/

@[expose] public section

set_option maxRecDepth 65536

noncomputable section

namespace Cert.Dense.In

open Idealize.ShloMosaic Idealize.ShloMosaic.TcCoe Idealize.SL.Sem
open Idealize.ShloMosaic.Pipeline
open Cert.KernelInIdeal Cert.KernelInIdeal.Gen

theorem index_0 : ∀ t : Fin cfg0.N, win0_0.index t = ![t.val % 8, 0] := (by decide +kernel : ∀ t : Fin grid0.N, _)
theorem index_1 : ∀ t : Fin cfg0.N, win0_1.index t = ![0, 0, t.val / 8] := (by decide +kernel : ∀ t : Fin grid0.N, _)
theorem index_2 : ∀ t : Fin cfg0.N, win0_2.index t = ![t.val % 8, t.val / 8] := (by decide +kernel : ∀ t : Fin grid0.N, _)

section
variable {F : FTy → Type} [FloatOps F] (m : (ℓ : Loc nD τ sig) → Buf (Elt F) ℓ) (c : Dev nD)

/-- Points of one column block read the same block of the weights. -/
theorem weights_eq (t u : Fin cfg0.N) (h : t.val / 8 = u.val / 8) : iblk m c 1 t = iblk m c 1 u := by
  funext y
  blk_simp [iblk]
  congr 1
  blk_ext [index_1 t, index_1 u, h]

/-- After every point the scratch holds the column block of the weights. -/
theorem scratch (n : ℕ) (hn : n < cfg0.N) : (outsAt0 m c n hn).2 = k0_pay1 (iblk m c 1 ⟨n, hn⟩) := by
  induction n with
  | zero =>
    rw [outsAt0_A m c ⟨0, hn⟩ rfl]
    frame_out
  | succ n ih =>
    by_cases h : (n + 1) % 8 = 0
    · rw [outsAt0_A m c ⟨n + 1, hn⟩ h]
      frame_out
    · rw [outsAt0_B m c ⟨n + 1, hn⟩ h]
      frame_out
      refine (ih (Nat.lt_of_succ_lt hn)).trans ?_
      rw [weights_eq m c ⟨n, Nat.lt_of_succ_lt hn⟩ ⟨n + 1, hn⟩ (by dsimp only; omega)]

/-- Every point leaves the product of its rows and the column block. -/
theorem block (t : Fin cfg0.N) : (outsAt0 m c t.val t.isLt).1 = k0_pay2 (iblk m c 0 t) (k0_pay1 (iblk m c 1 t)) := by
  by_cases h : t.val % 8 = 0
  · rw [outsAt0_A m c t h]
    frame_out
  · rw [outsAt0_B m c t h]
    frame_out
    rw [scratch m c, weights_eq m c ⟨t.val - 1, _⟩ t (by dsimp only; omega)]
    exact congrArg _ (Memref.IsWhole.read_unread _ _)

end

/-- The projection of the activations `H` by the first layer of the weights `W`. -/
def proj (H : FVec Ideal S8192x2048 .bf16) (W : FVec Ideal S2x2048x4096 .f32) : FVec Ideal S8192x4096 .f32 :=
  fun i => ∑ k : Fin 2048, H (ix2 (i 0) k) * W (ix3 0 k (i 1))

variable (m : (ℓ : Loc nD τ sig) → Buf (Elt Ideal) ℓ) (c : Dev nD)

/-- A block's product at an entry. -/
theorem product_at (x : FVec Ideal S1024x2048 .bf16) (w : FVec Ideal S1x2048x1024 .f32) (a : Fin 1024) (b : Fin 1024) :
    k0_pay2 (F := Ideal) x (k0_pay1 (F := Ideal) w) (ix2 a b) = ∑ k : Fin 2048, x (ix2 a k) * w (ix3 0 k b) := by
  generalize hR : (∑ k : Fin 2048, x (ix2 a k) * w (ix3 0 k b)) = R
  pointwise [k0_pay2, k0_pay1]
  rw [← hR]

/-- The result array after the run. -/
theorem array : (dats m 0 c).arrAt 2 cfg0.N = proj (m ((c : Thread nD τ).loc main_arg0)) (m ((c : Thread nD τ).loc main_arg1)) := by
  refine (dats m 0 c).arrAt_eq_of_covers 2 _ (by decide +kernel) fun t hf y => ?_
  blk_simp
  rw [after0_2, block]
  refine (congrArg _ (ValueIdx.eq_ix2 y)).trans ((product_at _ _ _ _).trans ?_)
  unfold proj
  refine Finset.sum_congr rfl fun k _ => ?_
  congr 1
  · blk_simp [iblk]
    congr 1
    blk_ext [index_0 t, index_2 t]
  · blk_simp [iblk]
    congr 1
    blk_ext [index_1 t, index_2 t]

/-- The reference's product at an entry. -/
theorem reference (H : FVec Ideal S8192x2048 .bf16) (W : FVec Ideal S2x2048x4096 .f32) :
    Host.dotGeneral Cert.ReferenceInIdeal.dot_S8192x2048_S2048x4096_S8192x4096_1_0_0_1_n_n none
      (extf .f32 H Cert.ReferenceInIdeal.Gen.bitsLt_bf16_f32)
      (shapeCast _ (extractStridedSlice Cert.ReferenceInIdeal.S1x2048x4096 ![0, 0, 0] W
        Cert.ReferenceInIdeal.Gen.slices_S2x2048x4096_S1x2048x4096_0_0_0)
        Cert.ReferenceInIdeal.Gen.shapeCasts_S1x2048x4096_S2048x4096) = proj H W := by
  funext i
  generalize hR : proj H W i = R
  pointwise []
  rw [← hR]
  rfl

/-- The kernel and its reference end with the same array. -/
theorem algebraic : Cert.algebraic_KernelInIdeal_ReferenceInIdeal := fun m g m' g' _ h =>
  ⟨fun c => (dats m 0 c).arrAt 2 cfg0.N, Value.run_blocks m g,
    (θ_run Cert.ReferenceInIdeal.defs _ _).mono
      (fun _ hr c => ⟨(hr c).1.trans (by
        rw [(h c).1, (h c).2]
        refine Eq.trans ?_ (array m c).symm
        exact reference _ _), (hr c).2⟩)
      (Cert.ReferenceInIdeal.Value.run (F := Ideal) m' g')⟩

end Cert.Dense.In
-- ==== Proof.Dense.MixRun.lean ====
module

public import proofs.«01_k».proof.Proof.Gen.KernelMixIdeal.Frame

/-!
The gated mix's run, with what its result array holds at the end.
-/

@[expose] public section

set_option maxRecDepth 65536

noncomputable section

namespace Cert.Dense.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelMixIdeal Cert.KernelMixIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the gated mix ends with its result array at the last boundary's contents and its arguments as they were. -/
theorem kernel_run : θ_run defs (onTc (τ := τ) (main (F := F))) ⟨m, fun _ => 0, ρ⟩ (fun r => ∀ c : Dev nD,
    r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c => ⟨h c _ (mem_uc main_v3 (by decide)), (h c _ (mem_uc main_arg0 (by decide))).trans (W4_main_arg0 m ρ c),
      (h c _ (mem_uc main_arg1 (by decide))).trans (W4_main_arg1 m ρ c), (h c _ (mem_uc main_arg2 (by decide))).trans (W4_main_arg2 m ρ c),
      (h c _ (mem_uc main_arg3 (by decide))).trans (W4_main_arg3 m ρ c), (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c), (h c _ (mem_uc main_arg7 (by decide))).trans (W4_main_arg7 m ρ c)⟩)

end Cert.Dense.Mix
-- ==== Proof.Dense.Mix.lean ====
module

public import proofs.«01_k».proof.Proof.Dense.MixRun
public import proofs.«01_k».proof.Proof.Gen.ReferenceMixIdeal.Run
public import Idealize.ShloMosaic.Lib.Pipeline.ValueKit
public import Idealize.ShloMosaic.Lib.Pointwise
public import proofs.«01_k».proof.Defs

/-!
The gated mix: three calls cut the weights into column blocks, the fourth multiplies a row block by them, and the array is the gated sum
of the two streams' projections by the first layer's weights.
-/

@[expose] public section

set_option maxRecDepth 65536

noncomputable section

namespace Cert.Dense.Mix

open Idealize.ShloMosaic Idealize.ShloMosaic.TcCoe Idealize.SL.Sem
open Idealize.ShloMosaic.Pipeline
open Cert.KernelMixIdeal Cert.KernelMixIdeal.Gen

/-! ## The column blocks -/

/-- A layer's weights `W` with their columns cut into `n` blocks of 512. -/
def blocks {r n q : ℕ} (hq : 512 * n = q) (W : (⟨3, ![2, r, q]⟩ : Shape).Idx → EReal) : (⟨4, ![2, n, r, 512]⟩ : Shape).Idx → EReal :=
  fun i => W (ix3 (i 0) (i 2) ⟨512 * (i 1).val + (i 3).val, by
    have h1 : (i 1).val < n := (i 1).isLt
    have h3 : (i 3).val < 512 := (i 3).isLt
    omega⟩)

section
variable (V : (c : Dev nD) → (b : Ref sig .tc) → Buf (Elt Ideal) ((c : Thread nD τ).loc b)) (c : Dev nD)

theorem index0_0 : ∀ t : Fin cfg0.N, win0_0.index t = ![t.val / 8, 0, t.val % 8] := (by decide +kernel : ∀ t : Fin grid0.N, _)
theorem index0_1 : ∀ t : Fin cfg0.N, win0_1.index t = ![t.val / 8, t.val % 8, 0, 0] := (by decide +kernel : ∀ t : Fin grid0.N, _)
theorem index1_0 : ∀ t : Fin cfg1.N, win1_0.index t = ![t.val / 4, 0, t.val % 4] := (by decide +kernel : ∀ t : Fin grid1.N, _)
theorem index1_1 : ∀ t : Fin cfg1.N, win1_1.index t = ![t.val / 4, t.val % 4, 0, 0] := (by decide +kernel : ∀ t : Fin grid1.N, _)
theorem index2_0 : ∀ t : Fin cfg2.N, win2_0.index t = ![t.val / 4, 0, t.val % 4] := (by decide +kernel : ∀ t : Fin grid2.N, _)
theorem index2_1 : ∀ t : Fin cfg2.N, win2_1.index t = ![t.val / 4, t.val % 4, 0, 0] := (by decide +kernel : ∀ t : Fin grid2.N, _)

/-- A block of the gates' weights keeps its entries. -/
theorem wide_at (x : FVec Ideal S1x2048x512 .f32) (y : S1x1x2048x512.Idx) : k0_pay1 (F := Ideal) x y = x (ix3 0 (y 2) (y 3)) := by
  generalize hR : x (ix3 0 (y 2) (y 3)) = R
  pointwise [k0_pay1]
  rw [← hR]

/-- A block of a projection's weights keeps its entries. -/
theorem narrow_at (x : FVec Ideal S1x1024x512 .f32) (y : S1x1x1024x512.Idx) : k1_pay1 (F := Ideal) x y = x (ix3 0 (y 2) (y 3)) := by
  generalize hR : x (ix3 0 (y 2) (y 3)) = R
  pointwise [k1_pay1]
  rw [← hR]

/-- The gates' weights after the first call. -/
theorem columns_0 : (dat0 V c).arrAt 1 cfg0.N = blocks (r := 2048) (n := 8) (q := 4096) rfl (V c main_arg5) := by
  refine (dat0 V c).arrAt_eq_of_covers 1 _ (by decide +kernel) fun t hf y => ?_
  blk_simp
  rw [after0_1]
  unfold out0_1
  frame_out
  refine (wide_at _ _).trans ?_
  unfold blocks
  blk_simp [iblk0]
  congr 1
  blk_ext [index0_0 t, index0_1 t]

/-- The attention projection's weights after the second. -/
theorem columns_1 : (dat1 V c).arrAt 1 cfg1.N = blocks (r := 1024) (n := 4) (q := 2048) rfl (V c main_arg6) := by
  refine (dat1 V c).arrAt_eq_of_covers 1 _ (by decide +kernel) fun t hf y => ?_
  blk_simp
  rw [after1_1]
  unfold out1_1
  frame_out
  refine (narrow_at _ _).trans ?_
  unfold blocks
  blk_simp [iblk1]
  congr 1
  blk_ext [index1_0 t, index1_1 t]

/-- The Fourier projection's weights after the third. -/
theorem columns_2 : (dat2 V c).arrAt 1 cfg2.N = blocks (r := 1024) (n := 4) (q := 2048) rfl (V c main_arg7) := by
  refine (dat2 V c).arrAt_eq_of_covers 1 _ (by decide +kernel) fun t hf y => ?_
  blk_simp
  rw [after2_1]
  unfold out2_1
  frame_out
  refine (narrow_at _ _).trans ?_
  unfold blocks
  blk_simp [iblk2]
  congr 1
  blk_ext [index2_0 t, index2_1 t]

end

/-! ## A point of the mix -/

/-- The sigmoid. -/
def gate (g : EReal) : EReal := Idealize.ShloMosaic.Ideal.div 1 (1 + Idealize.ShloMosaic.Ideal.exp (-g))

/-- A row's dot product with a column. -/
def dot {n : ℕ} (x w : Fin n → EReal) : EReal := ∑ k, x k * w k

/-- The first four row blocks take the prompt's rows. -/
theorem select_eq {α : Type} (i : grid3.Coords) (x y : α) :
    Scalar.select (Scalar.cmpi .slt (BitVec.ofNat 32 (i 0).val) 4#32) x y = if (i 0).val < 4 then x else y := by
  have e : ∀ t : Fin 8, Scalar.cmpi .slt (BitVec.ofNat 32 t.val) 4#32 = if t.val < 4 then 1#1 else 0#1 := by decide +kernel
  rw [e (i 0)]
  by_cases h : (i 0).val < 4 <;> simp [h, Scalar.select]

/-- What a point leaves in its block of the result. -/
theorem mixed_at (i : grid3.Coords) (h : FVec Ideal S1024x2048 .bf16) (p s q r : FVec Ideal S1024x1024 .bf16)
    (u v : FVec Ideal S1x1x2048x512 .bf16) (a b : FVec Ideal S1x1x1024x512 .bf16) (y : Fin 1024) (z : Fin 512) :
    out3_9 (F := Ideal) i h p s q r u v a b (ix2 y z)
      = gate (dot (fun k => h (ix2 y k)) fun k => u (ix4 0 0 k z))
          * (dot (fun k => (if (i 0).val < 4 then p else s) (ix2 y k)) fun k => a (ix4 0 0 k z))
        + gate (dot (fun k => h (ix2 y k)) fun k => v (ix4 0 0 k z))
          * (dot (fun k => (if (i 0).val < 4 then q else r) (ix2 y k)) fun k => b (ix4 0 0 k z)) := by
  unfold out3_9
  frame_out
  unfold k3_pay2 k3_pay3
  simp only [select_eq]
  generalize (if (i 0).val < 4 then p else s) = x
  generalize (if (i 0).val < 4 then q else r) = x'
  generalize hR : (gate _ * _ + gate _ * _) = R
  pointwise [k3_pay1, k3_pay4, k3_pay5]
  rw [zero_sub, zero_sub, ← hR]
  rfl

/-! ## The array -/

/-- Row `i` of the two streams, the prompt's rows first. -/
def rows (p s : FVec Ideal S4096x1024 .bf16) (i : Fin 8192) (k : Fin 1024) : EReal :=
  if h : i.val < 4096 then p (ix2 ⟨i.val, h⟩ k) else s (ix2 ⟨i.val - 4096, by omega⟩ k)

/-- The gated sum of the projections of `(P, S)` by `A` and of `(Q, R)` by `B`, the gates from `H` by the two halves of `G`. -/
def mix (H : FVec Ideal S8192x2048 .bf16) (P S Q R : FVec Ideal S4096x1024 .bf16) (G : FVec Ideal S2x2048x4096 .f32)
    (A B : FVec Ideal S2x1024x2048 .f32) (i : Fin 8192) (j : Fin 2048) : EReal :=
  gate (dot (fun k => H (ix2 i k)) fun k => G (ix3 0 k ⟨j.val, by omega⟩)) * dot (rows P S i) (fun k => A (ix3 0 k j))
    + gate (dot (fun k => H (ix2 i k)) fun k => G (ix3 0 k ⟨2048 + j.val, by omega⟩)) * dot (rows Q R i) (fun k => B (ix3 0 k j))

theorem index3_0 : ∀ t : Fin cfg3.N, win3_0.index t = ![t.val / 4, 0] := (by decide +kernel : ∀ t : Fin grid3.N, _)
theorem index3_1 : ∀ t : Fin cfg3.N, win3_1.index t = ![min (t.val / 4) 3, 0] := (by decide +kernel : ∀ t : Fin grid3.N, _)
theorem index3_2 : ∀ t : Fin cfg3.N, win3_2.index t = ![t.val / 4 - 4, 0] := (by decide +kernel : ∀ t : Fin grid3.N, _)
theorem index3_3 : ∀ t : Fin cfg3.N, win3_3.index t = ![min (t.val / 4) 3, 0] := (by decide +kernel : ∀ t : Fin grid3.N, _)
theorem index3_4 : ∀ t : Fin cfg3.N, win3_4.index t = ![t.val / 4 - 4, 0] := (by decide +kernel : ∀ t : Fin grid3.N, _)
theorem index3_5 : ∀ t : Fin cfg3.N, win3_5.index t = ![0, t.val % 4, 0, 0] := (by decide +kernel : ∀ t : Fin grid3.N, _)
theorem index3_6 : ∀ t : Fin cfg3.N, win3_6.index t = ![0, 4 + t.val % 4, 0, 0] := (by decide +kernel : ∀ t : Fin grid3.N, _)
theorem index3_7 : ∀ t : Fin cfg3.N, win3_7.index t = ![0, t.val % 4, 0, 0] := (by decide +kernel : ∀ t : Fin grid3.N, _)
theorem index3_8 : ∀ t : Fin cfg3.N, win3_8.index t = ![0, t.val % 4, 0, 0] := (by decide +kernel : ∀ t : Fin grid3.N, _)
theorem index3_9 : ∀ t : Fin cfg3.N, win3_9.index t = ![t.val / 4, t.val % 4] := (by decide +kernel : ∀ t : Fin grid3.N, _)

theorem coord : ∀ t : Fin cfg3.N, (grid3.coords t 0).val = t.val / 4 := (by decide +kernel : ∀ t : Fin grid3.N, _)

/-- A row block, from the prompt's rows `p` in the first four and from the latents' rows `s` after, is a block of the two streams' rows. -/
theorem rows_of (p s : FVec Ideal S4096x1024 .bf16) (x x' : FVec Ideal S1024x1024 .bf16) (n : ℕ) (hn : n < 8) (y k : Fin 1024)
    (hx : ∀ h : n < 4, x (ix2 y k) = p (ix2 ⟨1024 * n + y.val, by omega⟩ k))
    (hx' : ∀ h : ¬n < 4, x' (ix2 y k) = s (ix2 ⟨1024 * (n - 4) + y.val, by omega⟩ k)) :
    (if n < 4 then x else x') (ix2 y k) = rows p s ⟨1024 * n + y.val, by omega⟩ k := by
  unfold rows
  by_cases h : n < 4
  · rw [if_pos h, dif_pos (by dsimp only; omega), hx h]
  · rw [if_neg h, dif_neg (by dsimp only; omega), hx' h]
    congr 3
    show 1024 * (n - 4) + y.val = 1024 * n + y.val - 4096
    omega

section
variable (V : (c : Dev nD) → (b : Ref sig .tc) → Buf (Elt Ideal) ((c : Thread nD τ).loc b)) (c : Dev nD)

theorem attention_rows (t : Fin cfg3.N) (ht : t.val / 4 < 8) (y k : Fin 1024) :
    (if (grid3.coords t 0).val < 4 then iblk3 V c 1 t else iblk3 V c 2 t) (ix2 y k)
      = rows (V c main_arg1) (V c main_arg2) ⟨1024 * (t.val / 4) + y.val, by omega⟩ k := by
  rw [coord]
  refine rows_of _ _ _ _ _ ht y k (fun h => ?_) fun h => ?_
  · blk_simp [iblk3]
    congr 1
    blk_ext [index3_1 t]
  · blk_simp [iblk3]
    congr 1
    blk_ext [index3_2 t]

theorem fourier_rows (t : Fin cfg3.N) (ht : t.val / 4 < 8) (y k : Fin 1024) :
    (if (grid3.coords t 0).val < 4 then iblk3 V c 3 t else iblk3 V c 4 t) (ix2 y k)
      = rows (V c main_arg3) (V c main_arg4) ⟨1024 * (t.val / 4) + y.val, by omega⟩ k := by
  rw [coord]
  refine rows_of _ _ _ _ _ ht y k (fun h => ?_) fun h => ?_
  · blk_simp [iblk3]
    congr 1
    blk_ext [index3_3 t]
  · blk_simp [iblk3]
    congr 1
    blk_ext [index3_4 t]

/-- The fourth call's array, from column blocks of the weights. -/
theorem mixed (G : FVec Ideal S2x2048x4096 .f32) (A B : FVec Ideal S2x1024x2048 .f32)
    (hG : V c main_v0 = blocks (r := 2048) (n := 8) (q := 4096) rfl G) (hA : V c main_v1 = blocks (r := 1024) (n := 4) (q := 2048) rfl A)
    (hB : V c main_v2 = blocks (r := 1024) (n := 4) (q := 2048) rfl B) :
    (dat3 V c).arrAt 9 cfg3.N = fun i : S8192x2048.Idx =>
      mix (V c main_arg0) (V c main_arg1) (V c main_arg2) (V c main_arg3) (V c main_arg4) G A B (i 0) (i 1) := by
  refine (dat3 V c).arrAt_eq_of_covers 9 _ (by decide +kernel) fun t hf y => ?_
  have ht : t.val < 32 := t.isLt
  have h0 : (y 0).val < 1024 := (y 0).isLt
  have h1 : (y 1).val < 512 := (y 1).isLt
  have he : (win3_9.blk t).view.emb y = ix2 (n0 := 8192) (n1 := 2048) ⟨1024 * (t.val / 4) + (y 0).val, by omega⟩
      ⟨512 * (t.val % 4) + (y 1).val, by omega⟩ := by blk_ext [index3_9 t]
  blk_simp
  rw [after3_9, he]
  refine (congrArg _ (ValueIdx.eq_ix2 y)).trans ((mixed_at _ _ _ _ _ _ _ _ _ _ _ _).trans ?_)
  unfold mix
  have hh : ∀ k, iblk3 V c 0 t (ix2 (y 0) k) = V c main_arg0 (ix2 (n0 := 8192) ⟨1024 * (t.val / 4) + (y 0).val, by omega⟩ k) := fun k => by
    blk_simp [iblk3]
    congr 1
    blk_ext [index3_0 t]
  refine congrArg₂ (· + ·)
    (congrArg₂ (· * ·) (congrArg gate (congrArg₂ dot (funext hh) (funext fun k => ?_)))
      (congrArg₂ dot (funext (attention_rows V c t (by omega) (y 0))) (funext fun k => ?_)))
    (congrArg₂ (· * ·) (congrArg gate (congrArg₂ dot (funext hh) (funext fun k => ?_)))
      (congrArg₂ dot (funext (fourier_rows V c t (by omega) (y 0))) (funext fun k => ?_)))
  · blk_simp [iblk3]
    rw [hG]
    unfold blocks
    congr 1
    blk_ext [index3_5 t]
  · blk_simp [iblk3]
    rw [hA]
    unfold blocks
    congr 1
    blk_ext [index3_7 t]
  · blk_simp [iblk3]
    rw [hG]
    unfold blocks
    congr 1
    blk_ext [index3_6 t]
  · blk_simp [iblk3]
    rw [hB]
    unfold blocks
    congr 1
    blk_ext [index3_8 t]

end

/-! ## The whole run -/

section
variable (m : (ℓ : Loc nD τ sig) → Buf (Elt Ideal) ℓ) (ρ : Dev nD → PrngReg) (c : Dev nD)

/-- The result array after the run. -/
theorem array : W4 m ρ c (Proc.devRef .tc main_v3) = fun i : S8192x2048.Idx =>
    mix (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (i 0) (i 1) := by
  have a : ∀ r ∈ argRefs, V3 m ρ c r = m ((c : Thread nD τ).loc r) := W3_args m ρ c
  refine (W4_arr m ρ c 9).trans ((mixed (V3 m ρ) c (m ((c : Thread nD τ).loc main_arg5)) (m ((c : Thread nD τ).loc main_arg6))
    (m ((c : Thread nD τ).loc main_arg7)) ?_ ?_ ?_).trans ?_)
  · refine (W3_of m ρ c main_v0 (by decide)).trans ((W2_of m ρ c main_v0 (by decide)).trans ((W1_arr m ρ c 1).trans ?_))
    exact columns_0 (V0 m ρ) c
  · refine (W3_of m ρ c main_v1 (by decide)).trans ((W2_arr m ρ c 1).trans ((columns_1 (V1 m ρ) c).trans ?_))
    exact congrArg _ (W1_args m ρ c main_arg6 (by decide))
  · refine (W3_arr m ρ c 1).trans ((columns_2 (V2 m ρ) c).trans ?_)
    exact congrArg _ (W2_args m ρ c main_arg7 (by decide))
  · rw [a main_arg0 (by decide), a main_arg1 (by decide), a main_arg2 (by decide), a main_arg3 (by decide), a main_arg4 (by decide)]

end

/-! ## The reference -/

/-- A projection of the reference, of the two streams one under the other. -/
theorem stream (P S : FVec Ideal S4096x1024 .bf16) (W : FVec Ideal S2x1024x2048 .f32) (i : Fin 8192) (j : Fin 2048) :
    Host.dotGeneral Cert.ReferenceMixIdeal.dot_S8192x1024_S1024x2048_S8192x2048_1_0_0_1_n_n none
      (extf .f32 (concatenate Cert.ReferenceMixIdeal.S8192x1024 0 [⟨S4096x1024, P⟩, ⟨S4096x1024, S⟩]
        Cert.ReferenceMixIdeal.Gen.concatenates_S4096x1024_S4096x1024_S8192x1024_d0) Cert.ReferenceMixIdeal.Gen.bitsLt_bf16_f32)
      (shapeCast _ (extractStridedSlice Cert.ReferenceMixIdeal.S1x1024x2048 ![0, 0, 0] W
        Cert.ReferenceMixIdeal.Gen.slices_S2x1024x2048_S1x1024x2048_0_0_0)
        Cert.ReferenceMixIdeal.Gen.shapeCasts_S1x1024x2048_S1024x2048) (ix2 i j)
      = dot (rows P S i) fun k => W (ix3 0 k j) := by
  generalize hR : (dot (rows P S i) fun k => W (ix3 0 k j)) = R
  pointwise []
  rw [← hR]
  rfl

/-- The reference's gates. -/
theorem gates (H : FVec Ideal S8192x2048 .bf16) (G : FVec Ideal S2x2048x4096 .f32) (i : Fin 8192) (j : Fin 4096) :
    Host.divf (broadcastInDim Cert.ReferenceMixIdeal.S8192x4096 ![] Cert.ReferenceMixIdeal.Gen.bcast_S_S8192x4096
        (constant Cert.ReferenceMixIdeal.S_ .f32 0x3F800000#32))
      (addf (broadcastInDim Cert.ReferenceMixIdeal.S8192x4096 ![] Cert.ReferenceMixIdeal.Gen.bcast_S_S8192x4096
          (constant Cert.ReferenceMixIdeal.S_ .f32 0x3F800000#32))
        (Host.exp (Host.negf (Host.dotGeneral Cert.ReferenceMixIdeal.dot_S8192x2048_S2048x4096_S8192x4096_1_0_0_1_n_n none
          (extf .f32 H Cert.ReferenceMixIdeal.Gen.bitsLt_bf16_f32)
          (shapeCast _ (extractStridedSlice Cert.ReferenceMixIdeal.S1x2048x4096 ![0, 0, 0] G
            Cert.ReferenceMixIdeal.Gen.slices_S2x2048x4096_S1x2048x4096_0_0_0)
            Cert.ReferenceMixIdeal.Gen.shapeCasts_S1x2048x4096_S2048x4096))))) (ix2 i j)
      = gate (dot (fun k => H (ix2 i k)) fun k => G (ix3 0 k j)) := by
  generalize hR : gate _ = R
  pointwise []
  rw [← hR]
  rfl

/-- The reference's gated sum, from its gates and projections. -/
theorem gated (g : FVec Ideal Cert.ReferenceMixIdeal.S8192x4096 .f32) (a b : FVec Ideal S8192x2048 .f32) (i : Fin 8192) (j : Fin 2048) :
    truncf .bf16 (addf
        (mulf (extractStridedSlice S8192x2048 ![0, 0] g Cert.ReferenceMixIdeal.Gen.slices_S8192x4096_S8192x2048_0_0) a)
        (mulf (extractStridedSlice S8192x2048 ![0, 2048] g Cert.ReferenceMixIdeal.Gen.slices_S8192x4096_S8192x2048_0_2048) b))
      Cert.ReferenceMixIdeal.Gen.bitsLt_bf16_f32 (ix2 i j)
      = g (ix2 i ⟨j.val, by omega⟩) * a (ix2 i j) + g (ix2 i ⟨2048 + j.val, by omega⟩) * b (ix2 i j) := by
  generalize hR : g _ * _ + g _ * _ = R
  pointwise []
  rw [← hR]

/-- The kernel and its reference end with the same array. -/
theorem algebraic : Cert.algebraic_KernelMixIdeal_ReferenceMixIdeal := fun m ρ m' ρ' _ h =>
  ⟨fun c => W4 m ρ c (Proc.devRef .tc main_v3), kernel_run m ρ,
    (θ_run Cert.ReferenceMixIdeal.defs _ _).mono
      (fun _ hr c => ⟨(hr c).1.trans (by
        obtain ⟨h0, h1, h2, h3, h4, h5, h6, h7⟩ := h c
        rw [h0, h1, h2, h3, h4, h5, h6, h7]
        refine Eq.trans ?_ (array m ρ c).symm
        refine funext fun i => (congrArg _ (ValueIdx.eq_ix2 i)).trans ((gated _ _ _ _ _).trans ?_)
        exact congrArg₂ (· + ·) (congrArg₂ (· * ·) (gates _ _ _ _) (stream _ _ _ _ _)) (congrArg₂ (· * ·) (gates _ _ _ _) (stream _ _ _ _ _))),
        (hr c).2⟩)
      (Cert.ReferenceMixIdeal.Value.run (F := Ideal) m' ρ')⟩

end Cert.Dense.Mix
-- ==== Proof.Dense.Up.lean ====
module

public import proofs.«01_k».proof.Proof.Gen.KernelUpIdeal.Value
public import proofs.«01_k».proof.Proof.Gen.ReferenceUpIdeal.Run
public import Idealize.ShloMosaic.Lib.Pipeline.ValueKit
public import Idealize.ShloMosaic.Lib.Pipeline.ReadBack
public import Idealize.ShloMosaic.Lib.Pointwise
public import proofs.«01_k».proof.Defs

@[expose] public section

set_option maxRecDepth 65536

noncomputable section

namespace Cert.Dense.Up

open Idealize.ShloMosaic Idealize.ShloMosaic.TcCoe Idealize.SL.Sem
open Idealize.ShloMosaic.Pipeline
open Cert.KernelUpIdeal Cert.KernelUpIdeal.Gen

theorem index_0 : ∀ t : Fin cfg0.N, win0_0.index t = ![t.val % 4, 0] := (by decide +kernel : ∀ t : Fin grid0.N, _)
theorem index_1 : ∀ t : Fin cfg0.N, win0_1.index t = ![0, 0, t.val / 4] := (by decide +kernel : ∀ t : Fin grid0.N, _)
theorem index_2 : ∀ t : Fin cfg0.N, win0_2.index t = ![0, 0, 11 + t.val / 4] := (by decide +kernel : ∀ t : Fin grid0.N, _)
theorem index_3 : ∀ t : Fin cfg0.N, win0_3.index t = ![t.val % 4, t.val / 4] := (by decide +kernel : ∀ t : Fin grid0.N, _)

section
variable {F : FTy → Type} [FloatOps F] (m : (ℓ : Loc nD τ sig) → Buf (Elt F) ℓ) (c : Dev nD)

/-- Points of one column block read the same block of the first half's weights. -/
theorem first_eq (t u : Fin cfg0.N) (h : t.val / 4 = u.val / 4) : iblk m c 1 t = iblk m c 1 u := by
  funext y
  blk_simp [iblk]
  congr 1
  blk_ext [index_1 t, index_1 u, h]

/-- … and of the second half's. -/
theorem second_eq (t u : Fin cfg0.N) (h : t.val / 4 = u.val / 4) : iblk m c 2 t = iblk m c 2 u := by
  funext y
  blk_simp [iblk]
  congr 1
  blk_ext [index_2 t, index_2 u, h]

/-- After every point the scratches hold the two column blocks of the weights. -/
theorem scratch (n : ℕ) (hn : n < cfg0.N) :
    (outsAt0 m c n hn).2 = (k0_pay2 (iblk m c 1 ⟨n, hn⟩), k0_pay3 (iblk m c 2 ⟨n, hn⟩)) := by
  induction n with
  | zero =>
    rw [outsAt0_A m c ⟨0, hn⟩ rfl]
    exact Prod.ext (by frame_out) (by frame_out)
  | succ n ih =>
    by_cases h : (n + 1) % 4 = 0
    · rw [outsAt0_A m c ⟨n + 1, hn⟩ h]
      exact Prod.ext (by frame_out) (by frame_out)
    · have e : n / 4 = (n + 1) / 4 := by omega
      rw [outsAt0_B m c ⟨n + 1, hn⟩ h]
      refine (ih (Nat.lt_of_succ_lt hn)).trans ?_
      rw [first_eq m c ⟨n, Nat.lt_of_succ_lt hn⟩ ⟨n + 1, hn⟩ e, second_eq m c ⟨n, Nat.lt_of_succ_lt hn⟩ ⟨n + 1, hn⟩ e]

/-- The left half of a column block. -/
abbrev left : Rect S2048x512 := Rect.unit (s := S2048x512) ![0, 0] S2048x256.size inb_S2048x512_S2048x256_0_0

/-- The right half. -/
abbrev right : Rect S2048x512 := Rect.unit (s := S2048x512) ![0, 256] S2048x256.size inb_S2048x512_S2048x256_0_256

/-- What a point leaves in its block of the result, from its rows `x` and the two column blocks: two halves, stored one after the other. -/
def halves (x : FVec F S2048x2048 .bf16) (a g : FVec F S2048x512 .bf16) : FVec F S2048x512 .bf16 :=
  View.canon (Val := Elt F) (s := S2048x512) (e := .bf16)
    [⟨right, k0_pay1 (k0_pay5 x (View.ld (Val := Elt F) (e' := .bf16) a right) (View.ld (Val := Elt F) (e' := .bf16) g right))⟩,
      ⟨left, k0_pay4 x (View.ld (Val := Elt F) (e' := .bf16) a left) (View.ld (Val := Elt F) (e' := .bf16) g left)⟩]

/-- Every point leaves the two halves of its rows and its column blocks. -/
theorem block (t : Fin cfg0.N) : (outsAt0 m c t.val t.isLt).1
    = halves (iblk m c 0 t) (k0_pay2 (iblk m c 1 t)) (k0_pay3 (iblk m c 2 t)) := by
  by_cases h : t.val % 4 = 0
  · rw [outsAt0_A m c t h]
    frame_out
    have z : ∀ a : Fin S2048x512.rank, (![0, 0] : Fin S2048x512.rank → ℕ) a = 0 := by decide
    rw [View.readCov_fill (s := S2048x512) _ _ _ _ right z, View.readCov_fill (s := S2048x512) _ _ _ _ right z,
      View.readCov_fill (s := S2048x512) _ _ _ _ left z, View.readCov_fill (s := S2048x512) _ _ _ _ left z]
  · have hl : t.val - 1 < cfg0.N := Nat.lt_of_le_of_lt (Nat.sub_le _ _) t.isLt
    have e : (⟨t.val - 1, hl⟩ : Fin cfg0.N).val / 4 = t.val / 4 := by dsimp only; omega
    rw [outsAt0_B m c t h, scratch m c _ hl, first_eq m c _ t e, second_eq m c _ t e]
    frame_out
    rw [read_unread_whole, read_unread_whole]

end

/-- The gated product of the two halves' sums. -/
def swiglu (a g : EReal) : EReal := g * Idealize.ShloMosaic.Ideal.div 1 (1 + Idealize.ShloMosaic.Ideal.exp (-g)) * a

/-- The up-projection of the rows `H` by the first layer of the weights `W`: the columns' first half, gated by the second. -/
def up (H : FVec Ideal S8192x2048 .bf16) (W : FVec Ideal S2x2048x11264 .f32) : FVec Ideal S8192x5632 .bf16 :=
  fun i => swiglu (∑ k : Fin 2048, H (ix2 (i 0) k) * W (ix3 0 k ⟨(i 1).val, (i 1).isLt.trans (by decide)⟩))
    (∑ k : Fin 2048, H (ix2 (i 0) k) * W (ix3 0 k ⟨5632 + (i 1).val, Nat.add_lt_add_left (i 1).isLt 5632⟩))

variable (m : (ℓ : Loc nD τ sig) → Buf (Elt Ideal) ℓ) (c : Dev nD)

/-- A block of the result at an entry. -/
theorem halves_at (x : FVec Ideal S2048x2048 .bf16) (wa wg : FVec Ideal S1x2048x512 .f32) (y : S2048x512.Idx) :
    halves (F := Ideal) x (k0_pay2 (F := Ideal) wa) (k0_pay3 (F := Ideal) wg) y
      = swiglu (∑ k : Fin 2048, x (ix2 (y 0) k) * wa (ix3 0 k (y 1))) (∑ k : Fin 2048, x (ix2 (y 0) k) * wg (ix3 0 k (y 1))) := by
  generalize hR : swiglu _ _ = R
  unfold halves
  canon_tiles z h
  · have e0 : y 0 = z 0 := Fin.ext h0
    have e1 : y 1 = ⟨256 + (z 1).val, by omega⟩ := Fin.ext h1
    pointwise [k0_pay1, k0_pay5, k0_pay2, k0_pay3]
    rw [← hR, zero_sub, e0, e1, swiglu]
    rfl
  · have e0 : y 0 = z 0 := Fin.ext h0
    have e1 : y 1 = ⟨(z 1).val, by omega⟩ := Fin.ext h1
    pointwise [k0_pay4, k0_pay2, k0_pay3]
    rw [← hR, zero_sub, e0, e1, swiglu]
    rfl

/-- The result array after the run. -/
theorem array : (dats m 0 c).arrAt 3 cfg0.N = up (m ((c : Thread nD τ).loc main_arg0)) (m ((c : Thread nD τ).loc main_arg1)) := by
  refine (dats m 0 c).arrAt_eq_of_covers 3 _ (by decide +kernel) fun t hf y => ?_
  blk_simp
  rw [after0_3, block]
  refine (halves_at _ _ _ _).trans ?_
  unfold up
  congr 1 <;> refine Finset.sum_congr rfl fun k _ => ?_ <;> congr 1
  · blk_simp [iblk]
    congr 1
    blk_ext [index_0 t, index_3 t]
  · blk_simp [iblk]
    congr 1
    blk_ext [index_1 t, index_3 t]
  · blk_simp [iblk]
    congr 1
    blk_ext [index_0 t, index_3 t]
  · blk_simp [iblk]
    congr 1
    blk_ext [index_2 t, index_3 t]

/-- The reference's result. -/
theorem reference (H : FVec Ideal S8192x2048 .bf16) (W : FVec Ideal S2x2048x11264 .f32)
    (P : FVec Ideal Cert.ReferenceUpIdeal.S8192x11264 .f32)
    (hP : P = Host.dotGeneral Cert.ReferenceUpIdeal.dot_S8192x2048_S2048x11264_S8192x11264_1_0_0_1_n_n none
      (extf .f32 H Cert.ReferenceUpIdeal.Gen.bitsLt_bf16_f32)
      (shapeCast _ (extractStridedSlice Cert.ReferenceUpIdeal.S1x2048x11264 ![0, 0, 0] W
        Cert.ReferenceUpIdeal.Gen.slices_S2x2048x11264_S1x2048x11264_0_0_0)
        Cert.ReferenceUpIdeal.Gen.shapeCasts_S1x2048x11264_S2048x11264)) :
    truncf .bf16 (mulf (mulf (extractStridedSlice Cert.ReferenceUpIdeal.S8192x5632 ![0, 5632] P
      Cert.ReferenceUpIdeal.Gen.slices_S8192x11264_S8192x5632_0_5632)
      (Host.divf (broadcastInDim Cert.ReferenceUpIdeal.S8192x5632 ![] Cert.ReferenceUpIdeal.Gen.bcast_S_S8192x5632
          (constant Cert.ReferenceUpIdeal.S_ .f32 0x3F800000#32))
        (addf (broadcastInDim Cert.ReferenceUpIdeal.S8192x5632 ![] Cert.ReferenceUpIdeal.Gen.bcast_S_S8192x5632
            (constant Cert.ReferenceUpIdeal.S_ .f32 0x3F800000#32))
          (Host.exp (Host.negf (extractStridedSlice Cert.ReferenceUpIdeal.S8192x5632 ![0, 5632] P
            Cert.ReferenceUpIdeal.Gen.slices_S8192x11264_S8192x5632_0_5632))))))
      (extractStridedSlice Cert.ReferenceUpIdeal.S8192x5632 ![0, 0] P
        Cert.ReferenceUpIdeal.Gen.slices_S8192x11264_S8192x5632_0_0)) Cert.ReferenceUpIdeal.Gen.bitsLt_bf16_f32 = up H W := by
  have hP' : ∀ (a : Fin 8192) (b : Fin 11264), P (ix2 a b) = ∑ k : Fin 2048, H (ix2 a k) * W (ix3 0 k b) := by
    intro a b
    subst hP
    generalize hR : (∑ k : Fin 2048, H (ix2 a k) * W (ix3 0 k b)) = R
    pointwise []
    rw [← hR]
  funext i
  obtain ⟨a, b, rfl⟩ : ∃ (a : Fin 8192) (b : Fin 5632), i = ix2 a b := ⟨i 0, i 1, ValueIdx.eq_ix2 i⟩
  generalize hR : up H W (ix2 a b) = R
  pointwise []
  rw [hP', hP', ← hR, up, swiglu]
  rfl

/-- The kernel and its reference end with the same array. -/
theorem algebraic : Cert.algebraic_KernelUpIdeal_ReferenceUpIdeal := fun m g m' g' _ h =>
  ⟨fun c => (dats m 0 c).arrAt 3 cfg0.N, Value.run_blocks m g,
    (θ_run Cert.ReferenceUpIdeal.defs _ _).mono
      (fun _ hr c => ⟨(hr c).1.trans (by
        rw [(h c).1, (h c).2]
        refine Eq.trans ?_ (array m c).symm
        exact reference _ _ _ rfl), (hr c).2⟩)
      (Cert.ReferenceUpIdeal.Value.run (F := Ideal) m' g')⟩

end Cert.Dense.Up
-- ==== Proof.Dense.LastCall.lean ====
module

public import proofs.«01_k».proof.Proof.Gen.KernelLastIdeal.Launch
public import proofs.«01_k».proof.Proof.Gen.KernelLastIdeal.Skeleton
public import proofs.«01_k».proof.Proof.Gen.KernelLastIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

/-!
The last layer's down-projection: its body at a point, and what its buffers hold after each point.
The first sixteen points store the context's blocks, the others the samples'. The context's buffer keeps the last block it
was given until the end of the grid, where it is written back.
-/

@[expose] public section

set_option maxRecDepth 16384

noncomputable section

namespace Cert.Dense.Last

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelLastIdeal Cert.KernelLastIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, of the arrays the call is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The points -/

theorem prompt_iff : ∀ t : Fin cfg1.N, k1_cond1 (grid1.coords t) = 1#1 ↔ t.val < 16 :=
  (by decide +kernel : ∀ t : Fin grid1.N, k1_cond1 (grid1.coords t) = 1#1 ↔ t.val < 16)

theorem sample_iff : ∀ t : Fin cfg1.N, k1_cond2 (grid1.coords t) = 1#1 ↔ 16 ≤ t.val :=
  (by decide +kernel : ∀ t : Fin grid1.N, k1_cond2 (grid1.coords t) = 1#1 ↔ 16 ≤ t.val)

/-- The context's window is idle at the samples' points, … -/
theorem idle_prompt : ∀ t : Fin cfg1.N, cfg1.idle 4 (grid1.coords t) = decide (16 ≤ t.val) := by decide +kernel

/-- … the samples' at the context's. -/
theorem idle_sample : ∀ t : Fin cfg1.N, cfg1.idle 5 (grid1.coords t) = decide (t.val < 16) := by decide +kernel

/-- The context's blocks are written back at its own points but the last, and that one at the end of the grid. -/
theorem flush_prompt : ∀ t : Fin cfg1.N, (cfg1.win 4).flush t = decide (t.val < 15 ∨ t.val = 31) :=
  (by decide +kernel : ∀ t : Fin grid1.N, win1_4.flush t = decide (t.val < 15 ∨ t.val = 31))

/-- The samples' blocks are written back at their own points. -/
theorem flush_sample : ∀ t : Fin cfg1.N, (cfg1.win 5).flush t = decide (16 ≤ t.val) :=
  (by decide +kernel : ∀ t : Fin grid1.N, win1_5.flush t = decide (16 ≤ t.val))

/-- From point 16 on, the context's buffer holds the block stored at point 15. -/
theorem not_fresh (t : Fin cfg1.N) (h : 16 ≤ t.val) : cfg1.fresh 4 t.val = false := by
  have ht : t.val < 32 := lt_of_lt_of_eq t.isLt (show cfg1.N = 32 from N_1)
  rw [Cfg.fresh_tab cfg1 4 (fun n => decide (n < 16 ∨ n = 32)) (by decide) (fun s => ?_) t.val t.isLt.le]
  · exact decide_eq_false (by omega)
  · have hs : s.val < 32 := lt_of_lt_of_eq s.isLt (show cfg1.N = 32 from N_1)
    rw [flush_prompt s, show cfg1.idle 4 (cfg1.grid.coords s) = _ from idle_prompt s, Bool.eq_iff_iff]
    simp only [Bool.or_eq_true, Bool.and_eq_true, decide_eq_true_eq]
    omega

/-! ## The body -/

abbrev whole2 : Rect S1024x512 := Rect.unit (s := S1024x512) ![0, 0] S1024x512.size inb_S1024x512_S1024x512_0_0
abbrev wholeMod : Rect S1x6x512 := Rect.unit (s := S1x6x512) ![0, 0, 0] S1x6x512.size inb_S1x6x512_S1x6x512_0_0_0
abbrev wholeAct : Rect S1024x5632 := Rect.unit (s := S1024x5632) ![0, 0] S1024x5632.size inb_S1024x5632_S1024x5632_0_0
abbrev wholeW : Rect S1x1x5632x512 := Rect.unit (s := S1x1x5632x512) ![0, 0, 0, 0] S1x1x5632x512.size inb_S1x1x5632x512_S1x1x5632x512_0_0_0_0

/-- The block that a point computes and stores. -/
def stored (x0 : Vec F S1024x5632 .bf16) (x1 : Vec F S1x1x5632x512 .bf16) (x2 : Vec F S1024x512 .f32) (x3 : Vec F S1x6x512 .f32) :
    Vec F S1024x512 .f32 :=
  View.canon [⟨whole2, k1_pay1 (View.ld x2 whole2) (View.ld x3 wholeMod) (View.ld x0 wholeAct) (View.ld x1 wholeW)⟩]

theorem stored_cover (p : Vec F S1024x512 .f32) (y : S1024x512.Idx) :
    ∃ pc ∈ ([⟨whole2, p⟩] : List (View.Piece (Elt F) S1024x512 .f32)), y ∈ pc.1.set :=
  View.cover_of_tiled [⟨whole2, p⟩] S1024x512.size (by rfl) y

set_option maxHeartbeats 1000000 in
/-- At a point of the context the body stores the context's block and leaves the samples' buffer alone. -/
theorem body_prompt (c : Dev nD) (E : Set ℕ) (i : grid1.Coords) (arg2 : Memref sig .tc .vmem S1024x5632 .bf16) (harg2 : arg2.IsWhole) (arg3 : Memref sig .tc .vmem S1x1x5632x512 .bf16) (harg3 : arg3.IsWhole)
    (arg4 : Memref sig .tc .vmem S1024x512 .f32) (harg4 : arg4.IsWhole) (arg5 : Memref sig .tc .vmem S1x6x512 .f32) (harg5 : arg5.IsWhole)
    (arg6 : Memref sig .tc .vmem S1024x512 .f32) (harg6 : arg6.IsWhole) (arg7 : Memref sig .tc .vmem S1024x512 .f32) (harg7 : arg7.IsWhole)
    (h1 : k1_cond1 i = 1#1) (h2 : ¬ k1_cond2 i = 1#1)
    (x0 : Vec F S1024x5632 .bf16) (x1 : Vec F S1x1x5632x512 .bf16) (x2 : Vec F S1024x512 .f32) (x3 : Vec F S1x6x512 .f32)
    (xi : Vec F S1024x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xi
        ∗ (iprop(owns (c : Thread nD τ) arg2 fullShare x0 ∗ owns (c : Thread nD τ) arg3 fullShare x1 ∗ owns (c : Thread nD τ) arg4 fullShare x2 ∗ owns (c : Thread nD τ) arg5 fullShare x3
          ∗ owns (c : Thread nD τ) arg6 fullShare (stored x0 x1 x2 x3) ∗ owns (c : Thread nD τ) arg7 fullShare xi) -∗ K ⟨⟩))
      ⊢ wp frame (wpE (defs₀ (F := F)) Variants.none c none) E (cc1_ffn_down i arg2 harg2 arg3 harg3 arg4 harg4 arg5 harg5 arg6 harg6 arg7 harg7) K := by
  simp only [cc1_ffn_down_eq_skeleton]; unfold cc1_ffn_down_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0 hf1 hf2 hf3 hf5
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (stored_cover _)
  iexists f5; isplitr; · ipureintro; rfl
  iexact H5

set_option maxHeartbeats 1000000 in
/-- At a point of the samples it is the other way round. -/
theorem body_sample (c : Dev nD) (E : Set ℕ) (i : grid1.Coords) (arg2 : Memref sig .tc .vmem S1024x5632 .bf16) (harg2 : arg2.IsWhole) (arg3 : Memref sig .tc .vmem S1x1x5632x512 .bf16) (harg3 : arg3.IsWhole)
    (arg4 : Memref sig .tc .vmem S1024x512 .f32) (harg4 : arg4.IsWhole) (arg5 : Memref sig .tc .vmem S1x6x512 .f32) (harg5 : arg5.IsWhole)
    (arg6 : Memref sig .tc .vmem S1024x512 .f32) (harg6 : arg6.IsWhole) (arg7 : Memref sig .tc .vmem S1024x512 .f32) (harg7 : arg7.IsWhole)
    (h1 : ¬ k1_cond1 i = 1#1) (h2 : k1_cond2 i = 1#1)
    (x0 : Vec F S1024x5632 .bf16) (x1 : Vec F S1x1x5632x512 .bf16) (x2 : Vec F S1024x512 .f32) (x3 : Vec F S1x6x512 .f32)
    (xi : Vec F S1024x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
          ∗ owns (c : Thread nD τ) arg6 fullShare xi ∗ owns (c : Thread nD τ) arg7 fullShare (stored x0 x1 x2 x3)) -∗ K ⟨⟩))
      ⊢ wp frame (wpE (defs₀ (F := F)) Variants.none c none) E (cc1_ffn_down i arg2 harg2 arg3 harg3 arg4 harg4 arg5 harg5 arg6 harg6 arg7 harg7) K := by
  simp only [cc1_ffn_down_eq_skeleton]; unfold cc1_ffn_down_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (stored_cover _)

/-! ## The proof data -/

/-- The point whose block the context's buffer holds after point `t`. -/
def held (t : Fin cfg1.N) : Fin cfg1.N := ⟨min t.val 15, lt_of_le_of_lt (min_le_left _ _) t.isLt⟩

/-- What point `t` computes. -/
def at1 (c : Dev nD) (t : Fin cfg1.N) : Vec F S1024x512 .f32 :=
  stored (iblk1 V c 0 t) (iblk1 V c 1 t) (iblk1 V c 2 t) (iblk1 V c 3 t)

/-- The arrays as the call finds them, and each buffer after the body at a point. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => at1 V c (held t)
    | ⟨5, _⟩ => at1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = at1 V c (held t) := by dsimp only [dat1]
theorem after1_5 (c : Dev nD) (t : Fin cfg1.N) : (dat1 V c).after 5 t = at1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- At a point of the samples the context's buffer holds what it will hold afterwards. -/
theorem before1_4 (c : Dev nD) (t : Fin cfg1.N) (h : 16 ≤ t.val) (d) : (dat1 V c).before 4 t d = at1 V c (held t) := by
  have carry : ∀ (s : Fin cfg1.N) (_ : 16 ≤ s.val) (hs : s.val - 1 < cfg1.N), held s = held ⟨s.val - 1, hs⟩ := fun s hs _ =>
    Fin.ext (by simp only [held]; omega)
  rw [(dat1 V c).before_out_traj 4 rfl (fun _ _ => rfl) (fun s _ hi _ => ?_) t.val t rfl d, not_fresh t h,
    if_neg Bool.false_ne_true, after1_4, ← carry t h]
  have hi' : 16 ≤ s.val := of_decide_eq_true ((idle_prompt s).symm.trans hi)
  rw [after1_4, after1_4, ← carry s hi']

/-! ## The body at every point -/

/-- What the body is called with at point `t`, window by window, … -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- … and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

/-- A buffer of a window that is not idle is left at its stated contents. -/
theorem leaves_live (c : Dev nD) (w : Fin cfg1.W) (t : Fin cfg1.N) (h : cfg1.idle w (cfg1.grid.coords t) = false) :
    (dat1 V c).leavesExact w t = owns (c : Thread nD τ) ((cfg1.win w).stage (cfg1.slots t w)) fullShare ((dat1 V c).after w t) := by
  unfold Dat.leavesExact; rw [h]

/-- The context's buffer handed back untouched at a point of the samples is what the point must leave: at the end of the
    grid, where it is written back, it holds the stated block; before, nothing is asked. -/
theorem leaves_kept (c : Dev nD) (t : Fin cfg1.N) (h : 16 ≤ t.val) :
    (owns (c : Thread nD τ) (st1_4 t) fullShare (at1 V c (held t)) : sProp 𝕄) ⊢ (dat1 V c).leavesExact 4 t := by
  have hi : cfg1.idle 4 (cfg1.grid.coords t) = true := (idle_prompt t).trans (decide_eq_true h)
  cases hf : (cfg1.win 4).flush t
  · rw [Dat.leavesExact_idle (dat1 V c) 4 t hi hf]
    simp only [before1_4 V c t h]
    iintro H
    iexists (at1 V c (held t))
    iexact H
  · have : (dat1 V c).leavesExact 4 t = owns (c : Thread nD τ) ((cfg1.win 4).stage (cfg1.slots t 4)) fullShare ((dat1 V c).after 4 t) := by
      unfold Dat.leavesExact; rw [hi, hf]
    rw [this, after1_4]

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    leaves_live V c 0 t rfl, leaves_live V c 1 t rfl, leaves_live V c 2 t rfl, leaves_live V c 3 t rfl,
    after1_0, after1_1, after1_2, after1_3]
  by_cases h : 16 ≤ t.val
  · simp only [before1_4 V c t h]
    rw [leaves_live V c 5 t ((idle_sample t).trans (decide_eq_false (by omega))), after1_5]
    iintro ⟨HΦ, Ho, ⟨%d0, H0⟩, ⟨%d1, H1⟩, ⟨%d2, H2⟩, ⟨%d3, H3⟩, ⟨%d4, H4⟩, ⟨%d5, H5⟩⟩
    iapply (body_sample c Set.univ (grid1.coords t) _ _ _ _ _ _ _ _ _ _ _ _ (fun e => by have := (prompt_iff t).mp e; omega)
      ((sample_iff t).mpr h) (iblk1 V c 0 t) (iblk1 V c 1 t) (iblk1 V c 2 t) (iblk1 V c 3 t) (at1 V c (held t)) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]
    · iapply (leaves_kept V c t h); iexact H4
    unfold at1
    iexact H5
  · rw [leaves_live V c 4 t ((idle_prompt t).trans (decide_eq_false h)), after1_4,
      show held t = t from Fin.ext (min_eq_left (by omega)),
      Dat.leavesExact_idle (dat1 V c) 5 t ((idle_sample t).trans (decide_eq_true (by omega))) ((flush_sample t).trans (decide_eq_false h))]
    iintro ⟨HΦ, Ho, ⟨%d0, H0⟩, ⟨%d1, H1⟩, ⟨%d2, H2⟩, ⟨%d3, H3⟩, ⟨%d4, H4⟩, ⟨%d5, H5⟩⟩
    iapply (body_prompt c Set.univ (grid1.coords t) _ _ _ _ _ _ _ _ _ _ _ _ ((prompt_iff t).mpr (by omega))
      (fun e => h ((sample_iff t).mp e)) (iblk1 V c 0 t) (iblk1 V c 1 t) (iblk1 V c 2 t) (iblk1 V c 3 t) _ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold at1; iexact H4
    iexists _; iexact H5

/-- The body table's row at point `t`'s slots is the body. -/
theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.Dense.Last

end
-- ==== Proof.Dense.LastCast.lean ====
module

public import proofs.«01_k».proof.Proof.Gen.KernelLastIdeal.Launch
public import proofs.«01_k».proof.Proof.Gen.KernelLastIdeal.Skeleton
public import proofs.«01_k».proof.Proof.Gen.KernelLastIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

/-!
The call that lays the last layer's down-projection weights out in column blocks: its body and proof data.
-/

@[expose] public section

set_option maxRecDepth 16384

noncomputable section

namespace Cert.Dense.Last

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelLastIdeal Cert.KernelLastIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, of the arrays the call is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x5632x512 := Rect.unit (s := S1x5632x512) ![0, 0, 0] S1x5632x512.size inb_S1x5632x512_S1x5632x512_0_0_0
abbrev r0_1 : Rect S1x1x5632x512 := Rect.unit (s := S1x1x5632x512) ![0, 0, 0, 0] S1x1x5632x512.size inb_S1x1x5632x512_S1x1x5632x512_0_0_0_0

/-- The block that a point writes. -/
def out0_1 (x0 : Vec F S1x5632x512 .f32) : Vec F S1x1x5632x512 .bf16 :=
  View.canon [⟨r0_1, k0_pay1 (View.ld x0 r0_0)⟩]

theorem cover0_1 (p0 : Vec F S1x1x5632x512 .bf16) (y : S1x1x5632x512.Idx) :
    ∃ pc ∈ ([⟨r0_1, p0⟩] : List (View.Piece (Elt F) S1x1x5632x512 .bf16)), y ∈ pc.1.set :=
  View.cover_of_tiled [⟨r0_1, p0⟩] S1x1x5632x512.size (by rfl) y

set_option maxHeartbeats 1000000 in
theorem sound_kernel0 (c : Dev nD) (E : Set ℕ) (i : grid0.Coords) (arg2 : Memref sig .tc .vmem S1x5632x512 .f32) (harg2 : arg2.IsWhole) (arg3 : Memref sig .tc .vmem S1x1x5632x512 .bf16) (harg3 : arg3.IsWhole)
    (x0 : Vec F S1x5632x512 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0_column_blocks i arg2 harg2 arg3 harg3) K := by
  simp only [cc0_column_blocks_eq_skeleton]; unfold cc0_column_blocks_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The arrays as the call finds them, and each buffer after the body at a point. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, … -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- … and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Dense.Last

end
-- ==== Proof.Dense.LastRun.lean ====
module

public import proofs.«01_k».proof.Proof.Dense.LastCall
public import proofs.«01_k».proof.Proof.Dense.LastCast

/-!
The run of the two calls: what every buffer holds between them and at the end.
-/

@[expose] public section

set_option maxRecDepth 16384

noncomputable section

namespace Cert.Dense.Last

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelLastIdeal Cert.KernelLastIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arguments. -/
abbrev argRefs : List (Ref sig .tc) := [main_arg0, main_arg1, main_arg2, main_arg3]

/-- The buffers at the launch, … -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev V0 : (c : Dev nD) → (b : Ref sig .tc) → Buf (Elt F) ((c : Thread nD τ).loc b) := fun c b => W0 m ρ c b
/-- … after the weights' call, … -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- What a call does not write stays. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- … and after the projection. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn1 a ha)).trans (W1_args m ρ c a ha)
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

theorem W2_main_arg0 (c : Dev nD) : W2 m ρ c (Proc.devRef .tc main_arg0) = m ((c : Thread nD τ).loc main_arg0) :=
  W2_args m ρ c main_arg0 (by decide)
theorem W2_main_arg1 (c : Dev nD) : W2 m ρ c (Proc.devRef .tc main_arg1) = m ((c : Thread nD τ).loc main_arg1) :=
  W2_args m ρ c main_arg1 (by decide)
theorem W2_main_arg2 (c : Dev nD) : W2 m ρ c (Proc.devRef .tc main_arg2) = m ((c : Thread nD τ).loc main_arg2) :=
  W2_args m ρ c main_arg2 (by decide)
theorem W2_main_arg3 (c : Dev nD) : W2 m ρ c (Proc.devRef .tc main_arg3) = m ((c : Thread nD τ).loc main_arg3) :=
  W2_args m ρ c main_arg3 (by decide)

abbrev adm : (p : Fin 2) → (pcfgs (F := F) p).Adm := fun p => (cfgs p).toPCfg_adm
/-- Each call's proof data, at the contents it is entered with. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What goes along with the buffers: the generator's register, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What is left at the end. -/
abbrev Tₙ (c : Dev nD) : sProp 𝕄 := iprop(StableHlo.held (c : Thread nD τ) (Pipeline.ucRefs τ sig) (W2 m ρ c) ∗ ∃ r, prngReg c r)

set_option backward.isDefEq.respectTransparency.types false in
/-- The weights' call as a segment of the run. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The projection as a segment of the run. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .region (reg0 m ρ),
    .region (reg1 m ρ) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every run ends with the two results at the last contents, its arguments as they were and every semaphore at zero. -/
theorem run : θ_run defs (onTc (τ := τ) (main (F := F))) ⟨m, fun _ => 0, ρ⟩ (fun r => (∀ c : Dev nD,
      r.2.mem ((c.tc : Thread nD τ).loc main_v1_0) = W2 m ρ c (Proc.devRef .tc main_v1_0)
      ∧ r.2.mem ((c.tc : Thread nD τ).loc main_v1_1) = W2 m ρ c (Proc.devRef .tc main_v1_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨(fun c =>
      ⟨h c _ (mem_uc main_v1_0 (by decide)), h c _ (mem_uc main_v1_1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩), funext fun g => hz g (.inr (no_unscoped g.2))⟩)

end Cert.Dense.Last

end
-- ==== Proof.Dense.LastReference.lean ====
module

public import proofs.«01_k».proof.Proof.Dense.Rows
public import proofs.«01_k».proof.Proof.Gen.ReferenceLastIdeal.Run
public import Idealize.ShloMosaic.Lib.Pipeline.ValueKit

/-!
The last layer's projection down in the reference's lines, at an entry of the stream.
-/

@[expose] public section

noncomputable section

namespace Cert.Dense.Last

open Idealize.ShloMosaic Idealize.ShloMosaic.TcCoe
open Cert.ReferenceLastIdeal Cert.ReferenceLastIdeal.Gen

/-- The stream that the last layer leaves. -/
def layer (H : FVec Ideal S8192x5632 .bf16) (X : FVec Ideal S8192x2048 .f32) (U : FVec Ideal S8x6x2048 .f32) (W : FVec Ideal S2x5632x2048 .f32)
    (a : Fin 8192) : Fin 2048 → EReal :=
  residual (fun k => X (ix2 a k)) (fun k => U (ix3 (tokenRow a) 5 k)) (fun k => H (ix2 a k)) (fun k j => W (ix3 1 k j))

/-- The reference's projection of every token. -/
def product (H : FVec Ideal S8192x5632 .bf16) (W : FVec Ideal S2x5632x2048 .f32) : FVec Ideal S8192x2048 .f32 :=
  Host.dotGeneral dot_S8192x5632_S5632x2048_S8192x2048_1_0_0_1_n_n none (extf .f32 H bitsLt_bf16_f32)
    (shapeCast _ (extractStridedSlice S1x5632x2048 ![1, 0, 0] W slices_S2x5632x2048_S1x5632x2048_1_0_0) shapeCasts_S1x5632x2048_S5632x2048)

/-- Its context's result. -/
def prompt (H : FVec Ideal S8192x5632 .bf16) (X : FVec Ideal S8192x2048 .f32) (U : FVec Ideal S8x6x2048 .f32) (W : FVec Ideal S2x5632x2048 .f32) :
    FVec Ideal S4096x2048 .f32 :=
  addf (extractStridedSlice S4096x2048 ![0, 0] X slices_S8192x2048_S4096x2048_0_0)
    (mulf (broadcastInDim S4096x2048 ![0, 1] bcast_S1x2048_S4096x2048_0_1 (broadcastInDim S1x2048 ![1] bcast_S2048_S1x2048_1
        (shapeCast _ (extractStridedSlice S1x1x2048 ![0, 5, 0] U slices_S8x6x2048_S1x1x2048_0_5_0) shapeCasts_S1x1x2048_S2048)))
      (extractStridedSlice S4096x2048 ![0, 0] (product H W) slices_S8192x2048_S4096x2048_0_0))

/-- Its samples' result. -/
def sample (H : FVec Ideal S8192x5632 .bf16) (X : FVec Ideal S8192x2048 .f32) (U : FVec Ideal S8x6x2048 .f32) (W : FVec Ideal S2x5632x2048 .f32) :
    FVec Ideal S4096x2048 .f32 :=
  shapeCast _ (addf (shapeCast _ (extractStridedSlice S4096x2048 ![4096, 0] X slices_S8192x2048_S4096x2048_4096_0) shapeCasts_S4096x2048_S4x1024x2048)
    (mulf (broadcastInDim S4x1024x2048 ![0, 1, 2] bcast_S4x1x2048_S4x1024x2048_0_1_2 (broadcastInDim S4x1x2048 ![0, 2] bcast_S4x2048_S4x1x2048_0_2
        (shapeCast _ (extractStridedSlice S4x1x2048 ![1, 5, 0] U slices_S8x6x2048_S4x1x2048_1_5_0) shapeCasts_S4x1x2048_S4x2048)))
      (shapeCast _ (extractStridedSlice S4096x2048 ![4096, 0] (product H W) slices_S8192x2048_S4096x2048_4096_0) shapeCasts_S4096x2048_S4x1024x2048)))
    shapeCasts_S4x1024x2048_S4096x2048

variable (H : FVec Ideal S8192x5632 .bf16) (X : FVec Ideal S8192x2048 .f32) (U : FVec Ideal S8x6x2048 .f32) (W : FVec Ideal S2x5632x2048 .f32)

theorem prompt_at (a : Fin 4096) (b : Fin 2048) : prompt H X U W (ix2 a b) = layer H X U W ⟨a.val, by omega⟩ b := by
  generalize hR : layer H X U W _ b = R
  pointwise [prompt, product]
  rw [← hR]
  unfold layer tokenRow
  simp only [a.isLt, if_true]
  rfl

theorem sample_at (a : Fin 4096) (b : Fin 2048) : sample H X U W (ix2 a b) = layer H X U W ⟨4096 + a.val, by omega⟩ b := by
  generalize hR : layer H X U W _ b = R
  have hrow : tokenRow ⟨4096 + a.val, by omega⟩ = ⟨1 + a.val / 1024, by omega⟩ := by
    refine Fin.ext ?_
    dsimp only [tokenRow]
    split <;> omega
  pointwise [sample, product]
  rw [← hR]
  unfold layer
  rw [hrow]
  rfl

end Cert.Dense.Last
-- ==== Proof.Dense.Last.lean ====
module

public import proofs.«01_k».proof.Proof.Dense.LastRun
public import proofs.«01_k».proof.Proof.Dense.LastReference
public import Idealize.ShloMosaic.Lib.Pipeline.ValueKit
public import proofs.«01_k».proof.Defs

/-!
`ffn_down` at the last layer: the projection down and the gated residual, the context's rows and the samples' in arrays of their own.
-/

@[expose] public section

set_option maxRecDepth 65536

noncomputable section

namespace Cert.Dense.Last

open Idealize.ShloMosaic Idealize.ShloMosaic.TcCoe Idealize.SL.Sem
open Idealize.ShloMosaic.Pipeline
open Cert.KernelLastIdeal Cert.KernelLastIdeal.Gen

/-- The last layer's weights with their columns cut into four blocks of 512. -/
def columns (W : FVec Ideal S2x5632x2048 .f32) : FVec Ideal S1x4x5632x512 .bf16 :=
  fun i => W (ix3 1 (i 2) ⟨512 * (i 1).val + (i 3).val, by
    have h1 : (i 1).val < 4 := (i 1).isLt
    have h3 : (i 3).val < 512 := (i 3).isLt
    omega⟩)

theorem index0_0 : ∀ t : Fin cfg0.N, win0_0.index t = ![1, 0, t.val] := (by decide +kernel : ∀ t : Fin grid0.N, _)
theorem index0_1 : ∀ t : Fin cfg0.N, win0_1.index t = ![0, t.val, 0, 0] := (by decide +kernel : ∀ t : Fin grid0.N, _)
theorem index1_0 : ∀ t : Fin cfg1.N, win1_0.index t = ![t.val / 4, 0] := (by decide +kernel : ∀ t : Fin grid1.N, _)
theorem index1_1 : ∀ t : Fin cfg1.N, win1_1.index t = ![0, t.val % 4, 0, 0] := (by decide +kernel : ∀ t : Fin grid1.N, _)
theorem index1_2 : ∀ t : Fin cfg1.N, win1_2.index t = ![t.val / 4, t.val % 4] := (by decide +kernel : ∀ t : Fin grid1.N, _)
theorem index1_3 : ∀ t : Fin cfg1.N, win1_3.index t = ![t.val / 4 - 3, 0, t.val % 4] := (by decide +kernel : ∀ t : Fin grid1.N, _)
theorem index1_4 : ∀ t : Fin cfg1.N, win1_4.index t = ![min t.val 15 / 4, min t.val 15 % 4] := (by decide +kernel : ∀ t : Fin grid1.N, _)
theorem index1_5 : ∀ t : Fin cfg1.N, 16 ≤ t.val → win1_5.index t = ![t.val / 4 - 4, t.val % 4] :=
  (by decide +kernel : ∀ t : Fin grid1.N, 16 ≤ t.val → _)

/-- A block of the weights keeps its entries. -/
theorem cast_at (x : FVec Ideal S1x5632x512 .f32) (y : S1x1x5632x512.Idx) : k0_pay1 (F := Ideal) x y = x (ix3 0 (y 2) (y 3)) := by
  generalize hR : x (ix3 0 (y 2) (y 3)) = R
  pointwise [k0_pay1]
  rw [← hR]

/-- What a point computes. -/
theorem stored_at (h : FVec Ideal S1024x5632 .bf16) (w : FVec Ideal S1x1x5632x512 .bf16) (x : FVec Ideal S1024x512 .f32)
    (u : FVec Ideal S1x6x512 .f32) (a : Fin 1024) (b : Fin 512) :
    stored (F := Ideal) h w x u (ix2 a b) = x (ix2 a b) + u (ix3 0 5 b) * ∑ k : Fin 5632, h (ix2 a k) * w (ix4 0 0 k b) := by
  generalize hR : x (ix2 a b) + _ = R
  unfold stored
  frame_out
  pointwise [k1_pay1]
  rw [← hR]

section
variable (V : (c : Dev nD) → (b : Ref sig .tc) → Buf (Elt Ideal) ((c : Thread nD τ).loc b)) (c : Dev nD)

/-- The weights after the first call. -/
theorem weights : (dat0 V c).arrAt 1 cfg0.N = columns (V c main_arg3) := by
  refine (dat0 V c).arrAt_eq_of_covers 1 _ (by decide +kernel) fun t hf y => ?_
  blk_simp
  rw [after0_1]
  unfold out0_1
  frame_out
  refine (cast_at _ _).trans ?_
  unfold columns
  blk_simp [iblk0]
  congr 1
  blk_ext [index0_0 t, index0_1 t]

/-- A point's block of the stream. -/
theorem block (W : FVec Ideal S2x5632x2048 .f32) (hW : V c main_v0 = columns W) (t : Fin cfg1.N) (a : Fin 1024) (b : Fin 512)
    (r : Fin 8192) (hr : r.val = 1024 * (t.val / 4) + a.val) (q : Fin 2048) (hq : q.val = 512 * (t.val % 4) + b.val) :
    at1 V c t (ix2 a b) = layer (V c main_arg0) (V c main_arg1) (V c main_arg2) W r q := by
  have ht : t.val < 32 := lt_of_lt_of_eq t.isLt (show cfg1.N = 32 from N_1)
  have hrow : t.val / 4 - 3 = (tokenRow r).val := by
    dsimp only [tokenRow]
    split <;> omega
  refine (stored_at _ _ _ _ _ _).trans ?_
  unfold layer residual
  refine congrArg₂ (· + ·) ?_ (congrArg₂ (· * ·) ?_ (Finset.sum_congr rfl fun k _ => congrArg₂ (· * ·) ?_ ?_))
  · blk_simp [iblk1]
    congr 1
    blk_ext [index1_2 t]
  · blk_simp [iblk1]
    congr 1
    blk_ext [index1_3 t, hrow]
  · blk_simp [iblk1]
    congr 1
    blk_ext [index1_0 t]
  · blk_simp [iblk1]
    rw [hW]
    unfold columns
    congr 1
    blk_ext [index1_1 t]

/-- The context's rows after the second call. -/
theorem prompt_rows (W : FVec Ideal S2x5632x2048 .f32) (hW : V c main_v0 = columns W) :
    (dat1 V c).arrAt 4 cfg1.N = fun i : S4096x2048.Idx =>
      layer (V c main_arg0) (V c main_arg1) (V c main_arg2) W ⟨(i 0).val, lt_trans (i 0).isLt (by decide)⟩ (i 1) := by
  refine (dat1 V c).arrAt_eq_of_covers 4 _ (by decide +kernel) fun t hf y => ?_
  have e0 : win1_4.index t 0 = min t.val 15 / 4 := congrFun (index1_4 t) 0
  have e1 : win1_4.index t 1 = min t.val 15 % 4 := congrFun (index1_4 t) 1
  blk_simp
  rw [after1_4]
  refine (congrArg _ (ValueIdx.eq_ix2 y)).trans (block V c W hW (held t) (y 0) (y 1) _ ?_ _ ?_)
  · show win1_4.index t 0 * 1024 + (y 0).val = 1024 * (min t.val 15 / 4) + (y 0).val
    rw [e0, Nat.mul_comm]
  · refine (Window.rect_emb_val win1_4 t y 1 rfl).trans ?_
    show win1_4.index t 1 * 512 + (y 1).val = 512 * (min t.val 15 % 4) + (y 1).val
    rw [e1, Nat.mul_comm]

/-- The samples' rows after it. -/
theorem sample_rows (W : FVec Ideal S2x5632x2048 .f32) (hW : V c main_v0 = columns W) :
    (dat1 V c).arrAt 5 cfg1.N = fun i : S4096x2048.Idx =>
      layer (V c main_arg0) (V c main_arg1) (V c main_arg2) W ⟨4096 + (i 0).val, Nat.add_lt_add_left (i 0).isLt 4096⟩ (i 1) := by
  refine (dat1 V c).arrAt_eq_of_covers 5 _ (by decide +kernel) fun t hf y => ?_
  have hs : 16 ≤ t.val := of_decide_eq_true ((flush_sample t).symm.trans hf)
  have e0 : win1_5.index t 0 = t.val / 4 - 4 := congrFun (index1_5 t hs) 0
  have e1 : win1_5.index t 1 = t.val % 4 := congrFun (index1_5 t hs) 1
  blk_simp
  rw [after1_5]
  refine (congrArg _ (ValueIdx.eq_ix2 y)).trans (block V c W hW t (y 0) (y 1) _ ?_ _ ?_)
  · show 4096 + (win1_5.index t 0 * 1024 + (y 0).val) = 1024 * (t.val / 4) + (y 0).val
    omega
  · refine (Window.rect_emb_val win1_5 t y 1 rfl).trans ?_
    show win1_5.index t 1 * 512 + (y 1).val = 512 * (t.val % 4) + (y 1).val
    omega

end

/-! ## The whole run -/

section
variable (m : (ℓ : Loc nD τ sig) → Buf (Elt Ideal) ℓ) (ρ : Dev nD → PrngReg) (c : Dev nD)

/-- The stream in the arguments. -/
abbrev layerOf : Fin 8192 → Fin 2048 → EReal :=
  layer (m ((c : Thread nD τ).loc main_arg0)) (m ((c : Thread nD τ).loc main_arg1)) (m ((c : Thread nD τ).loc main_arg2)) (m ((c : Thread nD τ).loc main_arg3))

theorem weights_kept : V1 m ρ c main_v0 = columns (m ((c : Thread nD τ).loc main_arg3)) :=
  (W1_arr m ρ c 1).trans (weights (V0 m ρ) c)

theorem array_prompt : W2 m ρ c (Proc.devRef .tc main_v1_0) = fun i : S4096x2048.Idx =>
    layerOf m c ⟨(i 0).val, lt_trans (i 0).isLt (by decide)⟩ (i 1) := by
  have a : ∀ r ∈ argRefs, V1 m ρ c r = m ((c : Thread nD τ).loc r) := W1_args m ρ c
  refine (W2_arr m ρ c 4).trans ((prompt_rows (V1 m ρ) c _ (weights_kept m ρ c)).trans ?_)
  rw [a main_arg0 (by decide), a main_arg1 (by decide), a main_arg2 (by decide)]

theorem array_sample : W2 m ρ c (Proc.devRef .tc main_v1_1) = fun i : S4096x2048.Idx =>
    layerOf m c ⟨4096 + (i 0).val, Nat.add_lt_add_left (i 0).isLt 4096⟩ (i 1) := by
  have a : ∀ r ∈ argRefs, V1 m ρ c r = m ((c : Thread nD τ).loc r) := W1_args m ρ c
  refine (W2_arr m ρ c 5).trans ((sample_rows (V1 m ρ) c _ (weights_kept m ρ c)).trans ?_)
  rw [a main_arg0 (by decide), a main_arg1 (by decide), a main_arg2 (by decide)]

end

/-- The kernel and its reference end with the same arrays. -/
theorem algebraic : Cert.algebraic_KernelLastIdeal_ReferenceLastIdeal := fun m g m' g' _ h =>
  ⟨fun c => W2 m g c (Proc.devRef .tc main_v1_0), fun c => W2 m g c (Proc.devRef .tc main_v1_1),
    (θ_run defs _ _).mono (fun _ hr => hr.1) (run (F := Ideal) m g),
    (θ_run Cert.ReferenceLastIdeal.defs _ _).mono
      (fun _ hr c => by
        obtain ⟨h0, h1, h2, h3⟩ := h c
        refine ⟨(hr c).1.trans ?_, (hr c).2.1.trans ?_, (hr c).2.2⟩
        · rw [h0, h1, h2, h3]
          refine Eq.trans ?_ (array_prompt m g c).symm
          exact funext fun i => (congrArg _ (ValueIdx.eq_ix2 i)).trans (prompt_at _ _ _ _ _ _)
        · rw [h0, h1, h2, h3]
          refine Eq.trans ?_ (array_sample m g c).symm
          exact funext fun i => (congrArg _ (ValueIdx.eq_ix2 i)).trans (sample_at _ _ _ _ _ _))
      (Cert.ReferenceLastIdeal.Value.run (F := Ideal) m' g')⟩

end Cert.Dense.Last
-- ==== Proof.Dense.LastFrames.lean ====
module

public import proofs.«01_k».proof.Proof.Dense.LastRun
public import proofs.«01_k».proof.Proof.Gen.KernelLast
public import proofs.«01_k».proof.Defs

/-!
The frames of the last layer's down-projection, as printed and idealized. The two programs are the same definitions at
different floats, so that one run serves both.
-/

@[expose] public section

set_option maxRecDepth 65536

namespace Cert.Dense.Last

open Idealize.ShloMosaic Idealize.SL.Sem

theorem frame_ideal : Cert.quiescent_KernelLastIdeal := fun m ρ _ =>
  (θ_run Cert.KernelLastIdeal.defs _ _).mono (fun _ h => ⟨fun c => (h.1 c).2.2, h.2⟩) (run (F := Ideal) m ρ)

/-- The bodies of the two programs. -/
theorem bodies_eq : Cert.KernelLast.defs₀ (F := Bits) = Cert.KernelLastIdeal.defs₀ (F := Bits) := by chain_rfl

/-- The programs' definitions. -/
theorem defs_eq : Cert.KernelLast.defs (F := Bits) = Cert.KernelLastIdeal.defs (F := Bits) :=
  congrArg (Pipeline.defs Cert.KernelLastIdeal.pcfgs) bodies_eq

theorem frame_bits : Cert.quiescent_KernelLast := fun m ρ _ => by
  rw [defs_eq]
  exact (θ_run Cert.KernelLastIdeal.defs _ _).mono (fun _ h => ⟨fun c => (h.1 c).2.2, h.2⟩) (run (F := Bits) m ρ)

end Cert.Dense.Last
-- ==== Proof.lean ====
/- The certificate's claims, proved (Defs.lean states them). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelUp
public import proofs.«01_k».proof.Proof.Gen.KernelUp.Skeleton
public import proofs.«01_k».proof.Proof.Gen.KernelUp.Launch
public import proofs.«01_k».proof.Proof.Gen.KernelUp.Points
public import proofs.«01_k».proof.Proof.Gen.KernelUp.Frame
public import proofs.«01_k».proof.Proof.Gen.KernelUpIdeal
public import proofs.«01_k».proof.Proof.Gen.KernelUpIdeal.Skeleton
public import proofs.«01_k».proof.Proof.Gen.KernelUpIdeal.Launch
public import proofs.«01_k».proof.Proof.Gen.KernelUpIdeal.Points
public import proofs.«01_k».proof.Proof.Gen.KernelUpIdeal.Frame
public import proofs.«01_k».proof.Proof.Gen.KernelUpIdeal.Value
public import proofs.«01_k».proof.Proof.Gen.ReferenceUpIdeal
public import proofs.«01_k».proof.Proof.Gen.ReferenceUpIdeal.Run
public import proofs.«01_k».proof.Proof.Gen.KernelDown
public import proofs.«01_k».proof.Proof.Gen.KernelDown.Skeleton
public import proofs.«01_k».proof.Proof.Gen.KernelDown.Launch
public import proofs.«01_k».proof.Proof.Gen.KernelDown.Points
public import proofs.«01_k».proof.Proof.Gen.KernelDown.Frame
public import proofs.«01_k».proof.Proof.Gen.KernelDownIdeal
public import proofs.«01_k».proof.Proof.Gen.KernelDownIdeal.Skeleton
public import proofs.«01_k».proof.Proof.Gen.KernelDownIdeal.Launch
public import proofs.«01_k».proof.Proof.Gen.KernelDownIdeal.Points
public import proofs.«01_k».proof.Proof.Gen.KernelDownIdeal.Frame
public import proofs.«01_k».proof.Proof.Gen.KernelDownIdeal.Value
public import proofs.«01_k».proof.Proof.Gen.ReferenceDownIdeal
public import proofs.«01_k».proof.Proof.Gen.ReferenceDownIdeal.Run
public import proofs.«01_k».proof.Proof.Gen.KernelKv
public import proofs.«01_k».proof.Proof.Gen.KernelKv.Skeleton
public import proofs.«01_k».proof.Proof.Gen.KernelKv.Launch
public import proofs.«01_k».proof.Proof.Gen.KernelKv.Points
public import proofs.«01_k».proof.Proof.Gen.KernelKv.Frame
public import proofs.«01_k».proof.Proof.Gen.KernelKvIdeal
public import proofs.«01_k».proof.Proof.Gen.KernelKvIdeal.Skeleton
public import proofs.«01_k».proof.Proof.Gen.KernelKvIdeal.Launch
public import proofs.«01_k».proof.Proof.Gen.KernelKvIdeal.Points
public import proofs.«01_k».proof.Proof.Gen.KernelKvIdeal.Frame
public import proofs.«01_k».proof.Proof.Gen.ReferenceKvIdeal
public import proofs.«01_k».proof.Proof.Gen.ReferenceKvIdeal.Run
public import proofs.«01_k».proof.Proof.Gen.KernelMix
public import proofs.«01_k».proof.Proof.Gen.KernelMix.Skeleton
public import proofs.«01_k».proof.Proof.Gen.KernelMix.Launch
public import proofs.«01_k».proof.Proof.Gen.KernelMix.Points
public import proofs.«01_k».proof.Proof.Gen.KernelMix.Frame
public import proofs.«01_k».proof.Proof.Gen.KernelMixIdeal
public import proofs.«01_k».proof.Proof.Gen.KernelMixIdeal.Skeleton
public import proofs.«01_k».proof.Proof.Gen.KernelMixIdeal.Launch
public import proofs.«01_k».proof.Proof.Gen.KernelMixIdeal.Points
public import proofs.«01_k».proof.Proof.Gen.KernelMixIdeal.Frame
public import proofs.«01_k».proof.Proof.Gen.ReferenceMixIdeal
public import proofs.«01_k».proof.Proof.Gen.ReferenceMixIdeal.Run
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.KernelLast
public import proofs.«01_k».proof.Proof.Gen.KernelLastIdeal
public import proofs.«01_k».proof.Proof.Gen.KernelLastIdeal.Skeleton
public import proofs.«01_k».proof.Proof.Gen.KernelLastIdeal.Launch
public import proofs.«01_k».proof.Proof.Gen.KernelLastIdeal.Points
public import proofs.«01_k».proof.Proof.Gen.ReferenceLastIdeal
public import proofs.«01_k».proof.Proof.Gen.ReferenceLastIdeal.Run
public import proofs.«01_k».proof.Proof.Gen.Pre_finite_scores
public import proofs.«01_k».proof.Proof.Attention.Equal
public import proofs.«01_k».proof.Proof.Dense.Kv
public import proofs.«01_k».proof.Proof.Dense.Down
public import proofs.«01_k».proof.Proof.Dense.Out
public import proofs.«01_k».proof.Proof.Dense.In
public import proofs.«01_k».proof.Proof.Dense.Mix
public import proofs.«01_k».proof.Proof.Dense.Up
public import proofs.«01_k».proof.Proof.Dense.Last
public import proofs.«01_k».proof.Proof.Dense.LastFrames
public import Idealize.ShloMosaic.Adequacy
public import Idealize.ShloMosaic.Init
public import Idealize.ShloMosaic.Lib.Quiescent

@[expose] public section

noncomputable section

namespace Cert.Proof

open Idealize.ShloMosaic Idealize.SL.Sem

/-- The reference's run, its arguments read at the end; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- … of the up-projection. -/
theorem frame_reference_up : Cert.quiescent_ReferenceUpIdeal := fun m ρ _ =>
  (θ_run Cert.ReferenceUpIdeal.defs _ _).mono (fun r h => ⟨fun c => (h c).2, sem_eq_zero_of_no_sems (by decide) r.2⟩)
    (Cert.ReferenceUpIdeal.Value.run (F := Ideal) m ρ)

/-- … of the down-projection. -/
theorem frame_reference_down : Cert.quiescent_ReferenceDownIdeal := fun m ρ _ =>
  (θ_run Cert.ReferenceDownIdeal.defs _ _).mono (fun r h => ⟨fun c => (h c).2.2, sem_eq_zero_of_no_sems (by decide) r.2⟩)
    (Cert.ReferenceDownIdeal.Value.run (F := Ideal) m ρ)

/-- … of the mixing. -/
theorem frame_reference_mix : Cert.quiescent_ReferenceMixIdeal := fun m ρ _ =>
  (θ_run Cert.ReferenceMixIdeal.defs _ _).mono (fun r h => ⟨fun c => (h c).2, sem_eq_zero_of_no_sems (by decide) r.2⟩)
    (Cert.ReferenceMixIdeal.Value.run (F := Ideal) m ρ)

/-- … of the input projection. -/
theorem frame_reference_in : Cert.quiescent_ReferenceInIdeal := fun m ρ _ =>
  (θ_run Cert.ReferenceInIdeal.defs _ _).mono (fun r h => ⟨fun c => (h c).2, sem_eq_zero_of_no_sems (by decide) r.2⟩)
    (Cert.ReferenceInIdeal.Value.run (F := Ideal) m ρ)

/-- … of the output projection. -/
theorem frame_reference_out : Cert.quiescent_ReferenceOutIdeal := fun m ρ _ =>
  (θ_run Cert.ReferenceOutIdeal.defs _ _).mono (fun r h => ⟨fun c => (h c).2.2, sem_eq_zero_of_no_sems (by decide) r.2⟩)
    (Cert.ReferenceOutIdeal.Value.run (F := Ideal) m ρ)

/-- … of the new keys and values. -/
theorem frame_reference_kv : Cert.quiescent_ReferenceKvIdeal := fun m ρ _ =>
  (θ_run Cert.ReferenceKvIdeal.defs _ _).mono (fun r h => ⟨fun c => (h c).2.2, sem_eq_zero_of_no_sems (by decide) r.2⟩)
    (Cert.ReferenceKvIdeal.Value.run (F := Ideal) m ρ)

/-- … of the last layer's down-projection. -/
theorem frame_reference_last : Cert.quiescent_ReferenceLastIdeal := fun m ρ _ =>
  (θ_run Cert.ReferenceLastIdeal.defs _ _).mono (fun r h => ⟨fun c => (h c).2.2, sem_eq_zero_of_no_sems (by decide) r.2⟩)
    (Cert.ReferenceLastIdeal.Value.run (F := Ideal) m ρ)

/-- The two named constants are the reals their literals round to. -/
theorem preserves : Cert.preserves_Kernel_KernelIdeal :=
  ⟨IdealRules.named_const.statement Cert.KernelIdeal.κ "log2e" .f32 0x3FB8AA3B#32 _ rfl,
    IdealRules.named_const.statement Cert.KernelIdeal.κ "q_scale" .f32 0x3E38AA3B#32 _ rfl⟩

/-- The attention and its reference end with the same array: both runs' results are the heads' attention. -/
theorem attention : Cert.algebraic_KernelIdeal_ReferenceIdeal_pre_finite_scores := fun m g m' g' hp h =>
  ⟨fun c => Cert.KernelIdeal.Gen.W6 m g c (Proc.devRef .tc Cert.KernelIdeal.main_v17), Cert.Attention.kernel_run m g,
    (θ_run Cert.ReferenceIdeal.defs _ _).mono
      (fun _ hr c => ⟨(hr c).1.trans (Cert.Attention.refResult_eq m g m' hp h c), (hr c).2⟩)
      (Cert.ReferenceIdeal.Value.run (F := Ideal) m' g')⟩

theorem claim : Cert.Claim :=
  ⟨Cert.Kernel.Gen.facts, Cert.KernelIdeal.Gen.facts, Cert.ReferenceIdeal.Gen.facts,
    Cert.KernelUp.Gen.facts, Cert.KernelUpIdeal.Gen.facts, Cert.ReferenceUpIdeal.Gen.facts,
    Cert.KernelDown.Gen.facts, Cert.KernelDownIdeal.Gen.facts, Cert.ReferenceDownIdeal.Gen.facts,
    Cert.KernelMix.Gen.facts, Cert.KernelMixIdeal.Gen.facts, Cert.ReferenceMixIdeal.Gen.facts,
    Cert.KernelIn.Gen.facts, Cert.KernelInIdeal.Gen.facts, Cert.ReferenceInIdeal.Gen.facts,
    Cert.KernelOut.Gen.facts, Cert.KernelOutIdeal.Gen.facts, Cert.ReferenceOutIdeal.Gen.facts,
    Cert.KernelKv.Gen.facts, Cert.KernelKvIdeal.Gen.facts, Cert.ReferenceKvIdeal.Gen.facts,
    Cert.KernelLast.Gen.facts, Cert.KernelLastIdeal.Gen.facts, Cert.ReferenceLastIdeal.Gen.facts,
    Cert.Pre_finite_scores.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.KernelUp.Gen.frame m ρ, fun m ρ _ => Cert.KernelUpIdeal.Gen.frame m ρ, frame_reference_up,
    fun m ρ _ => Cert.KernelDown.Gen.frame m ρ, fun m ρ _ => Cert.KernelDownIdeal.Gen.frame m ρ, frame_reference_down,
    fun m ρ _ => Cert.KernelMix.Gen.frame m ρ, fun m ρ _ => Cert.KernelMixIdeal.Gen.frame m ρ, frame_reference_mix,
    fun m ρ _ => Cert.KernelIn.Gen.frame m ρ, fun m ρ _ => Cert.KernelInIdeal.Gen.frame m ρ, frame_reference_in,
    fun m ρ _ => Cert.KernelOut.Gen.frame m ρ, fun m ρ _ => Cert.KernelOutIdeal.Gen.frame m ρ, frame_reference_out,
    fun m ρ _ => Cert.KernelKv.Gen.frame m ρ, fun m ρ _ => Cert.KernelKvIdeal.Gen.frame m ρ, frame_reference_kv,
    Cert.Dense.Last.frame_bits, Cert.Dense.Last.frame_ideal, frame_reference_last,
    preserves, attention,
    trivial, Cert.Dense.Up.algebraic,
    trivial, Cert.Dense.Down.algebraic,
    trivial, Cert.Dense.Mix.algebraic,
    trivial, Cert.Dense.In.algebraic,
    trivial, Cert.Dense.Out.algebraic,
    trivial, Cert.Dense.Kv.algebraic,
    trivial, Cert.Dense.Last.algebraic⟩

end Cert.Proof

end
